-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 [hPre_tiles_named : Cert.Pre_tiles_named.Facts] (m : (ℓ : Loc Cert.Kernel2.nD Cert.Kernel2.τ Cert.Kernel2.sig) → Buf (Elt Bits) ℓ) : Prop :=
  ∀ c : Dev Cert.Kernel2.nD,
    (Cert.Pre_tiles_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_tiles_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_tiles_named : Cert.Pre_tiles_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_tiles_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_named [hPre_tiles_named : Cert.Pre_tiles_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_tiles_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_tiles_named : Cert.Pre_tiles_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tiles_named : Cert.Pre_tiles_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tiles_named [hReference2Ideal : Cert.Reference2Ideal.Facts] [hPre_tiles_named : Cert.Pre_tiles_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_on_rows_used [hKernel2Ideal : Cert.Kernel2Ideal.Facts] [hReference2Ideal : Cert.Reference2Ideal.Facts] [hPre_tiles_named : Cert.Pre_tiles_named.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![417792, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![417792, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v18) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_on_rows_given [hKernel7Ideal : Cert.Kernel7Ideal.Facts] [hReference7Ideal : Cert.Reference7Ideal.Facts] [hOn_rows_given : Cert.On_rows_given.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨3, ![4, 24, 6144]⟩ : Shape).Idx, (Cert.On_rows_given.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) i = 1#1 → r.2.mem ((c.tc : Thread Cert.Kernel7Ideal.nD Cert.Kernel7Ideal.τ).loc Cert.Kernel7Ideal.main_v6) i = v0 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨3, ![4, 24, 6144]⟩ : Shape).Idx, (Cert.On_rows_given.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) i = 1#1 → r.2.mem ((c.tc : Thread Cert.Reference7Ideal.nD Cert.Reference7Ideal.τ).loc Cert.Reference7Ideal.main_v71) i = v0 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v22_0)) (v1 : (c : Dev Cert.Kernel8Ideal.nD) → Buf (Elt Ideal) ((c.tc : Thread Cert.Kernel8Ideal.nD Cert.Kernel8Ideal.τ).loc Cert.Kernel8Ideal.main_v22_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v22_0) = v0 c
          ∧ r.2.mem ((c.tc : Thread Cert.Kernel8Ideal.nD Cert.Kernel8Ideal.τ).loc Cert.Kernel8Ideal.main_v22_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_v57) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_queries_and_keys : Cert.Pre_finite_queries_and_keys.Facts) (hPre_tiles_named : Cert.Pre_tiles_named.Facts) (hOn_rows_used : Cert.On_rows_used.Facts) (hOn_rows_given : Cert.On_rows_given.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2) (hPre_tiles_named := hPre_tiles_named)
    ∧ quiescent_Kernel2Ideal (hKernel2Ideal := hKernel2Ideal) (hPre_tiles_named := hPre_tiles_named)
    ∧ quiescent_Reference2Ideal (hReference2Ideal := hReference2Ideal)
    ∧ quiescent_Reference2Ideal_pre_tiles_named (hReference2Ideal := hReference2Ideal) (hPre_tiles_named := hPre_tiles_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal_on_rows_used (hKernel2Ideal := hKernel2Ideal) (hReference2Ideal := hReference2Ideal) (hPre_tiles_named := hPre_tiles_named) (hOn_rows_used := hOn_rows_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_on_rows_given (hKernel7Ideal := hKernel7Ideal) (hReference7Ideal := hReference7Ideal) (hOn_rows_given := hOn_rows_given)
    ∧ preserves_Kernel8_Kernel8Ideal
    ∧ algebraic_Kernel8Ideal_Reference8Ideal (hKernel8Ideal := hKernel8Ideal) (hReference8Ideal := hReference8Ideal)
-- ==== On_rows_given.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S4x24x6144 : Shape := ⟨3, ![4, 24, 6144]⟩
abbrev S_ : Shape := ⟨0, ![]⟩

class Facts : Prop where
  bcast_S_S4x24x6144 : S_.BroadcastsInDim S4x24x6144 (![] : Fin 0 → Fin S4x24x6144.rank)

variable [Facts]

def fn {F : FTy → Type} [FloatOps F] (main_arg0 : FVec F S16x1024 .f32) (main_arg1 : FVec F S1024 .f32) (main_arg2 : FVec F S4x1024x6144 .f32) (main_arg3 : FVec F S4x6144 .f32) : IVec S4x24x6144 1 :=
  let main_v0 : IVec S4x24x6144 32 := iotaInDim S4x24x6144 32 1
  let main_c : IVec S_ 32 := constantI S_ 32 17#32
  let main_v1 : IVec S4x24x6144 32 := broadcastInDim S4x24x6144 ![] bcast_S_S4x24x6144 main_c
  let main_v2 : IVec S4x24x6144 1 := cmpi .slt main_v0 main_v1
  main_v2
-- ==== On_rows_used.lean ====
abbrev S816 : Shape := ⟨1, ![816]⟩
abbrev S1 : Shape := ⟨1, ![1]⟩
abbrev S417792x1024 : Shape := ⟨2, ![417792, 1024]⟩
abbrev S4x64x1024x256 : Shape := ⟨4, ![4, 64, 1024, 256]⟩
abbrev S4x64x256x1024 : Shape := ⟨4, ![4, 64, 256, 1024]⟩
abbrev S_ : Shape := ⟨0, ![]⟩

class Facts : Prop where
  bcast_S_S417792x1024 : S_.BroadcastsInDim S417792x1024 (![] : Fin 0 → Fin S417792x1024.rank)
  shapeCasts_S1_S_ : S1.ShapeCasts S_

variable [Facts]

def fn {F : FTy → Type} [FloatOps F] (main_arg0 : IVec S816 32) (main_arg1 : IVec S1 32) (main_arg2 : FVec F S417792x1024 .bf16) (main_arg3 : FVec F S4x64x1024x256 .f32) (main_arg4 : FVec F S4x64x1024x256 .f32) (main_arg5 : FVec F S4x64x256x1024 .f32) : IVec S417792x1024 1 :=
  let main_v0 : IVec S417792x1024 32 := iotaInDim S417792x1024 32 0
  let main_c : IVec S_ 32 := constantI S_ 32 512#32
  let main_v1 : IVec S417792x1024 32 := broadcastInDim S417792x1024 ![] bcast_S_S417792x1024 main_c
  let main_v2 : IVec S417792x1024 32 := Host.divsi main_v0 main_v1
  let main_v3 : IVec S_ 32 := shapeCast S_ main_arg1 shapeCasts_S1_S_
  let main_v4 : IVec S417792x1024 32 := broadcastInDim S417792x1024 ![] bcast_S_S417792x1024 main_v3
  let main_v5 : IVec S417792x1024 1 := cmpi .slt main_v2 main_v4
  main_v5
-- ==== Pre_finite_queries_and_keys.lean ====
abbrev S16x2048x3072 : Shape := ⟨3, ![16, 2048, 3072]⟩
abbrev S16x256x3072 : Shape := ⟨3, ![16, 256, 3072]⟩
abbrev S64 : Shape := ⟨1, ![64]⟩
abbrev S128 : Shape := ⟨1, ![128]⟩
abbrev S16x2048x1024 : Shape := ⟨3, ![16, 2048, 1024]⟩
abbrev S_ : Shape := ⟨0, ![]⟩
abbrev S16x256x512 : Shape := ⟨3, ![16, 256, 512]⟩

class Facts : Prop where
  slices_S16x2048x3072_S16x2048x1024_0_0_1536 : S16x2048x3072.Slices ![0, 0, 1536] S16x2048x1024
  bcast_S_S16x2048x1024 : S_.BroadcastsInDim S16x2048x1024 (![] : Fin 0 → Fin S16x2048x1024.rank)
  slices_S16x256x3072_S16x256x512_0_0_2048 : S16x256x3072.Slices ![0, 0, 2048] S16x256x512
  bcast_S_S16x256x512 : S_.BroadcastsInDim S16x256x512 (![] : Fin 0 → Fin S16x256x512.rank)

variable [Facts]

def fn {F : FTy → Type} [FloatOps F] (main_arg0 : FVec F S16x2048x3072 .bf16) (main_arg1 : FVec F S16x256x3072 .bf16) (main_arg2 : FVec F S64 .f32) (main_arg3 : FVec F S64 .f32) (main_arg4 : FVec F S64 .f32) (main_arg5 : FVec F S64 .f32) (main_arg6 : FVec F S128 .f32) : IVec S16x2048x1024 1 × IVec S16x256x512 1 :=
  let main_v0 : FVec F S16x2048x1024 .bf16 := (extractStridedSlice S16x2048x1024 ![0, 0, 1536] · slices_S16x2048x3072_S16x2048x1024_0_0_1536) main_arg0
  let main_v1 : FVec F S16x2048x1024 .bf16 := Host.absf main_v0
  let main_cst : FVec F S_ .bf16 := constant S_ .bf16 0x7F80#16
  let main_v2 : FVec F S16x2048x1024 .bf16 := broadcastInDim S16x2048x1024 ![] bcast_S_S16x2048x1024 main_cst
  let main_v3 : IVec S16x2048x1024 1 := cmpf .olt main_v1 main_v2
  let main_v4 : FVec F S16x256x512 .bf16 := (extractStridedSlice S16x256x512 ![0, 0, 2048] · slices_S16x256x3072_S16x256x512_0_0_2048) main_arg1
  let main_v5 : FVec F S16x256x512 .bf16 := Host.absf main_v4
  let main_cst_0 : FVec F S_ .bf16 := constant S_ .bf16 0x7F80#16
  let main_v6 : FVec F S16x256x512 .bf16 := broadcastInDim S16x256x512 ![] bcast_S_S16x256x512 main_cst_0
  let main_v7 : IVec S16x256x512 1 := cmpf .olt main_v5 main_v6
  (main_v3, main_v7)
-- ==== Pre_tiles_named.lean ====
abbrev S816 : Shape := ⟨1, ![816]⟩
abbrev S1 : Shape := ⟨1, ![1]⟩
abbrev S417792x1024 : Shape := ⟨2, ![417792, 1024]⟩
abbrev S4x64x1024x256 : Shape := ⟨4, ![4, 64, 1024, 256]⟩
abbrev S4x64x256x1024 : Shape := ⟨4, ![4, 64, 256, 1024]⟩
abbrev S_ : Shape := ⟨0, ![]⟩

class Facts : Prop where
  bcast_S_S816 : S_.BroadcastsInDim S816 (![] : Fin 0 → Fin S816.rank)
  bcast_S_S1 : S_.BroadcastsInDim S1 (![] : Fin 0 → Fin S1.rank)

variable [Facts]

def fn {F : FTy → Type} [FloatOps F] (main_arg0 : IVec S816 32) (main_arg1 : IVec S1 32) (main_arg2 : FVec F S417792x1024 .bf16) (main_arg3 : FVec F S4x64x1024x256 .f32) (main_arg4 : FVec F S4x64x1024x256 .f32) (main_arg5 : FVec F S4x64x256x1024 .f32) : IVec S816 1 × IVec S1 1 :=
  let main_c : IVec S_ 32 := constantI S_ 32 0#32
  let main_v0 : IVec S816 32 := broadcastInDim S816 ![] bcast_S_S816 main_c
  let main_v1 : IVec S816 1 := cmpi .sge main_arg0 main_v0
  let main_c_0 : IVec S_ 32 := constantI S_ 32 64#32
  let main_v2 : IVec S816 32 := broadcastInDim S816 ![] bcast_S_S816 main_c_0
  let main_v3 : IVec S816 1 := cmpi .slt main_arg0 main_v2
  let main_v4 : IVec S816 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S16x2048x3072 : Shape := ⟨3, ![16, 2048, 3072]⟩
abbrev S16x256x3072 : Shape := ⟨3, ![16, 256, 3072]⟩
abbrev S64 : Shape := ⟨1, ![64]⟩
abbrev S128 : Shape := ⟨1, ![128]⟩
abbrev S1x64 : Shape := ⟨2, ![1, 64]⟩
abbrev S4x64 : Shape := ⟨2, ![4, 64]⟩
abbrev S_ : Shape := ⟨0, ![]⟩
abbrev S4x128 : Shape := ⟨2, ![4, 128]⟩
abbrev S2048 : Shape := ⟨1, ![2048]⟩
abbrev S2048x1 : Shape := ⟨2, ![2048, 1]⟩
abbrev S2048x2 : Shape := ⟨2, ![2048, 2]⟩
abbrev S16 : Shape := ⟨1, ![16]⟩
abbrev S2048x2x1 : Shape := ⟨3, ![2048, 2, 1]⟩
abbrev S1x1x16 : Shape := ⟨3, ![1, 1, 16]⟩
abbrev S2048x2x16 : Shape := ⟨3, ![2048, 2, 16]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x128 : Shape := ⟨2, ![1, 128]⟩
abbrev S16x2048x512 : Shape := ⟨3, ![16, 2048, 512]⟩
abbrev S1x2048x128 : Shape := ⟨3, ![1, 2048, 128]⟩
abbrev S1x256x128 : Shape := ⟨3, ![1, 256, 128]⟩
abbrev S1 : Shape := ⟨1, ![1]⟩
abbrev S1x1 : Shape := ⟨2, ![1, 1]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩

abbrev nBuf : Space → Nat
  | .hbm => 102
  | .vmem => 18
  | .smem => 0
  | _ => 0

abbrev bufTy : (tb : Table) → Fin (tcTables nBuf tb) → BufTy
  | .hbm, ⟨0, _⟩ => ⟨S16x2048x3072, .bf16⟩
  | .hbm, ⟨1, _⟩ => ⟨S16x256x3072, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S4x64, .f32⟩
  | .hbm, ⟨12, _⟩ => ⟨S_, .i32⟩
  | .hbm, ⟨13, _⟩ => ⟨S_, .f32⟩
  | .hbm, ⟨14, _⟩ => ⟨S4x128, .f32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S_, .i1⟩
  | .hbm, ⟨51, _⟩ => ⟨S2048, .i1⟩
  | .hbm, ⟨52, _⟩ => ⟨S2048, .i1⟩
  | .hbm, ⟨53, _⟩ => ⟨S2048, .i1⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048, .f32⟩
  | .hbm, ⟨58, _⟩ => ⟨S2048x1, .f32⟩
  | .hbm, ⟨59, _⟩ => ⟨S2048x1, .f32⟩
  | .hbm, ⟨60, _⟩ => ⟨S2048x2, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S2048x2x1, .f32⟩
  | .hbm, ⟨70, _⟩ => ⟨S1x1x16, .f32⟩
  | .hbm, ⟨71, _⟩ => ⟨S2048x2x16, .f32⟩
  | .hbm, ⟨72, _⟩ => ⟨S2048x2x16, .f32⟩
  | .hbm, ⟨73, _⟩ => ⟨S2048x2x16, .f32⟩
  | .hbm, ⟨74, _⟩ => ⟨S2048x2x16, .f32⟩
  | .hbm, ⟨75, _⟩ => ⟨S2048x2x16, .f32⟩
  | .hbm, ⟨76, _⟩ => ⟨S_, .f32⟩
  | .hbm, ⟨77, _⟩ => ⟨S2048x2x16, .f32⟩
  | .hbm, ⟨78, _⟩ => ⟨S2048x2x1x16, .f32⟩
  | .hbm, ⟨79, _⟩ => ⟨S2048x2x1x16, .f32⟩
  | .hbm, ⟨80, _⟩ => ⟨S2048x2x2x16, .f32⟩
  | .hbm, ⟨81, _⟩ => ⟨S2048x64, .f32⟩
  | .hbm, ⟨82, _⟩ => ⟨S1x2048x1x64, .f32⟩
  | .hbm, ⟨83, _⟩ => ⟨S1x2048x2x64, .f32⟩
  | .hbm, ⟨84, _⟩ => ⟨S2048x128, .f32⟩
  | .hbm, ⟨85, _⟩ => ⟨S2048x2x16, .f32⟩
  | .hbm, ⟨86, _⟩ => ⟨S2048x2x1x16, .f32⟩
  | .hbm, ⟨87, _⟩ => ⟨S2048x2x1x16, .f32⟩
  | .hbm, ⟨88, _⟩ => ⟨S2048x2x2x16, .f32⟩
  | .hbm, ⟨89, _⟩ => ⟨S2048x64, .f32⟩
  | .hbm, ⟨90, _⟩ => ⟨S1x2048x1x64, .f32⟩
  | .hbm, ⟨91, _⟩ => ⟨S1x2048x2x64, .f32⟩
  | .hbm, ⟨92, _⟩ => ⟨S2048x128, .f32⟩
  | .hbm, ⟨93, _⟩ => ⟨S2048x2x1x16, .f32⟩
  | .hbm, ⟨94, _⟩ => ⟨S2048x2x1x16, .f32⟩
  | .hbm, ⟨95, _⟩ => ⟨S2048x2x2x16, .f32⟩
  | .hbm, ⟨96, _⟩ => ⟨S2048x64, .f32⟩
  | .hbm, ⟨97, _⟩ => ⟨S1x2048x1x64, .f32⟩
  | .hbm, ⟨98, _⟩ => ⟨S1x2048x2x64, .f32⟩
  | .hbm, ⟨99, _⟩ => ⟨S2048x128, .f32⟩
  | .hbm, ⟨100, _⟩ => ⟨S1x128, .f32⟩
  | .hbm, ⟨101, _⟩ => ⟨S16x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S4x128, .f32⟩
  | .local _ .vmem, ⟨14, _⟩ => ⟨S1x128, .f32⟩
  | .local _ .vmem, ⟨15, _⟩ => ⟨S1x2048x128, .bf16⟩
  | .local _ .vmem, ⟨16, _⟩ => ⟨S1x2048x128, .bf16⟩
  | .local _ .vmem, ⟨17, _⟩ => ⟨S2048x128, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v7 : Ref sig .tc := ⟨.hbm, 33, rfl⟩
abbrev main_v8 : Ref sig .tc := ⟨.hbm, 34, rfl⟩
abbrev main_c_1 : Ref sig .tc := ⟨.hbm, 35, rfl⟩
abbrev main_call2_v0 : Ref sig .tc := ⟨.hbm, 36, rfl⟩
abbrev main_call2_c : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_c_1 : Ref sig .tc := ⟨.hbm, 43, rfl⟩
abbrev main_call2_v5 : Ref sig .tc := ⟨.hbm, 44, rfl⟩
abbrev main_call2_v6 : Ref sig .tc := ⟨.hbm, 45, rfl⟩
abbrev main_call2_c_2 : Ref sig .tc := ⟨.hbm, 46, rfl⟩
abbrev main_call2_v7 : Ref sig .tc := ⟨.hbm, 47, rfl⟩
abbrev main_call2_v8 : Ref sig .tc := ⟨.hbm, 48, rfl⟩
abbrev main_call2_c_3 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst : Ref sig .tc := ⟨.hbm, 63, rfl⟩
abbrev main_v16 : Ref sig .tc := ⟨.hbm, 64, rfl⟩
abbrev main_v17 : Ref sig .tc := ⟨.hbm, 65, rfl⟩
abbrev main_cst_2 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_3 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v41 : BitVec 32 := Scalar.addi c0_i32 c8_i32
  let c1_i32 : BitVec 32 := 1#32
  ⟨c0_i32, v41, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v42 : BitVec 32 := Scalar.muli arg14 c256_i32
  v42
def k0_off1 (k0_t1 : Fin k0_t1_loop.trips) : Fin 3 → Nat :=
  let c0_18 : Index := 0#32
  let c0_i32 : BitVec 32 := 0#32
  let c1_i32 : BitVec 32 := 1#32
  let arg14 : BitVec 32 := Scf.iv c0_i32 c1_i32 k0_t1
  let c256_i32 : BitVec 32 := 256#32
  let v42 : BitVec 32 := Scalar.muli arg14 c256_i32
  let v43 : BitVec 32 := v42
  let v44 : Index := Scalar.indexCast v43
  let c0_19 : Index := 0#32
  ![0, v44.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v42 : BitVec 32 := Scalar.muli arg14 c256_i32
  let v43 : BitVec 32 := v42
  let v48 : Index := Scalar.indexCast v43
  let c0_20 : Index := 0#32
  ![v48.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x2048x3072 : Shape := ⟨3, ![16, 2048, 3072]⟩
abbrev S16x256x3072 : Shape := ⟨3, ![16, 256, 3072]⟩
abbrev S64 : Shape := ⟨1, ![64]⟩
abbrev S128 : Shape := ⟨1, ![128]⟩
abbrev S16x256x1536 : Shape := ⟨3, ![16, 256, 1536]⟩
abbrev S16x256x512 : Shape := ⟨3, ![16, 256, 512]⟩
abbrev S16x256x8x64 : Shape := ⟨4, ![16, 256, 8, 64]⟩
abbrev S16x256x4x128 : Shape := ⟨4, ![16, 256, 4, 128]⟩
abbrev S16x2048x1536 : Shape := ⟨3, ![16, 2048, 1536]⟩
abbrev S16x2048x512 : Shape := ⟨3, ![16, 2048, 512]⟩
abbrev S16x2048x8x64 : Shape := ⟨4, ![16, 2048, 8, 64]⟩
abbrev S16x2048x4x128 : Shape := ⟨4, ![16, 2048, 4, 128]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S16x2048x8x2x2x16 : Shape := ⟨6, ![16, 2048, 8, 2, 2, 16]⟩
abbrev S16x2048x8x2x1x16 : Shape := ⟨6, ![16, 2048, 8, 2, 1, 16]⟩
abbrev S16x2048x8x2x16 : Shape := ⟨5, ![16, 2048, 8, 2, 16]⟩
abbrev S1x2048x1x2x16 : Shape := ⟨5, ![1, 2048, 1, 2, 16]⟩
abbrev S16x2304x8x64 : Shape := ⟨4, ![16, 2304, 8, 64]⟩
abbrev S16x2304x4x128 : Shape := ⟨4, ![16, 2304, 4, 128]⟩
abbrev S16x8x2048x2304 : Shape := ⟨4, ![16, 8, 2048, 2304]⟩
abbrev S16x8x2048 : Shape := ⟨3, ![16, 8, 2048]⟩
abbrev S16x8x2048x1 : Shape := ⟨4, ![16, 8, 2048, 1]⟩
abbrev S16x4x2x2048x2304 : Shape := ⟨5, ![16, 4, 2, 2048, 2304]⟩
abbrev S16x4x1x2048x2304 : Shape := ⟨5, ![16, 4, 1, 2048, 2304]⟩
abbrev S16x4x2048x2304 : Shape := ⟨4, ![16, 4, 2048, 2304]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩

abbrev nBuf : Space → Nat
  | .hbm => 157
  | .vmem => 0
  | .smem => 0
  | _ => 0

abbrev hbmTy0_0 (i : Nat) : BufTy := match i % 128 with
  | 0 => ⟨S16x2048x3072, .bf16⟩
  | 1 => ⟨S16x256x3072, .bf16⟩
  | 2 => ⟨S64, .f32⟩
  | 3 => ⟨S64, .f32⟩
  | 4 => ⟨S64, .f32⟩
  | 5 => ⟨S64, .f32⟩
  | 6 => ⟨S128, .f32⟩
  | 7 => ⟨S16x2048x3072, .f32⟩
  | 8 => ⟨S16x256x3072, .f32⟩
  | 9 => ⟨S16x256x1536, .f32⟩
  | 10 => ⟨S16x256x512, .f32⟩
  | 11 => ⟨S16x256x512, .f32⟩
  | 12 => ⟨S16x256x512, .f32⟩
  | 13 => ⟨S16x256x8x64, .f32⟩
  | 14 => ⟨S16x256x8x64, .f32⟩
  | 15 => ⟨S16x256x4x128, .f32⟩
  | 16 => ⟨S16x2048x1536, .f32⟩
  | 17 => ⟨S16x2048x512, .f32⟩
  | 18 => ⟨S16x2048x512, .f32⟩
  | 19 => ⟨S16x2048x512, .f32⟩
  | 20 => ⟨S16x2048x8x64, .f32⟩
  | 21 => ⟨S16x2048x8x64, .f32⟩
  | 22 => ⟨S16x2048x4x128, .f32⟩
  | 23 => ⟨S32, .f32⟩
  | 24 => ⟨S32x64, .f32⟩
  | 25 => ⟨S2048, .f32⟩
  | 26 => ⟨S64, .f32⟩
  | 27 => ⟨S1x64, .f32⟩
  | 28 => ⟨S32x64, .f32⟩
  | 29 => ⟨S2048, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S2048x1, .f32⟩
  | 39 => ⟨S1x16, .f32⟩
  | 40 => ⟨S2048x16, .f32⟩
  | 41 => ⟨S2048x16, .f32⟩
  | 42 => ⟨S2048x16, .f32⟩
  | 43 => ⟨S2048x1, .f32⟩
  | 44 => ⟨S1x16, .f32⟩
  | 45 => ⟨S2048x16, .f32⟩
  | 46 => ⟨S2048x16, .f32⟩
  | 47 => ⟨S2048x16, .f32⟩
  | 48 => ⟨S2048x1x16, .f32⟩
  | 49 => ⟨S2048x1x16, .f32⟩
  | 50 => ⟨S2048x2x16, .f32⟩
  | 51 => ⟨S2048x2x16, .f32⟩
  | 52 => ⟨S2048x2x16, .f32⟩
  | 53 => ⟨S16x2048x8x2x2x16, .f32⟩
  | 54 => ⟨S16x2048x8x2x1x16, .f32⟩
  | 55 => ⟨S16x2048x8x2x16, .f32⟩
  | 56 => ⟨S16x2048x8x2x1x16, .f32⟩
  | 57 => ⟨S16x2048x8x2x16, .f32⟩
  | 58 => ⟨S1x2048x1x2x16, .f32⟩
  | 59 => ⟨S1x2048x1x2x16, .f32⟩
  | 60 => ⟨S16x2048x8x2x16, .f32⟩
  | 61 => ⟨S16x2048x8x2x16, .f32⟩
  | 62 => ⟨S16x2048x8x2x16, .f32⟩
  | 63 => ⟨S16x2048x8x2x16, .f32⟩
  | 64 => ⟨S16x2048x8x2x16, .f32⟩
  | 65 => ⟨S16x2048x8x2x16, .f32⟩
  | 66 => ⟨S16x2048x8x2x16, .f32⟩
  | 67 => ⟨S16x2048x8x2x16, .f32⟩
  | 68 => ⟨S16x2048x8x2x16, .f32⟩
  | 69 => ⟨S16x2048x8x2x16, .f32⟩
  | 70 => ⟨S16x2048x8x2x1x16, .f32⟩
  | 71 => ⟨S16x2048x8x2x1x16, .f32⟩
  | 72 => ⟨S16x2048x8x2x2x16, .f32⟩
  | 73 => ⟨S16x2048x8x64, .f32⟩
  | 74 => ⟨S16x2048x8x2x2x16, .f32⟩
  | 75 => ⟨S16x2048x8x2x1x16, .f32⟩
  | 76 => ⟨S16x2048x8x2x16, .f32⟩
  | 77 => ⟨S16x2048x8x2x1x16, .f32⟩
  | 78 => ⟨S16x2048x8x2x16, .f32⟩
  | 79 => ⟨S1x2048x1x2x16, .f32⟩
  | 80 => ⟨S1x2048x1x2x16, .f32⟩
  | 81 => ⟨S16x2048x8x2x16, .f32⟩
  | 82 => ⟨S16x2048x8x2x16, .f32⟩
  | 83 => ⟨S16x2048x8x2x16, .f32⟩
  | 84 => ⟨S16x2048x8x2x16, .f32⟩
  | 85 => ⟨S16x2048x8x2x16, .f32⟩
  | 86 => ⟨S16x2048x8x2x16, .f32⟩
  | 87 => ⟨S16x2048x8x2x16, .f32⟩
  | 88 => ⟨S16x2048x8x2x16, .f32⟩
  | 89 => ⟨S16x2048x8x2x16, .f32⟩
  | 90 => ⟨S16x2048x8x2x16, .f32⟩
  | 91 => ⟨S16x2048x8x2x1x16, .f32⟩
  | 92 => ⟨S16x2048x8x2x1x16, .f32⟩
  | 93 => ⟨S16x2048x8x2x2x16, .f32⟩
  | 94 => ⟨S16x2048x8x64, .f32⟩
  | 95 => ⟨S64, .f32⟩
  | 96 => ⟨S_, .f32⟩
  | 97 => ⟨S_, .f32⟩
  | 98 => ⟨S_, .f32⟩
  | 99 => ⟨S64, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S16x2304x8x64, .f32⟩
  | 107 => ⟨S16x2304x4x128, .f32⟩
  | 108 => ⟨S16x8x2048x2304, .f32⟩
  | 109 => ⟨S_, .f32⟩
  | 110 => ⟨S16x8x2048x2304, .f32⟩
  | 111 => ⟨S16x8x2048x2304, .f32⟩
  | 112 => ⟨S_, .f32⟩
  | 113 => ⟨S16x8x2048, .f32⟩
  | 114 => ⟨S_, .f32⟩
  | 115 => ⟨S16x8x2048, .f32⟩
  | 116 => ⟨S16x8x2048, .f32⟩
  | 117 => ⟨S16x8x2048x1, .f32⟩
  | 118 => ⟨S16x8x2048x2304, .f32⟩
  | 119 => ⟨S16x8x2048x2304, .f32⟩
  | 120 => ⟨S16x8x2048x2304, .f32⟩
  | 121 => ⟨S_, .f32⟩
  | 122 => ⟨S16x8x2048, .f32⟩
  | 123 => ⟨S16x8x2048x1, .f32⟩
  | 124 => ⟨S16x8x2048x2304, .f32⟩
  | 125 => ⟨S16x8x2048x2304, .f32⟩
  | 126 => ⟨S16x4x2x2048x2304, .f32⟩
  | 127 => ⟨S16x4x1x2048x2304, .f32⟩
  | _ => ⟨S16x2048x3072, .bf16⟩

abbrev hbmTy0_1 (i : Nat) : BufTy := match i % 128 with
  | 0 => ⟨S16x4x2048x2304, .f32⟩
  | 1 => ⟨S16x4x1x2048x2304, .f32⟩
  | 2 => ⟨S16x4x2048x2304, .f32⟩
  | 3 => ⟨S16x4x2048x2304, .f32⟩
  | 4 => ⟨S16x4x2048x2304, .f32⟩
  | 5 => ⟨S16x4x2048x2304, .f32⟩
  | 6 => ⟨S16x4x128x2048, .f32⟩
  | 7 => ⟨S16x2048x4x128, .f32⟩
  | 8 => ⟨S16x2048x4x128, .f32⟩
  | 9 => ⟨S_, .f32⟩
  | 10 => ⟨S16x2048x4, .f32⟩
  | 11 => ⟨S16x2048x4x1, .f32⟩
  | 12 => ⟨S_, .f32⟩
  | 13 => ⟨S16x2048x4x1, .f32⟩
  | 14 => ⟨S16x2048x4x1, .f32⟩
  | 15 => ⟨S_, .f32⟩
  | 16 => ⟨S16x2048x4x1, .f32⟩
  | 17 => ⟨S16x2048x4x1, .f32⟩
  | 18 => ⟨S16x2048x4x1, .f32⟩
  | 19 => ⟨S16x2048x4x128, .f32⟩
  | 20 => ⟨S16x2048x4x128, .f32⟩
  | 21 => ⟨S1x1x1x128, .f32⟩
  | 22 => ⟨S16x2048x4x128, .f32⟩
  | 23 => ⟨S16x2048x4x128, .f32⟩
  | 24 => ⟨S_, .f32⟩
  | 25 => ⟨S16x2048x4x128, .f32⟩
  | 26 => ⟨S16x2048x4x128, .f32⟩
  | 27 => ⟨S16x2048x512, .f32⟩
  | 28 => ⟨S16x2048x512, .bf16⟩
  | _ => ⟨S16x2048x3072, .bf16⟩

abbrev hbmTy (i : Nat) : BufTy := match i / 128 with
  | 0 => hbmTy0_0 i
  | 1 => hbmTy0_1 i
  | _ => ⟨S16x2048x3072, .bf16⟩

abbrev bufTy : (tb : Table) → Fin (tcTables nBuf tb) → BufTy
  | .hbm, ⟨i, _⟩ => hbmTy i
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_cst_1 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_2 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_3 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_4 : Ref sig .tc := ⟨.hbm, 109, rfl⟩
abbrev main_v97 : Ref sig .tc := ⟨.hbm, 110, rfl⟩
abbrev main_v98 : Ref sig .tc := ⟨.hbm, 111, rfl⟩
abbrev main_cst_5 : Ref sig .tc := ⟨.hbm, 112, rfl⟩
abbrev main_v99 : Ref sig .tc := ⟨.hbm, 113, rfl⟩
abbrev main_cst_6 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_cst_7 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_cst_8 : Ref sig .tc := ⟨.hbm, 137, rfl⟩
abbrev main_v121 : Ref sig .tc := ⟨.hbm, 138, rfl⟩
abbrev main_v122 : Ref sig .tc := ⟨.hbm, 139, rfl⟩
abbrev main_cst_9 : Ref sig .tc := ⟨.hbm, 140, rfl⟩
abbrev main_v123 : Ref sig .tc := ⟨.hbm, 141, rfl⟩
abbrev main_v124 : Ref sig .tc := ⟨.hbm, 142, rfl⟩
abbrev main_cst_10 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_cst_11 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩

abbrev nD : Nat := 1
abbrev τ : Topo := Topo.v7x

variable {F : FTy → Type} [FloatOps F]
-- ==== Kernel2.lean ====
abbrev S816 : Shape := ⟨1, ![816]⟩
abbrev S1 : Shape := ⟨1, ![1]⟩
abbrev S417792x1024 : Shape := ⟨2, ![417792, 1024]⟩
abbrev S4x64x1024x256 : Shape := ⟨4, ![4, 64, 1024, 256]⟩
abbrev S4x64x256x1024 : Shape := ⟨4, ![4, 64, 256, 1024]⟩
abbrev S512x1024 : Shape := ⟨2, ![512, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S417792x1024, .bf16⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S417792x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S512x1024, .bf16⟩
  | .local _ .vmem, ⟨9, _⟩ => ⟨S512x1024, .bf16⟩
  | .local _ .smem, ⟨0, _⟩ => ⟨S816, .i32⟩
  | .local _ .smem, ⟨1, _⟩ => ⟨S1, .i32⟩
  | _, _ => ⟨S417792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![816], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S816.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S816) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S816.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S816) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S816.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S816) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S816 : Shape := ⟨1, ![816]⟩
abbrev S1 : Shape := ⟨1, ![1]⟩
abbrev S417792x1024 : Shape := ⟨2, ![417792, 1024]⟩
abbrev S4x64x1024x256 : Shape := ⟨4, ![4, 64, 1024, 256]⟩
abbrev S4x64x256x1024 : Shape := ⟨4, ![4, 64, 256, 1024]⟩
abbrev S1x64x1024x256 : Shape := ⟨4, ![1, 64, 1024, 256]⟩
abbrev S64x1024x256 : Shape := ⟨3, ![64, 1024, 256]⟩
abbrev S1x64x256x1024 : Shape := ⟨4, ![1, 64, 256, 1024]⟩
abbrev S64x256x1024 : Shape := ⟨3, ![64, 256, 1024]⟩
abbrev S816x512 : Shape := ⟨2, ![816, 512]⟩
abbrev S417792 : Shape := ⟨1, ![417792]⟩
abbrev S417792x1 : Shape := ⟨2, ![417792, 1]⟩
abbrev S1x64 : Shape := ⟨2, ![1, 64]⟩
abbrev S417792x64 : Shape := ⟨2, ![417792, 64]⟩
abbrev S417792x64x256 : Shape := ⟨3, ![417792, 64, 256]⟩
abbrev S_ : Shape := ⟨0, ![]⟩
abbrev S417792x64x1 : Shape := ⟨3, ![417792, 64, 1]⟩

abbrev nBuf : Space → Nat
  | .hbm => 38
  | .vmem => 0
  | .smem => 0
  | _ => 0

abbrev bufTy : (tb : Table) → Fin (tcTables nBuf tb) → BufTy
  | .hbm, ⟨0, _⟩ => ⟨S816, .i32⟩
  | .hbm, ⟨1, _⟩ => ⟨S1, .i32⟩
  | .hbm, ⟨2, _⟩ => ⟨S417792x1024, .bf16⟩
  | .hbm, ⟨3, _⟩ => ⟨S4x64x1024x256, .f32⟩
  | .hbm, ⟨4, _⟩ => ⟨S4x64x1024x256, .f32⟩
  | .hbm, ⟨5, _⟩ => ⟨S4x64x256x1024, .f32⟩
  | .hbm, ⟨6, _⟩ => ⟨S417792x1024, .f32⟩
  | .hbm, ⟨7, _⟩ => ⟨S1x64x1024x256, .f32⟩
  | .hbm, ⟨8, _⟩ => ⟨S64x1024x256, .f32⟩
  | .hbm, ⟨9, _⟩ => ⟨S1x64x1024x256, .f32⟩
  | .hbm, ⟨10, _⟩ => ⟨S64x1024x256, .f32⟩
  | .hbm, ⟨11, _⟩ => ⟨S1x64x256x1024, .f32⟩
  | .hbm, ⟨12, _⟩ => ⟨S64x256x1024, .f32⟩
  | .hbm, ⟨13, _⟩ => ⟨S816x512, .i32⟩
  | .hbm, ⟨14, _⟩ => ⟨S417792, .i32⟩
  | .hbm, ⟨15, _⟩ => ⟨S417792x1, .i32⟩
  | .hbm, ⟨16, _⟩ => ⟨S1x64, .i32⟩
  | .hbm, ⟨17, _⟩ => ⟨S417792x64, .i32⟩
  | .hbm, ⟨18, _⟩ => ⟨S417792x64, .i32⟩
  | .hbm, ⟨19, _⟩ => ⟨S417792x64, .i1⟩
  | .hbm, ⟨20, _⟩ => ⟨S417792x64, .f32⟩
  | .hbm, ⟨21, _⟩ => ⟨S417792x64x256, .f32⟩
  | .hbm, ⟨22, _⟩ => ⟨S417792x64x256, .f32⟩
  | .hbm, ⟨23, _⟩ => ⟨S417792x64x256, .f32⟩
  | .hbm, ⟨24, _⟩ => ⟨S417792x64x256, .f32⟩
  | .hbm, ⟨25, _⟩ => ⟨S_, .f32⟩
  | .hbm, ⟨26, _⟩ => ⟨S417792x64x256, .f32⟩
  | .hbm, ⟨27, _⟩ => ⟨S417792x64x256, .f32⟩
  | .hbm, ⟨28, _⟩ => ⟨S_, .f32⟩
  | .hbm, ⟨29, _⟩ => ⟨S417792x64x256, .f32⟩
  | .hbm, ⟨30, _⟩ => ⟨S417792x64x256, .f32⟩
  | .hbm, ⟨31, _⟩ => ⟨S417792x64x256, .f32⟩
  | .hbm, ⟨32, _⟩ => ⟨S417792x64x256, .f32⟩
  | .hbm, ⟨33, _⟩ => ⟨S417792x64x1, .f32⟩
  | .hbm, ⟨34, _⟩ => ⟨S417792x64x256, .f32⟩
  | .hbm, ⟨35, _⟩ => ⟨S417792x64x256, .f32⟩
  | .hbm, ⟨36, _⟩ => ⟨S417792x1024, .f32⟩
  | .hbm, ⟨37, _⟩ => ⟨S417792x1024, .bf16⟩
  | _, _ => ⟨S816, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x1x1024 : Shape := ⟨3, ![16, 1, 1024]⟩
abbrev S1024x3072 : Shape := ⟨2, ![1024, 3072]⟩
abbrev S16x2048x3072 : Shape := ⟨3, ![16, 2048, 3072]⟩
abbrev S1x512x1024 : Shape := ⟨3, ![1, 512, 1024]⟩
abbrev S1x1x1024 : Shape := ⟨3, ![1, 1, 1024]⟩
abbrev S1x512x3072 : Shape := ⟨3, ![1, 512, 3072]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x3072, .f32⟩
  | .hbm, ⟨4, _⟩ => ⟨S1024x3072, .bf16⟩
  | .hbm, ⟨5, _⟩ => ⟨S16x2048x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x512x3072, .bf16⟩
  | .local _ .vmem, ⟨8, _⟩ => ⟨S1x512x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16x2048x1024 : Shape := ⟨3, ![16, 2048, 1024]⟩
abbrev S16x1x1024 : Shape := ⟨3, ![16, 1, 1024]⟩
abbrev S1024x3072 : Shape := ⟨2, ![1024, 3072]⟩
abbrev S_ : Shape := ⟨0, ![]⟩
abbrev S16x2048x3072 : Shape := ⟨3, ![16, 2048, 3072]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1024x3072, .f32⟩
  | .hbm, ⟨4, _⟩ => ⟨S_, .f32⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x3072, .f32⟩
  | .hbm, ⟨12, _⟩ => ⟨S16x2048x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S16x2048x512 : Shape := ⟨3, ![16, 2048, 512]⟩
abbrev S1024x1024 : Shape := ⟨2, ![1024, 1024]⟩
abbrev S16x2048x1024 : Shape := ⟨3, ![16, 2048, 1024]⟩
abbrev S16x1x1024 : Shape := ⟨3, ![16, 1, 1024]⟩
abbrev S1024 : Shape := ⟨1, ![1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S1024x1024, .f32⟩
  | .hbm, ⟨3, _⟩ => ⟨S16x2048x1024, .f32⟩
  | .hbm, ⟨4, _⟩ => ⟨S16x1x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16x2048x512 : Shape := ⟨3, ![16, 2048, 512]⟩
abbrev S1024x1024 : Shape := ⟨2, ![1024, 1024]⟩
abbrev S16x2048x1024 : Shape := ⟨3, ![16, 2048, 1024]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S1024x1024, .f32⟩
  | .hbm, ⟨3, _⟩ => ⟨S16x2048x1024, .f32⟩
  | .hbm, ⟨4, _⟩ => ⟨S16x1x1024, .f32⟩
  | .hbm, ⟨5, _⟩ => ⟨S1024, .f32⟩
  | .hbm, ⟨6, _⟩ => ⟨S1024, .f32⟩
  | .hbm, ⟨7, _⟩ => ⟨S16x2048x512, .f32⟩
  | .hbm, ⟨8, _⟩ => ⟨S16x2048x512, .f32⟩
  | .hbm, ⟨9, _⟩ => ⟨S16x2048x1024, .f32⟩
  | .hbm, ⟨10, _⟩ => ⟨S16x2048x1024, .f32⟩
  | .hbm, ⟨11, _⟩ => ⟨S_, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel5.lean ====
abbrev S16x256x1024 : Shape := ⟨3, ![16, 256, 1024]⟩
abbrev S16x2048x1024 : Shape := ⟨3, ![16, 2048, 1024]⟩
abbrev S16x1x1024 : Shape := ⟨3, ![16, 1, 1024]⟩
abbrev S1024x2048 : Shape := ⟨2, ![1024, 2048]⟩
abbrev S16x2304x1024 : Shape := ⟨3, ![16, 2304, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩
abbrev S1024x1024 : Shape := ⟨2, ![1024, 1024]⟩

abbrev nBuf : Space → Nat
  | .hbm => 10
  | .vmem => 17
  | .smem => 0
  | _ => 0

abbrev bufTy : (tb : Table) → Fin (tcTables nBuf tb) → BufTy
  | .hbm, ⟨0, _⟩ => ⟨S16x256x1024, .f32⟩
  | .hbm, ⟨1, _⟩ => ⟨S16x2048x1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S1024x2048, .f32⟩
  | .hbm, ⟨7, _⟩ => ⟨S1024x2048, .bf16⟩
  | .hbm, ⟨8, _⟩ => ⟨S16x2304x1024, .bf16⟩
  | .hbm, ⟨9, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x2048, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .f32⟩
  | .local _ .vmem, ⟨16, _⟩ => ⟨S1x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S16x256x1024 : Shape := ⟨3, ![16, 256, 1024]⟩
abbrev S16x2048x1024 : Shape := ⟨3, ![16, 2048, 1024]⟩
abbrev S16x1x1024 : Shape := ⟨3, ![16, 1, 1024]⟩
abbrev S1024x2048 : Shape := ⟨2, ![1024, 2048]⟩
abbrev S_ : Shape := ⟨0, ![]⟩
abbrev S16x2304x1024 : Shape := ⟨3, ![16, 2304, 1024]⟩
abbrev S16x2304x2048 : Shape := ⟨3, ![16, 2304, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x2048x1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S1024x2048, .f32⟩
  | .hbm, ⟨7, _⟩ => ⟨S_, .f32⟩
  | .hbm, ⟨8, _⟩ => ⟨S16x1x1024, .f32⟩
  | .hbm, ⟨9, _⟩ => ⟨S16x1x1024, .f32⟩
  | .hbm, ⟨10, _⟩ => ⟨S16x256x1024, .f32⟩
  | .hbm, ⟨11, _⟩ => ⟨S16x256x1024, .f32⟩
  | .hbm, ⟨12, _⟩ => ⟨S16x256x1024, .f32⟩
  | .hbm, ⟨13, _⟩ => ⟨S16x256x1024, .f32⟩
  | .hbm, ⟨14, _⟩ => ⟨S_, .f32⟩
  | .hbm, ⟨15, _⟩ => ⟨S16x1x1024, .f32⟩
  | .hbm, ⟨16, _⟩ => ⟨S16x1x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2304x1024, .f32⟩
  | .hbm, ⟨22, _⟩ => ⟨S16x2304x2048, .f32⟩
  | .hbm, ⟨23, _⟩ => ⟨S16x2304x1024, .f32⟩
  | .hbm, ⟨24, _⟩ => ⟨S16x2304x1024, .f32⟩
  | .hbm, ⟨25, _⟩ => ⟨S16x2304x1024, .f32⟩
  | .hbm, ⟨26, _⟩ => ⟨S16x2304x1024, .f32⟩
  | .hbm, ⟨27, _⟩ => ⟨S_, .f32⟩
  | .hbm, ⟨28, _⟩ => ⟨S16x2304x1024, .f32⟩
  | .hbm, ⟨29, _⟩ => ⟨S16x2304x1024, .f32⟩
  | .hbm, ⟨30, _⟩ => ⟨S16x2304x1024, .f32⟩
  | .hbm, ⟨31, _⟩ => ⟨S_, .f32⟩
  | .hbm, ⟨32, _⟩ => ⟨S16x2304x1024, .f32⟩
  | .hbm, ⟨33, _⟩ => ⟨S16x2304x1024, .f32⟩
  | .hbm, ⟨34, _⟩ => ⟨S16x2304x1024, .f32⟩
  | .hbm, ⟨35, _⟩ => ⟨S_, .f32⟩
  | .hbm, ⟨36, _⟩ => ⟨S16x2304x1024, .f32⟩
  | .hbm, ⟨37, _⟩ => ⟨S16x2304x1024, .f32⟩
  | .hbm, ⟨38, _⟩ => ⟨S_, .f32⟩
  | .hbm, ⟨39, _⟩ => ⟨S16x2304x1024, .f32⟩
  | .hbm, ⟨40, _⟩ => ⟨S16x2304x1024, .f32⟩
  | .hbm, ⟨41, _⟩ => ⟨S16x2304x1024, .f32⟩
  | .hbm, ⟨42, _⟩ => ⟨S16x2304x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel6.lean ====
abbrev S16x2304x1024 : Shape := ⟨3, ![16, 2304, 1024]⟩
abbrev S1024x1024 : Shape := ⟨2, ![1024, 1024]⟩
abbrev S16x2048x1024 : Shape := ⟨3, ![16, 2048, 1024]⟩
abbrev S16x1x1024 : Shape := ⟨3, ![16, 1, 1024]⟩
abbrev S1024 : Shape := ⟨1, ![1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S16x2304x1024, .bf16⟩
  | .hbm, ⟨1, _⟩ => ⟨S16x2304x1024, .bf16⟩
  | .hbm, ⟨2, _⟩ => ⟨S16x2304x1024, .bf16⟩
  | .hbm, ⟨3, _⟩ => ⟨S1024x1024, .f32⟩
  | .hbm, ⟨4, _⟩ => ⟨S16x2048x1024, .f32⟩
  | .hbm, ⟨5, _⟩ => ⟨S16x1x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S16x2304x1024 : Shape := ⟨3, ![16, 2304, 1024]⟩
abbrev S1024x1024 : Shape := ⟨2, ![1024, 1024]⟩
abbrev S16x2048x1024 : Shape := ⟨3, ![16, 2048, 1024]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S16x2304x1024, .bf16⟩
  | .hbm, ⟨2, _⟩ => ⟨S16x2304x1024, .bf16⟩
  | .hbm, ⟨3, _⟩ => ⟨S1024x1024, .f32⟩
  | .hbm, ⟨4, _⟩ => ⟨S16x2048x1024, .f32⟩
  | .hbm, ⟨5, _⟩ => ⟨S16x1x1024, .f32⟩
  | .hbm, ⟨6, _⟩ => ⟨S1024, .f32⟩
  | .hbm, ⟨7, _⟩ => ⟨S1024, .f32⟩
  | .hbm, ⟨8, _⟩ => ⟨S16x2048x1024, .bf16⟩
  | .hbm, ⟨9, _⟩ => ⟨S16x2048x1024, .f32⟩
  | .hbm, ⟨10, _⟩ => ⟨S16x2048x1024, .bf16⟩
  | .hbm, ⟨11, _⟩ => ⟨S16x2048x1024, .f32⟩
  | .hbm, ⟨12, _⟩ => ⟨S16x2048x1024, .bf16⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S1x1x1024, .f32⟩
  | .hbm, ⟨50, _⟩ => ⟨S16x2048x1024, .f32⟩
  | .hbm, ⟨51, _⟩ => ⟨S16x2048x1024, .f32⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel7.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1 : Shape := ⟨1, ![1]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S4x1x6144, .f32⟩
  | .hbm, ⟨13, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S17x6144 : Shape := ⟨2, ![17, 6144]⟩
abbrev S1x17x6144 : Shape := ⟨3, ![1, 17, 6144]⟩
abbrev S4x17x6144 : Shape := ⟨3, ![4, 17, 6144]⟩
abbrev S4x24x6144 : Shape := ⟨3, ![4, 24, 6144]⟩

abbrev nBuf : Space → Nat
  | .hbm => 94
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S16x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S16x6144, .f32⟩
  | .hbm, ⟨29, _⟩ => ⟨S16x6144, .f32⟩
  | .hbm, ⟨30, _⟩ => ⟨S1x1024x6144, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S17x6144, .f32⟩
  | .hbm, ⟨38, _⟩ => ⟨S1x1024x6144, .f32⟩
  | .hbm, ⟨39, _⟩ => ⟨S1024x6144, .f32⟩
  | .hbm, ⟨40, _⟩ => ⟨S16x6144, .f32⟩
  | .hbm, ⟨41, _⟩ => ⟨S1x6144, .f32⟩
  | .hbm, ⟨42, _⟩ => ⟨S6144, .f32⟩
  | .hbm, ⟨43, _⟩ => ⟨S1x6144, .f32⟩
  | .hbm, ⟨44, _⟩ => ⟨S16x6144, .f32⟩
  | .hbm, ⟨45, _⟩ => ⟨S16x6144, .f32⟩
  | .hbm, ⟨46, _⟩ => ⟨S1x1024x6144, .f32⟩
  | .hbm, ⟨47, _⟩ => ⟨S1024x6144, .f32⟩
  | .hbm, ⟨48, _⟩ => ⟨S6144, .f32⟩
  | .hbm, ⟨49, _⟩ => ⟨S1x6144, .f32⟩
  | .hbm, ⟨50, _⟩ => ⟨S6144, .f32⟩
  | .hbm, ⟨51, _⟩ => ⟨S6144, .f32⟩
  | .hbm, ⟨52, _⟩ => ⟨S1x6144, .f32⟩
  | .hbm, ⟨53, _⟩ => ⟨S17x6144, .f32⟩
  | .hbm, ⟨54, _⟩ => ⟨S1x1024x6144, .f32⟩
  | .hbm, ⟨55, _⟩ => ⟨S1024x6144, .f32⟩
  | .hbm, ⟨56, _⟩ => ⟨S16x6144, .f32⟩
  | .hbm, ⟨57, _⟩ => ⟨S1x6144, .f32⟩
  | .hbm, ⟨58, _⟩ => ⟨S6144, .f32⟩
  | .hbm, ⟨59, _⟩ => ⟨S1x6144, .f32⟩
  | .hbm, ⟨60, _⟩ => ⟨S16x6144, .f32⟩
  | .hbm, ⟨61, _⟩ => ⟨S16x6144, .f32⟩
  | .hbm, ⟨62, _⟩ => ⟨S1x1024x6144, .f32⟩
  | .hbm, ⟨63, _⟩ => ⟨S1024x6144, .f32⟩
  | .hbm, ⟨64, _⟩ => ⟨S6144, .f32⟩
  | .hbm, ⟨65, _⟩ => ⟨S1x6144, .f32⟩
  | .hbm, ⟨66, _⟩ => ⟨S6144, .f32⟩
  | .hbm, ⟨67, _⟩ => ⟨S6144, .f32⟩
  | .hbm, ⟨68, _⟩ => ⟨S1x6144, .f32⟩
  | .hbm, ⟨69, _⟩ => ⟨S17x6144, .f32⟩
  | .hbm, ⟨70, _⟩ => ⟨S1x1024x6144, .f32⟩
  | .hbm, ⟨71, _⟩ => ⟨S1024x6144, .f32⟩
  | .hbm, ⟨72, _⟩ => ⟨S16x6144, .f32⟩
  | .hbm, ⟨73, _⟩ => ⟨S1x6144, .f32⟩
  | .hbm, ⟨74, _⟩ => ⟨S6144, .f32⟩
  | .hbm, ⟨75, _⟩ => ⟨S1x6144, .f32⟩
  | .hbm, ⟨76, _⟩ => ⟨S16x6144, .f32⟩
  | .hbm, ⟨77, _⟩ => ⟨S16x6144, .f32⟩
  | .hbm, ⟨78, _⟩ => ⟨S1x1024x6144, .f32⟩
  | .hbm, ⟨79, _⟩ => ⟨S1024x6144, .f32⟩
  | .hbm, ⟨80, _⟩ => ⟨S6144, .f32⟩
  | .hbm, ⟨81, _⟩ => ⟨S1x6144, .f32⟩
  | .hbm, ⟨82, _⟩ => ⟨S6144, .f32⟩
  | .hbm, ⟨83, _⟩ => ⟨S6144, .f32⟩
  | .hbm, ⟨84, _⟩ => ⟨S1x6144, .f32⟩
  | .hbm, ⟨85, _⟩ => ⟨S17x6144, .f32⟩
  | .hbm, ⟨86, _⟩ => ⟨S1x17x6144, .f32⟩
  | .hbm, ⟨87, _⟩ => ⟨S1x17x6144, .f32⟩
  | .hbm, ⟨88, _⟩ => ⟨S1x17x6144, .f32⟩
  | .hbm, ⟨89, _⟩ => ⟨S1x17x6144, .f32⟩
  | .hbm, ⟨90, _⟩ => ⟨S4x17x6144, .f32⟩
  | .hbm, ⟨91, _⟩ => ⟨S_, .i32⟩
  | .hbm, ⟨92, _⟩ => ⟨S_, .f32⟩
  | .hbm, ⟨93, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c : Ref sig .tc := ⟨.hbm, 91, rfl⟩
abbrev main_call2_v0 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel8.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S_ : Shape := ⟨0, ![]⟩
abbrev S2047 : Shape := ⟨1, ![2047]⟩
abbrev S1 : Shape := ⟨1, ![1]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x128 : Shape := ⟨2, ![2048, 128]⟩
abbrev S128x64 : Shape := ⟨2, ![128, 64]⟩
abbrev S1x64 : Shape := ⟨2, ![1, 64]⟩
abbrev S1x2048 : Shape := ⟨2, ![1, 2048]⟩
abbrev S2x2048x512 : Shape := ⟨3, ![2, 2048, 512]⟩
abbrev S512x128 : Shape := ⟨2, ![512, 128]⟩
abbrev S2x512x512 : Shape := ⟨3, ![2, 512, 512]⟩
abbrev S512x64 : Shape := ⟨2, ![512, 64]⟩
abbrev S512x1 : Shape := ⟨2, ![512, 1]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 82
  | .vmem => 15
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2048, .f32⟩
  | .hbm, ⟨7, _⟩ => ⟨S64, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2047, .f32⟩
  | .hbm, ⟨17, _⟩ => ⟨S_, .f32⟩
  | .hbm, ⟨18, _⟩ => ⟨S2047, .f32⟩
  | .hbm, ⟨19, _⟩ => ⟨S2047, .f32⟩
  | .hbm, ⟨20, _⟩ => ⟨S1, .f32⟩
  | .hbm, ⟨21, _⟩ => ⟨S_, .f32⟩
  | .hbm, ⟨22, _⟩ => ⟨S2047, .f32⟩
  | .hbm, ⟨23, _⟩ => ⟨S2047, .f32⟩
  | .hbm, ⟨24, _⟩ => ⟨S2047, .f32⟩
  | .hbm, ⟨25, _⟩ => ⟨S2047, .f32⟩
  | .hbm, ⟨26, _⟩ => ⟨S1, .f32⟩
  | .hbm, ⟨27, _⟩ => ⟨S2047, .f32⟩
  | .hbm, ⟨28, _⟩ => ⟨S2047, .f32⟩
  | .hbm, ⟨29, _⟩ => ⟨S2047, .f32⟩
  | .hbm, ⟨30, _⟩ => ⟨S1, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S15, .f32⟩
  | .hbm, ⟨41, _⟩ => ⟨S_, .f32⟩
  | .hbm, ⟨42, _⟩ => ⟨S15, .f32⟩
  | .hbm, ⟨43, _⟩ => ⟨S15, .f32⟩
  | .hbm, ⟨44, _⟩ => ⟨S1, .f32⟩
  | .hbm, ⟨45, _⟩ => ⟨S_, .f32⟩
  | .hbm, ⟨46, _⟩ => ⟨S15, .f32⟩
  | .hbm, ⟨47, _⟩ => ⟨S15, .f32⟩
  | .hbm, ⟨48, _⟩ => ⟨S15, .f32⟩
  | .hbm, ⟨49, _⟩ => ⟨S15, .f32⟩
  | .hbm, ⟨50, _⟩ => ⟨S1, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S1, .f32⟩
  | .hbm, ⟨55, _⟩ => ⟨S16, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S1x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x33, .f32⟩
  | .hbm, ⟨69, _⟩ => ⟨S_, .i32⟩
  | .hbm, ⟨70, _⟩ => ⟨S_, .f32⟩
  | .hbm, ⟨71, _⟩ => ⟨S2048x128, .f32⟩
  | .hbm, ⟨72, _⟩ => ⟨S_, .i32⟩
  | .hbm, ⟨73, _⟩ => ⟨S_, .f32⟩
  | .hbm, ⟨74, _⟩ => ⟨S128x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x2048, .f32⟩
  | .hbm, ⟨80, _⟩ => ⟨S2x2048x512, .bf16⟩
  | .hbm, ⟨81, _⟩ => ⟨S2x2048x512, .bf16⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x2048, .f32⟩
  | .local _ .vmem, ⟨9, _⟩ => ⟨S1x64, .f32⟩
  | .local _ .vmem, ⟨10, _⟩ => ⟨S1x2048, .f32⟩
  | .local _ .vmem, ⟨11, _⟩ => ⟨S2x512x512, .bf16⟩
  | .local _ .vmem, ⟨12, _⟩ => ⟨S2x512x512, .bf16⟩
  | .local _ .vmem, ⟨13, _⟩ => ⟨S2x512x512, .bf16⟩
  | .local _ .vmem, ⟨14, _⟩ => ⟨S2x512x512, .bf16⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v0 : Ref sig .tc := ⟨.hbm, 31, rfl⟩
abbrev main_v1 : Ref sig .tc := ⟨.hbm, 32, rfl⟩
abbrev main_cst_1 : Ref sig .tc := ⟨.hbm, 33, rfl⟩
abbrev main_c : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_cst : Ref sig .tc := ⟨.hbm, 38, rfl⟩
abbrev main_call1_v3 : Ref sig .tc := ⟨.hbm, 39, rfl⟩
abbrev main_call1_v4 : Ref sig .tc := ⟨.hbm, 40, rfl⟩
abbrev main_call1_cst_0 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_v15 : Ref sig .tc := ⟨.hbm, 53, rfl⟩
abbrev main_call1_v16 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_cst_2 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_c_3 : Ref sig .tc := ⟨.hbm, 69, rfl⟩
abbrev main_call2_v0 : Ref sig .tc := ⟨.hbm, 70, rfl⟩
abbrev main_v15 : Ref sig .tc := ⟨.hbm, 71, rfl⟩
abbrev main_c_4 : Ref sig .tc := ⟨.hbm, 72, rfl⟩
abbrev main_call3_v0 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22_0 : Ref sig .tc := ⟨.hbm, 80, rfl⟩
abbrev main_v22_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S_ : Shape := ⟨0, ![]⟩
abbrev S2047 : Shape := ⟨1, ![2047]⟩
abbrev S1 : Shape := ⟨1, ![1]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S1x64 : Shape := ⟨2, ![1, 64]⟩
abbrev S2048x2048 : Shape := ⟨2, ![2048, 2048]⟩
abbrev S1x2048 : Shape := ⟨2, ![1, 2048]⟩
abbrev S2048x2x2x512 : Shape := ⟨4, ![2048, 2, 2, 512]⟩
abbrev S2x2x2048x512 : Shape := ⟨4, ![2, 2, 2048, 512]⟩
abbrev S2x1x2048x512 : Shape := ⟨4, ![2, 1, 2048, 512]⟩
abbrev S2x2048x512 : Shape := ⟨3, ![2, 2048, 512]⟩

abbrev nBuf : Space → Nat
  | .hbm => 112
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2048, .f32⟩
  | .hbm, ⟨7, _⟩ => ⟨S64, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2047, .f32⟩
  | .hbm, ⟨17, _⟩ => ⟨S_, .f32⟩
  | .hbm, ⟨18, _⟩ => ⟨S2047, .f32⟩
  | .hbm, ⟨19, _⟩ => ⟨S2047, .f32⟩
  | .hbm, ⟨20, _⟩ => ⟨S1, .f32⟩
  | .hbm, ⟨21, _⟩ => ⟨S_, .f32⟩
  | .hbm, ⟨22, _⟩ => ⟨S2047, .f32⟩
  | .hbm, ⟨23, _⟩ => ⟨S2047, .f32⟩
  | .hbm, ⟨24, _⟩ => ⟨S2047, .f32⟩
  | .hbm, ⟨25, _⟩ => ⟨S2047, .f32⟩
  | .hbm, ⟨26, _⟩ => ⟨S1, .f32⟩
  | .hbm, ⟨27, _⟩ => ⟨S2047, .f32⟩
  | .hbm, ⟨28, _⟩ => ⟨S2047, .f32⟩
  | .hbm, ⟨29, _⟩ => ⟨S2047, .f32⟩
  | .hbm, ⟨30, _⟩ => ⟨S1, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S15, .f32⟩
  | .hbm, ⟨41, _⟩ => ⟨S_, .f32⟩
  | .hbm, ⟨42, _⟩ => ⟨S15, .f32⟩
  | .hbm, ⟨43, _⟩ => ⟨S15, .f32⟩
  | .hbm, ⟨44, _⟩ => ⟨S1, .f32⟩
  | .hbm, ⟨45, _⟩ => ⟨S_, .f32⟩
  | .hbm, ⟨46, _⟩ => ⟨S15, .f32⟩
  | .hbm, ⟨47, _⟩ => ⟨S15, .f32⟩
  | .hbm, ⟨48, _⟩ => ⟨S15, .f32⟩
  | .hbm, ⟨49, _⟩ => ⟨S15, .f32⟩
  | .hbm, ⟨50, _⟩ => ⟨S1, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S1, .f32⟩
  | .hbm, ⟨55, _⟩ => ⟨S16, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S1x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x33, .f32⟩
  | .hbm, ⟨69, _⟩ => ⟨S2048x64, .f32⟩
  | .hbm, ⟨70, _⟩ => ⟨S1x64, .f32⟩
  | .hbm, ⟨71, _⟩ => ⟨S2048x64, .f32⟩
  | .hbm, ⟨72, _⟩ => ⟨S2048x64, .f32⟩
  | .hbm, ⟨73, _⟩ => ⟨S1x64, .f32⟩
  | .hbm, ⟨74, _⟩ => ⟨S2048x64, .f32⟩
  | .hbm, ⟨75, _⟩ => ⟨S2048x64, .f32⟩
  | .hbm, ⟨76, _⟩ => ⟨S2048x64, .f32⟩
  | .hbm, ⟨77, _⟩ => ⟨S2048x64, .f32⟩
  | .hbm, ⟨78, _⟩ => ⟨S1x64, .f32⟩
  | .hbm, ⟨79, _⟩ => ⟨S2048x64, .f32⟩
  | .hbm, ⟨80, _⟩ => ⟨S2048x64, .f32⟩
  | .hbm, ⟨81, _⟩ => ⟨S1x64, .f32⟩
  | .hbm, ⟨82, _⟩ => ⟨S2048x64, .f32⟩
  | .hbm, ⟨83, _⟩ => ⟨S2048x64, .f32⟩
  | .hbm, ⟨84, _⟩ => ⟨S2048x64, .f32⟩
  | .hbm, ⟨85, _⟩ => ⟨S2048x64, .f32⟩
  | .hbm, ⟨86, _⟩ => ⟨S1x64, .f32⟩
  | .hbm, ⟨87, _⟩ => ⟨S2048x64, .f32⟩
  | .hbm, ⟨88, _⟩ => ⟨S2048x64, .f32⟩
  | .hbm, ⟨89, _⟩ => ⟨S1x64, .f32⟩
  | .hbm, ⟨90, _⟩ => ⟨S2048x64, .f32⟩
  | .hbm, ⟨91, _⟩ => ⟨S2048x64, .f32⟩
  | .hbm, ⟨92, _⟩ => ⟨S2048x64, .f32⟩
  | .hbm, ⟨93, _⟩ => ⟨S2048x2048, .f32⟩
  | .hbm, ⟨94, _⟩ => ⟨S2048x1, .f32⟩
  | .hbm, ⟨95, _⟩ => ⟨S2048, .f32⟩
  | .hbm, ⟨96, _⟩ => ⟨S1x2048, .f32⟩
  | .hbm, ⟨97, _⟩ => ⟨S2048x2048, .f32⟩
  | .hbm, ⟨98, _⟩ => ⟨S2048x2048, .f32⟩
  | .hbm, ⟨99, _⟩ => ⟨S2048x2048, .f32⟩
  | .hbm, ⟨100, _⟩ => ⟨S2048x2048, .f32⟩
  | .hbm, ⟨101, _⟩ => ⟨S2048x2048, .f32⟩
  | .hbm, ⟨102, _⟩ => ⟨S2048x2x2x512, .f32⟩
  | .hbm, ⟨103, _⟩ => ⟨S2x2x2048x512, .f32⟩
  | .hbm, ⟨104, _⟩ => ⟨S2x1x2048x512, .f32⟩
  | .hbm, ⟨105, _⟩ => ⟨S2x2048x512, .f32⟩
  | .hbm, ⟨106, _⟩ => ⟨S2x1x2048x512, .f32⟩
  | .hbm, ⟨107, _⟩ => ⟨S2x2048x512, .f32⟩
  | .hbm, ⟨108, _⟩ => ⟨S2x2048x512, .f32⟩
  | .hbm, ⟨109, _⟩ => ⟨S2x2048x512, .bf16⟩
  | .hbm, ⟨110, _⟩ => ⟨S2x2048x512, .f32⟩
  | .hbm, ⟨111, _⟩ => ⟨S2x2048x512, .bf16⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v0 : Ref sig .tc := ⟨.hbm, 31, rfl⟩
abbrev main_v1 : Ref sig .tc := ⟨.hbm, 32, rfl⟩
abbrev main_cst_1 : Ref sig .tc := ⟨.hbm, 33, rfl⟩
abbrev main_c : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_cst : Ref sig .tc := ⟨.hbm, 38, rfl⟩
abbrev main_call1_v3 : Ref sig .tc := ⟨.hbm, 39, rfl⟩
abbrev main_call1_v4 : Ref sig .tc := ⟨.hbm, 40, rfl⟩
abbrev main_call1_cst_0 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_v15 : Ref sig .tc := ⟨.hbm, 53, rfl⟩
abbrev main_call1_v16 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_cst_2 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩

abbrev nD : Nat := 1
abbrev τ : Topo := Topo.v7x

variable {F : FTy → Type} [FloatOps F]
-- ==== Proof.Out.lean ====
module
public import proofs.«01_k».proof.Proof.Gen.KernelIdeal.Value
public import Idealize.ShloMosaic.Lib.Pipeline.ValueKit
@[expose] public section
set_option maxRecDepth 16384
noncomputable section
namespace Cert.KernelIdeal.Value
open Cert.KernelIdeal Cert.KernelIdeal.Gen
open Idealize.ShloMosaic Idealize.ShloMosaic.TcCoe Idealize.SL.Sem Idealize.ShloMosaic.Tactic
open Idealize.ShloMosaic.Pipeline (Dat)
variable {F : FTy → Type} [FloatOps F]

/-- What one trip of the loop stores for its 256 query rows, from the blocks the kernel reads: the trip's rows of the
    queries and of the three rotation tables, the rotated keys, the context keys and both value blocks. -/
def tripVal (k : Fin k0_t1_loop.trips) (x0 : Vec F S1x2048x128 .bf16) (x1 : Vec F S1x2048x128 .bf16) (x2 : Vec F S1x2048x128 .bf16) (x3 : Vec F S1x256x128 .bf16) (x4 : Vec F S1x256x128 .bf16) (x5 : Vec F S2048x128 .f32) (x6 : Vec F S2048x128 .f32) (x7 : Vec F S2048x128 .f32) (x8 : Vec F S4x128 .f32) (x9 : Vec F S1x128 .f32) (kb : Vec F S2048x128 .bf16) : Vec F S1x256x128 .bf16 :=
  let q := View.ld x0 (Rect.unit (s := S1x2048x128) (k0_off1 k) S1x256x128.size (k0_off1_inb k))
  let co := View.ld x5 (Rect.unit (s := S2048x128) (k0_off2 k) S256x128.size (k0_off2_inb k))
  let sa := View.ld x6 (Rect.unit (s := S2048x128) (k0_off2 k) S256x128.size (k0_off2_inb k))
  let sb := View.ld x7 (Rect.unit (s := S2048x128) (k0_off2 k) S256x128.size (k0_off2_inb k))
  k0_pay2 (k0_pay18 (k0_pay19 x8) (k0_pay1 x9) (k0_pay9 (k0_pay4 q co sa sb) (k0_pay6 q co sa sb kb) x3)
    (k0_pay10 (k0_pay4 q co sa sb) (k0_pay5 q co sa sb kb) (k0_pay6 q co sa sb kb) x3)
    (k0_pay11 (k0_pay4 q co sa sb) (k0_pay5 q co sa sb kb) (k0_pay6 q co sa sb kb) x3)
    (k0_pay16 (k0_pay3 q co sa sb) (iota .tc S256x128 32 [1] iota_S256x128_d1_w32) kb x3)
    (k0_pay17 (k0_pay3 q co sa sb) (iota .tc S256x128 32 [1] iota_S256x128_d1_w32) kb x3) x2 x4)

theorem hz2 : (![0, 0] : Fin 2 → Nat) = fun _ => 0 := funext fun a => by fin_cases a <;> rfl
theorem hz3 : (![0, 0, 0] : Fin 3 → Nat) = fun _ => 0 := funext fun a => by fin_cases a <;> rfl

/-- One trip's pieces are one store of `tripVal`. -/
theorem trip_eq (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x128 .f32) (harg10 : arg10.IsWhole) (arg11 : Memref sig .tc .vmem S1x128 .f32) (harg11 : arg11.IsWhole) (arg12 : Memref sig .tc .vmem S1x2048x128 .bf16) (harg12 : arg12.IsWhole) (arg13 : Memref sig .tc .vmem S2048x128 .bf16) (harg13 : arg13.IsWhole)
    (x0 : Vec F S1x2048x128 .bf16) (x1 : Vec F S1x2048x128 .bf16) (x2 : Vec F S1x2048x128 .bf16) (x3 : Vec F S1x256x128 .bf16) (x4 : Vec F S1x256x128 .bf16) (x5 : Vec F S2048x128 .f32) (x6 : Vec F S2048x128 .f32) (x7 : Vec F S2048x128 .f32) (x8 : Vec F S4x128 .f32) (x9 : Vec F S1x128 .f32) (kb : Vec F S2048x128 .bf16) (X13 : BufTy.Contents (Elt F) arg13.view.ty) (hX : arg13.view.read (Elt F) X13 = kb) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 (k0_pay19 x8) x9 (harg2.unread x0) (harg4.unread x2) (harg5.unread x3) (harg6.unread x4) (harg7.unread x5) (harg8.unread x6) (harg9.unread x7) X13 k
      = [⟨Rect.unit (s := S1x2048x128) (k0_off1 k) S1x256x128.size (k0_off1_inb k), tripVal k x0 x1 x2 x3 x4 x5 x6 x7 x8 x9 kb⟩] := by
  unfold tripL_k0_t1 trip_k0_t1
  dsimp only
  sl_unfold_words
  unfold tripVal
  simp only [View.readAt_eq_ld, harg2.read_unread, harg4.read_unread, harg5.read_unread, harg6.read_unread, harg7.read_unread,
    harg8.read_unread, harg9.read_unread, hX, View.ld_unit_zero (S := S2048x128) hz2, View.ld_unit_zero (S := S1x256x128) hz3,
    View.ld_unit_zero (S := S1x2048x128) hz3]
  rfl

theorem trips_eq : k0_t1_loop.trips = 8 := by decide +kernel

/-- The key buffer, stored whole, reads back what was stored. -/
theorem read_store (v : View sig .tc .vmem S2048x128 .bf16) (w : S2048x128.Idx → Elt F .bf16) :
    v.read (Elt F) (v.writes (Elt F) v.junk [⟨Rect.unit ![0, 0] S2048x128.size inb_S2048x128_S2048x128_0_0, w⟩]) = w := by
  funext y
  rw [View.read_writes_junk_apply_eq_canon]
  exact congrFun (View.canon_unit_zero (S := S2048x128) hz2 _ w) y

/-- Every piece the loop writes is one trip's. -/
theorem pb_mem (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x128 .f32) (harg10 : arg10.IsWhole) (arg11 : Memref sig .tc .vmem S1x128 .f32) (harg11 : arg11.IsWhole) (arg12 : Memref sig .tc .vmem S1x2048x128 .bf16) (harg12 : arg12.IsWhole) (arg13 : Memref sig .tc .vmem S2048x128 .bf16) (harg13 : arg13.IsWhole)
    (x0 : Vec F S1x2048x128 .bf16) (x1 : Vec F S1x2048x128 .bf16) (x2 : Vec F S1x2048x128 .bf16) (x3 : Vec F S1x256x128 .bf16) (x4 : Vec F S1x256x128 .bf16) (x5 : Vec F S2048x128 .f32) (x6 : Vec F S2048x128 .f32) (x7 : Vec F S2048x128 .f32) (x8 : Vec F S4x128 .f32) (x9 : Vec F S1x128 .f32) (kb : Vec F S2048x128 .bf16) (X13 : BufTy.Contents (Elt F) arg13.view.ty) (hX : arg13.view.read (Elt F) X13 = kb) :
    ∀ n : ℕ, ∀ p ∈ pb_k0_t1 (F := F) Variants.none c none i arg2 harg2 arg3 harg3 arg4 harg4 arg5 harg5 arg6 harg6 arg7 harg7 arg8 harg8 arg9 harg9 arg10 harg10 arg11 harg11 arg12 harg12 arg13 harg13 (k0_pay19 x8) x9 (harg2.unread x0) (harg4.unread x2) (harg5.unread x3) (harg6.unread x4) (harg7.unread x5) (harg8.unread x6) (harg9.unread x7) X13 n,
      ∃ k : Fin k0_t1_loop.trips, p = ⟨Rect.unit (s := S1x2048x128) (k0_off1 k) S1x256x128.size (k0_off1_inb k), tripVal k x0 x1 x2 x3 x4 x5 x6 x7 x8 x9 kb⟩ := by
  intro n
  induction n with
  | zero =>
      intro p hp
      rw [pb_k0_t1.eq_1] at hp
      cases hp
  | succ n ih =>
      intro p hp
      rw [pb_k0_t1.eq_2] at hp
      unfold pb_k0_t1Step at hp
      split at hp
      · rename_i h
        rw [trip_eq c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 kb X13 hX ⟨n, h⟩] at hp
        rcases List.mem_append.1 hp with h1 | h1
        · exact ⟨⟨n, h⟩, List.mem_singleton.1 h1⟩
        · exact ih p h1
      · exact ih p hp

theorem off1_eq : ∀ k : Fin k0_t1_loop.trips, k0_off1 k = ![0, 256 * k.val, 0] := by decide +kernel
theorem off2_eq : ∀ k : Fin k0_t1_loop.trips, k0_off2 k = ![256 * k.val, 0] := by decide +kernel

/-- The trip whose rows hold row `r`. -/
def trip (r : Fin 2048) : Fin k0_t1_loop.trips := ⟨r.val / 256, by rw [trips_eq]; omega⟩

/-- A trip's rows in the block. -/
theorem emb1 (k : Fin k0_t1_loop.trips) (r : Fin 256) (e : Fin 128) (hr : 256 * k.val + r.val < 2048) :
    (Rect.unit (s := S1x2048x128) (k0_off1 k) S1x256x128.size (k0_off1_inb k)).emb (ix3 0 r e) = ix3 0 ⟨256 * k.val + r.val, hr⟩ e := by
  funext a
  apply Fin.ext
  rw [Rect.emb_apply]
  fin_cases a <;> simp [off1_eq k, ix3]

theorem emb2 (k : Fin k0_t1_loop.trips) (r : Fin 256) (e : Fin 128) (hr : 256 * k.val + r.val < 2048) :
    (Rect.unit (s := S2048x128) (k0_off2 k) S256x128.size (k0_off2_inb k)).emb (ix2 r e) = ix2 ⟨256 * k.val + r.val, hr⟩ e := by
  funext a
  apply Fin.ext
  rw [Rect.emb_apply]
  fin_cases a <;> simp [off2_eq k, ix2]

/-- The kernel's output block, row by row: each row is its trip's. -/
def outG (x0 : Vec F S1x2048x128 .bf16) (x1 : Vec F S1x2048x128 .bf16) (x2 : Vec F S1x2048x128 .bf16) (x3 : Vec F S1x256x128 .bf16) (x4 : Vec F S1x256x128 .bf16) (x5 : Vec F S2048x128 .f32) (x6 : Vec F S2048x128 .f32) (x7 : Vec F S2048x128 .f32) (x8 : Vec F S4x128 .f32) (x9 : Vec F S1x128 .f32)  (y : S1x2048x128.Idx) : Elt F .bf16 :=
  tripVal (trip (y 1)) x0 x1 x2 x3 x4 x5 x6 x7 x8 x9 (k0_pay20 x1 x5 x6 x7) (ix3 0 ⟨(y 1).val % 256, Nat.mod_lt _ (by decide)⟩ (y 2))

theorem outG_emb (x0 : Vec F S1x2048x128 .bf16) (x1 : Vec F S1x2048x128 .bf16) (x2 : Vec F S1x2048x128 .bf16) (x3 : Vec F S1x256x128 .bf16) (x4 : Vec F S1x256x128 .bf16) (x5 : Vec F S2048x128 .f32) (x6 : Vec F S2048x128 .f32) (x7 : Vec F S2048x128 .f32) (x8 : Vec F S4x128 .f32) (x9 : Vec F S1x128 .f32)  (k : Fin k0_t1_loop.trips) (x : S1x256x128.Idx) :
    tripVal k x0 x1 x2 x3 x4 x5 x6 x7 x8 x9 (k0_pay20 x1 x5 x6 x7) x = outG x0 x1 x2 x3 x4 x5 x6 x7 x8 x9 ((Rect.unit (s := S1x2048x128) (k0_off1 k) S1x256x128.size (k0_off1_inb k)).emb x) := by
  have hk : k.val < 8 := trips_eq ▸ k.isLt
  obtain ⟨a, e, rfl⟩ : ∃ (a : Fin 256) (e : Fin 128), x = ix3 0 a e :=
    ⟨x 1, x 2, funext fun i => by fin_cases i; exact Subsingleton.elim (α := Fin 1) _ _; rfl; rfl⟩
  have hr : 256 * k.val + a.val < 2048 := by omega
  rw [emb1 k a e hr]
  have e1 : trip ⟨256 * k.val + a.val, hr⟩ = k := Fin.ext (by unfold trip; dsimp only; omega)
  have e2 : (⟨(256 * k.val + a.val) % 256, Nat.mod_lt _ (by decide)⟩ : Fin 256) = a := Fin.ext (by dsimp only; omega)
  show _ = tripVal (trip ⟨256 * k.val + a.val, hr⟩) x0 x1 x2 x3 x4 x5 x6 x7 x8 x9 (k0_pay20 x1 x5 x6 x7) (ix3 0 ⟨(256 * k.val + a.val) % 256, Nat.mod_lt _ (by decide)⟩ e)
  rw [e1, e2]

theorem out_eq (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x128 .f32) (harg10 : arg10.IsWhole) (arg11 : Memref sig .tc .vmem S1x128 .f32) (harg11 : arg11.IsWhole) (arg12 : Memref sig .tc .vmem S1x2048x128 .bf16) (harg12 : arg12.IsWhole) (arg13 : Memref sig .tc .vmem S2048x128 .bf16) (harg13 : arg13.IsWhole)
    (x0 : Vec F S1x2048x128 .bf16) (x1 : Vec F S1x2048x128 .bf16) (x2 : Vec F S1x2048x128 .bf16) (x3 : Vec F S1x256x128 .bf16) (x4 : Vec F S1x256x128 .bf16) (x5 : Vec F S2048x128 .f32) (x6 : Vec F S2048x128 .f32) (x7 : Vec F S2048x128 .f32) (x8 : Vec F S4x128 .f32) (x9 : Vec F S1x128 .f32)  (y : S1x2048x128.Idx) :
    out0_A_10 (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y = outG x0 x1 x2 x3 x4 x5 x6 x7 x8 x9 y := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  have key : ∀ p ∈ (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1, ∀ x, p.2 x = outG x0 x1 x2 x3 x4 x5 x6 x7 x8 x9 (p.1.emb x) := by
    unfold kernelRun0_A
    dsimp only
    sl_unfold_words
    simp only [View.readAt_eq_ld, harg3.read_unread, harg7.read_unread, harg8.read_unread, harg9.read_unread, harg10.read_unread, harg11.read_unread,
      View.ld_unit_zero (S := S2048x128) hz2, View.ld_unit_zero (S := S4x128) hz2, View.ld_unit_zero (S := S1x128) hz2, View.ld_unit_zero (S := S1x2048x128) hz3]
    intro p hp x
    obtain ⟨k, rfl⟩ := pb_mem c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (k0_pay20 x1 x5 x6 x7) _
      (read_store _ _) _ p hp
    exact outG_emb x0 x1 x2 x3 x4 x5 x6 x7 x8 x9 k x
  exact View.canon_apply_of_pieces (outG x0 x1 x2 x3 x4 x5 x6 x7 x8 x9) _ key y (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y)

end Cert.KernelIdeal.Value
-- ==== Proof.Attn.lean ====
/- One row of differential attention over the extended reals, in the plain form the reference writes. -/
module

public import Idealize.ShloMosaic.Lib.Pointwise

@[expose] public section

noncomputable section

namespace Cert.Attn

open Idealize.ShloMosaic

/-- The rotation frequency of pair `f` of an axis. -/
def inv (f : ℕ) : EReal :=
  Ideal.pow (Ideal.ofBits FTy.f32 1176256512#32)
    (Ideal.div (-FloatOps.sitofp (F := Ideal) FTy.f32 (BitVec.ofNat 32 f)) (Ideal.ofBits FTy.f32 1098907648#32))

/-- The rotation angle of token `n` on axis `a` (its row of the 64-wide grid, or its column) for pair `f`. -/
def ang (n a f : ℕ) : EReal :=
  if a < 1 then FloatOps.sitofp (F := Ideal) FTy.f32 (BitVec.ofNat 32 (n / 64)) * inv f
  else FloatOps.sitofp (F := Ideal) FTy.f32 (BitVec.ofNat 32 (n % 64)) * inv f

/-- Axial rotary embedding of one 64-entry head vector at token `n`. -/
def rope (n : ℕ) (x : Fin 64 → EReal) (d : Fin 64) : EReal :=
  if h : d.val / 16 % 2 < 1 then
    x d * Ideal.cos (ang n (d / 32) (d % 16)) - x ⟨d + 16, by omega⟩ * Ideal.sin (ang n (d / 32) (d % 16))
  else
    x d * Ideal.cos (ang n (d / 32) (d % 16)) + x ⟨d - 16, by omega⟩ * Ideal.sin (ang n (d / 32) (d % 16))

/-- The scaled score of a query against a key. -/
def score (q k : Fin 64 → EReal) : EReal := (∑ d, q d * k d) * Ideal.ofBits FTy.f32 1040187392#32

/-- The keys of one head in order: the context's, as they are, then the latents', rotated. -/
def key (kc : Fin 256 → Fin 64 → EReal) (kl : Fin 2048 → Fin 64 → EReal) (j : Fin 2304) : Fin 64 → EReal :=
  if h : j.val < 256 then kc ⟨j, h⟩ else rope (j - 256) (kl ⟨j - 256, by omega⟩)

/-- The greatest entry of a row. -/
def top (s : Fin 2304 → EReal) : EReal := Finset.univ.fold max (Ideal.ofBits FTy.f32 4286578688#32) s

/-- The softmax of a row. -/
def softmax (s : Fin 2304 → EReal) (j : Fin 2304) : EReal :=
  Ideal.div (Ideal.exp (s j - top s)) (∑ x, Ideal.exp (s x - top s))

/-- The values weighted by the difference of the two sub-heads' softmaxes. -/
def attend (s0 s1 v : Fin 2304 → EReal) (lam : EReal) : EReal := ∑ j, v j * (softmax s0 j - lam * softmax s1 j)

/-- The root-mean-square norm of a 128-entry row, its gain, and the constant factor after it. -/
def norm (o : Fin 128 → EReal) (g : EReal) (e : Fin 128) : EReal :=
  o e * Ideal.rsqrt (Ideal.div (∑ x, o x * o x) (Ideal.ofBits FTy.f32 1124073472#32) + Ideal.ofBits FTy.f32 925353388#32)
    * g * Ideal.ofBits FTy.f32 1061997773#32

/-- The weight of the second softmax. -/
def lam (lq1 lk1 lq2 lk2 : Fin 64 → EReal) : EReal :=
  Ideal.exp (∑ x, lq1 x * lk1 x) - Ideal.exp (∑ x, lq2 x * lk2 x) + Ideal.ofBits FTy.f32 1045220557#32

end Cert.Attn

end
-- ==== Proof.Row.lean ====
/- One row of the blocked kernel over the extended reals, in the plain form its tiles compute. -/
module

public import proofs.«01_k».proof.Proof.Attn

@[expose] public section

noncomputable section

namespace Cert.Attn

open Idealize.ShloMosaic

/-- The rotation of a 128-lane row (two sub-heads side by side) by its three table rows. -/
def rot (x co sa sb : Fin 128 → EReal) (l : Fin 128) : EReal :=
  x l * co l + x ⟨(l + 128 - 112) % 128, Nat.mod_lt _ (by decide)⟩ * sa l + x ⟨(l + 128 - 16) % 128, Nat.mod_lt _ (by decide)⟩ * sb l

/-- The first sub-head's lanes. -/
def lo (q : Fin 128 → EReal) (l : Fin 128) : EReal := if l.val < 64 then q l else 0
/-- The second sub-head's lanes. -/
def hi (q : Fin 128 → EReal) (l : Fin 128) : EReal := if l.val < 64 then 0 else q l

/-- The greatest score of a row, over the latents' scores and then the context's. -/
def topK (sl : Fin 2048 → EReal) (sc : Fin 256 → EReal) : EReal :=
  max (Finset.univ.fold max (Ideal.ofBits FTy.f32 4286578688#32) sl) (Finset.univ.fold max (Ideal.ofBits FTy.f32 4286578688#32) sc)

/-- The reciprocal of a row's total weight. -/
def invK (sl : Fin 2048 → EReal) (sc : Fin 256 → EReal) : EReal :=
  Ideal.div 1 (∑ j, Ideal.exp (sl j - topK sl sc) + ∑ j, Ideal.exp (sc j - topK sl sc))

/-- A score's weight, before the total divides it. -/
def wK (sl : Fin 2048 → EReal) (sc : Fin 256 → EReal) (s : EReal) : EReal := Ideal.exp (s - topK sl sc)

/-- One output entry before the normalisation. -/
def attK (sl0 : Fin 2048 → EReal) (sc0 : Fin 256 → EReal) (sl1 : Fin 2048 → EReal) (sc1 : Fin 256 → EReal) (lam : EReal)
    (vl : Fin 2048 → EReal) (vc : Fin 256 → EReal) : EReal :=
  ∑ j, (wK sl0 sc0 (sl0 j) * invK sl0 sc0 - wK sl1 sc1 (sl1 j) * (lam * invK sl1 sc1)) * vl j
    + ∑ j, (wK sl0 sc0 (sc0 j) * invK sl0 sc0 - wK sl1 sc1 (sc1 j) * (lam * invK sl1 sc1)) * vc j

/-- The row's normalisation, by a gain that already carries the constant factor. -/
def normK (o : Fin 128 → EReal) (g : EReal) (e : Fin 128) : EReal :=
  o e * Ideal.rsqrt (Ideal.div (∑ x, o x * o x) (Ideal.ofBits FTy.f32 1124073472#32) + Ideal.ofBits FTy.f32 925353388#32) * g

/-- A query row against a key row, over all 128 lanes. -/
def dotK (q k : Fin 128 → EReal) : EReal := ∑ l, q l * k l

/-- The whole row, from the scaled rotated query row, the rotated keys, the context's keys and both value blocks. -/
def rowK (q : Fin 128 → EReal) (kl : Fin 2048 → Fin 128 → EReal) (kc : Fin 256 → Fin 128 → EReal) (lam g : EReal)
    (vl : Fin 2048 → Fin 128 → EReal) (vc : Fin 256 → Fin 128 → EReal) (e : Fin 128) : EReal :=
  normK (fun e => attK (fun j => dotK (lo q) (kl j)) (fun j => dotK (lo q) (kc j)) (fun j => dotK (hi q) (kl j)) (fun j => dotK (hi q) (kc j)) lam
    (fun j => vl j e) (fun j => vc j e)) (g * Ideal.ofBits FTy.f32 1061997773#32) e

/-- The cosine table of the kernel, one lane of a token's row. -/
def tco (n : ℕ) (l : Fin 128) : EReal := Ideal.cos (ang n (l.val % 64 / 32) (l.val % 16))
/-- The table of the lanes that take the entry sixteen lanes on, with the sine negated; zero in the others. -/
def tsa (n : ℕ) (l : Fin 128) : EReal := if l.val / 16 % 2 < 1 then -Ideal.sin (ang n (l.val % 64 / 32) (l.val % 16)) else 0
/-- The table of the lanes that take the entry sixteen lanes back; zero in the others. -/
def tsb (n : ℕ) (l : Fin 128) : EReal := if l.val / 16 % 2 < 1 then 0 else Ideal.sin (ang n (l.val % 64 / 32) (l.val % 16))

/-- The second softmax's weight, from the four parameter rows. -/
def lamK (x : Fin 4 → Fin 128 → EReal) : EReal :=
  Ideal.exp (∑ l, x 0 l * x 1 l) - Ideal.exp (∑ l, x 2 l * x 3 l) + Ideal.ofBits FTy.f32 1045220557#32

end Cert.Attn

end
-- ==== Proof.Pay.lean ====
module
public import proofs.«01_k».proof.Proof.Gen.KernelIdeal.Skeleton
public import proofs.«01_k».proof.Proof.Row
@[expose] public section
set_option maxRecDepth 16384
noncomputable section
namespace Cert.KernelIdeal.Gen
open Cert.KernelIdeal
open Idealize.ShloMosaic Idealize.ShloMosaic.TcCoe Idealize.SL.Sem Idealize.ShloMosaic.Tactic

theorem lane_lo : ∀ l : Fin 128, IntOp.xori (IntOp.xori (IntOp.cmpi CmpIPredicate.sge (BitVec.ofNat 32 l.val) 64#32) 0#1) 1#1
    = if l.val < 64 then 1#1 else 0#1 := by decide +kernel
theorem lane_hi : ∀ l : Fin 128, IntOp.xori (IntOp.xori (IntOp.cmpi CmpIPredicate.sge (BitVec.ofNat 32 l.val) 64#32) 1#1) 1#1
    = if l.val < 64 then 0#1 else 1#1 := by decide +kernel
theorem k0_pay1_apply (g : Vec Ideal S1x128 .f32) (l : Fin 128) :
    k0_pay1 g (ix2 0 l) = g (ix2 0 l) * Ideal.ofBits FTy.f32 1061997773#32 := by
  pointwise [k0_pay1]
  first | done | rfl
theorem k0_pay2_apply (o : FVec Ideal S256x128 .bf16) (r : Fin 256) (l : Fin 128) :
    k0_pay2 o (ix3 0 r l) = o (ix2 r l) := by
  pointwise [k0_pay2]
theorem k0_pay3_apply (x : Vec Ideal S1x256x128 .bf16) (co sa sb : Vec Ideal S256x128 .f32) (r : Fin 256) (l : Fin 128) :
    k0_pay3 x co sa sb (ix2 r l) = (Attn.rot (fun l => x (ix3 0 r l)) (fun l => co (ix2 r l)) (fun l => sa (ix2 r l)) (fun l => sb (ix2 r l))) l * Ideal.ofBits FTy.f32 1040187392#32 := by
  pointwise [k0_pay3]
  rfl
theorem k0_pay4_apply (x : Vec Ideal S1x256x128 .bf16) (co sa sb : Vec Ideal S256x128 .f32) (r : Fin 256) (l : Fin 128) :
    k0_pay4 x co sa sb (ix2 r l) = Attn.lo (fun l => k0_pay3 x co sa sb (ix2 r l)) l := by
  pointwise [k0_pay4]
  rw [lane_lo]
  unfold Attn.lo
  split <;> rfl
theorem k0_pay5_apply (x : Vec Ideal S1x256x128 .bf16) (co sa sb : Vec Ideal S256x128 .f32) (kb : Vec Ideal S2048x128 .bf16) (r : Fin 256) (j : Fin 2048) :
    k0_pay5 x co sa sb kb (ix2 r j) = ∑ l, k0_pay4 x co sa sb (ix2 r l) * kb (ix2 j l) := by
  pointwise [k0_pay5]
theorem k0_pay6_apply (x : Vec Ideal S1x256x128 .bf16) (co sa sb : Vec Ideal S256x128 .f32) (kb : Vec Ideal S2048x128 .bf16) (r : Fin 256) :
    k0_pay6 x co sa sb kb (ix2 r 0) = Finset.univ.fold max (Ideal.ofBits FTy.f32 4286578688#32) fun j => k0_pay5 x co sa sb kb (ix2 r j) := by
  pointwise [k0_pay6]
theorem k0_pay7_apply (q : FVec Ideal S256x128 .bf16) (kc : Vec Ideal S1x256x128 .bf16) (r : Fin 256) (j : Fin 256) :
    k0_pay7 q kc (ix2 r j) = ∑ l, q (ix2 r l) * kc (ix3 0 j l) := by
  pointwise [k0_pay7]
theorem k0_pay8_apply (q : FVec Ideal S256x128 .bf16) (m : FVec Ideal S256x1 .f32) (kc : Vec Ideal S1x256x128 .bf16) (r : Fin 256) :
    k0_pay8 q m kc (ix2 r 0) = max (m (ix2 r 0)) (Finset.univ.fold max (Ideal.ofBits FTy.f32 4286578688#32) fun j => k0_pay7 q kc (ix2 r j)) := by
  pointwise [k0_pay8]
theorem k0_pay9_apply (q : FVec Ideal S256x128 .bf16) (m : FVec Ideal S256x1 .f32) (kc : Vec Ideal S1x256x128 .bf16) (r : Fin 256) (j : Fin 256) :
    k0_pay9 q m kc (ix2 r j) = Ideal.exp (k0_pay7 q kc (ix2 r j) - k0_pay8 q m kc (ix2 r 0)) := by
  pointwise [k0_pay9]
theorem k0_pay10_apply (q : FVec Ideal S256x128 .bf16) (s : FVec Ideal S256x2048 .f32) (m : FVec Ideal S256x1 .f32) (kc : Vec Ideal S1x256x128 .bf16) (r : Fin 256) (j : Fin 2048) :
    k0_pay10 q s m kc (ix2 r j) = Ideal.exp (s (ix2 r j) - k0_pay8 q m kc (ix2 r 0)) := by
  pointwise [k0_pay10]
theorem k0_pay11_apply (q : FVec Ideal S256x128 .bf16) (s : FVec Ideal S256x2048 .f32) (m : FVec Ideal S256x1 .f32) (kc : Vec Ideal S1x256x128 .bf16) (r : Fin 256) :
    k0_pay11 q s m kc (ix2 r 0) = Ideal.div 1 (∑ x, k0_pay10 q s m kc (ix2 r x) + ∑ x, k0_pay9 q m kc (ix2 r x)) := by
  pointwise [k0_pay11]
theorem k0_pay12_apply (q : FVec Ideal S256x128 .f32) (r : Fin 256) (l : Fin 128) :
    k0_pay12 q (iota .tc S256x128 32 [1] iota_S256x128_d1_w32) (ix2 r l) = Attn.hi (fun l => q (ix2 r l)) l := by
  pointwise [k0_pay12]
  rw [lane_hi]
  unfold Attn.hi
  split <;> rfl
theorem k0_pay13_apply (q : FVec Ideal S256x128 .f32) (i : IVec S256x128 32) (kb : Vec Ideal S2048x128 .bf16) (r : Fin 256) (j : Fin 2048) :
    k0_pay13 q i kb (ix2 r j) = ∑ l, k0_pay12 q i (ix2 r l) * kb (ix2 j l) := by
  pointwise [k0_pay13]
theorem k0_pay14_apply (q : FVec Ideal S256x128 .f32) (i : IVec S256x128 32) (kc : Vec Ideal S1x256x128 .bf16) (r : Fin 256) (j : Fin 256) :
    k0_pay14 q i kc (ix2 r j) = ∑ l, k0_pay12 q i (ix2 r l) * kc (ix3 0 j l) := by
  pointwise [k0_pay14]
theorem k0_pay15_apply (q : FVec Ideal S256x128 .f32) (i : IVec S256x128 32) (kb : Vec Ideal S2048x128 .bf16) (kc : Vec Ideal S1x256x128 .bf16) (r : Fin 256) :
    k0_pay15 q i kb kc (ix2 r 0) = Attn.topK (fun j => k0_pay13 q i kb (ix2 r j)) (fun j => k0_pay14 q i kc (ix2 r j)) := by
  pointwise [k0_pay15]
  rfl
theorem k0_pay16_apply (q : FVec Ideal S256x128 .f32) (i : IVec S256x128 32) (kb : Vec Ideal S2048x128 .bf16) (kc : Vec Ideal S1x256x128 .bf16) (r : Fin 256) (j : Fin 256) :
    k0_pay16 q i kb kc (ix2 r j) = Ideal.exp (k0_pay14 q i kc (ix2 r j) - k0_pay15 q i kb kc (ix2 r 0)) := by
  pointwise [k0_pay16]
theorem k0_pay17_apply (q : FVec Ideal S256x128 .f32) (i : IVec S256x128 32) (kb : Vec Ideal S2048x128 .bf16) (kc : Vec Ideal S1x256x128 .bf16) (r : Fin 256) (j : Fin 2048) :
    k0_pay17 q i kb kc (ix2 r j) = k0_pay13 q i kb (ix2 r j) - k0_pay15 q i kb kc (ix2 r 0) := by
  pointwise [k0_pay17]
theorem k0_pay18_apply (lam : FVec Ideal S1x1 .f32) (g : FVec Ideal S1x128 .f32) (ec0 : FVec Ideal S256x256 .f32) (el0 : FVec Ideal S256x2048 .f32) (i0 : FVec Ideal S256x1 .f32) (ec1 : FVec Ideal S256x256 .f32) (d1 : FVec Ideal S256x2048 .f32) (v : Vec Ideal S1x2048x128 .bf16) (vc : Vec Ideal S1x256x128 .bf16) (r : Fin 256) (e : Fin 128) :
    k0_pay18 lam g ec0 el0 i0 ec1 d1 v vc (ix2 r e) = Attn.normK (fun e => ∑ x, (el0 (ix2 r x) * i0 (ix2 r 0) - Ideal.exp (d1 (ix2 r x)) * (lam (ix2 0 0) * Ideal.div 1 (∑ x, Ideal.exp (d1 (ix2 r x)) + ∑ x, ec1 (ix2 r x)))) * v (ix3 0 x e)
        + ∑ x, (ec0 (ix2 r x) * i0 (ix2 r 0) - ec1 (ix2 r x) * (lam (ix2 0 0) * Ideal.div 1 (∑ x, Ideal.exp (d1 (ix2 r x)) + ∑ x, ec1 (ix2 r x)))) * vc (ix3 0 x e)) (g (ix2 0 e)) e := by
  pointwise [k0_pay18]
  rfl
theorem k0_pay19_apply (x : Vec Ideal S4x128 .f32) :
    k0_pay19 x (ix2 0 0) = Attn.lamK fun n l => x (ix2 n l) := by
  pointwise [k0_pay19]
  rfl
theorem k0_pay20_apply (x : Vec Ideal S1x2048x128 .bf16) (co sa sb : Vec Ideal S2048x128 .f32) (r : Fin 2048) (l : Fin 128) :
    k0_pay20 x co sa sb (ix2 r l) = (Attn.rot (fun l => x (ix3 0 r l)) (fun l => co (ix2 r l)) (fun l => sa (ix2 r l)) (fun l => sb (ix2 r l))) l := by
  pointwise [k0_pay20]
  rfl

section
variable (x : Vec Ideal S1x256x128 .bf16) (co sa sb : Vec Ideal S256x128 .f32) (kb : Vec Ideal S2048x128 .bf16) (kc : Vec Ideal S1x256x128 .bf16) (r : Fin 256)
  (I : IVec S256x128 32)

/-- A query row of the trip, rotated and scaled. -/
def qRow (l : Fin 128) : EReal := (Attn.rot (fun l => x (ix3 0 r l)) (fun l => co (ix2 r l)) (fun l => sa (ix2 r l)) (fun l => sb (ix2 r l))) l * Ideal.ofBits FTy.f32 1040187392#32

/-- The first sub-head's scores against the latents. -/
def sl0 (j : Fin 2048) : EReal := Attn.dotK (Attn.lo (qRow x co sa sb r)) fun l => kb (ix2 j l)
/-- The first sub-head's scores against the context. -/
def sc0 (j : Fin 256) : EReal := Attn.dotK (Attn.lo (qRow x co sa sb r)) fun l => kc (ix3 0 j l)
/-- The second sub-head's scores against the latents. -/
def sl1 (j : Fin 2048) : EReal := Attn.dotK (Attn.hi (qRow x co sa sb r)) fun l => kb (ix2 j l)
/-- The second sub-head's scores against the context. -/
def sc1 (j : Fin 256) : EReal := Attn.dotK (Attn.hi (qRow x co sa sb r)) fun l => kc (ix3 0 j l)

theorem q_eq : (fun l => k0_pay3 x co sa sb (ix2 r l)) = qRow x co sa sb r := funext fun l => k0_pay3_apply x co sa sb r l
theorem sl0_eq (j : Fin 2048) : k0_pay5 x co sa sb kb (ix2 r j) = sl0 x co sa sb kb r j := by
  rw [k0_pay5_apply]; simp only [k0_pay4_apply, q_eq]; rfl
theorem sc0_eq (j : Fin 256) : k0_pay7 (k0_pay4 x co sa sb) kc (ix2 r j) = sc0 x co sa sb kc r j := by
  rw [k0_pay7_apply]; simp only [k0_pay4_apply, q_eq]; rfl
theorem sl1_eq (hI : ∀ (q : FVec Ideal S256x128 .f32) (r : Fin 256) (l : Fin 128), k0_pay12 q I (ix2 r l) = Attn.hi (fun l => q (ix2 r l)) l) (j : Fin 2048) : k0_pay13 (k0_pay3 x co sa sb) I kb (ix2 r j) = sl1 x co sa sb kb r j := by
  rw [k0_pay13_apply]; simp only [hI, q_eq]; rfl
theorem sc1_eq (hI : ∀ (q : FVec Ideal S256x128 .f32) (r : Fin 256) (l : Fin 128), k0_pay12 q I (ix2 r l) = Attn.hi (fun l => q (ix2 r l)) l) (j : Fin 256) : k0_pay14 (k0_pay3 x co sa sb) I kc (ix2 r j) = sc1 x co sa sb kc r j := by
  rw [k0_pay14_apply]; simp only [hI, q_eq]; rfl
theorem top0_eq : k0_pay8 (k0_pay4 x co sa sb) (k0_pay6 x co sa sb kb) kc (ix2 r 0) = Attn.topK (sl0 x co sa sb kb r) (sc0 x co sa sb kc r) := by
  rw [k0_pay8_apply, k0_pay6_apply]; simp only [sl0_eq, sc0_eq]; rfl
theorem top1_eq (hI : ∀ (q : FVec Ideal S256x128 .f32) (r : Fin 256) (l : Fin 128), k0_pay12 q I (ix2 r l) = Attn.hi (fun l => q (ix2 r l)) l) : k0_pay15 (k0_pay3 x co sa sb) I kb kc (ix2 r 0) = Attn.topK (sl1 x co sa sb kb r) (sc1 x co sa sb kc r) := by
  rw [k0_pay15_apply]; simp only [sl1_eq (hI := hI), sc1_eq (hI := hI)]
theorem ec0_eq (j : Fin 256) : k0_pay9 (k0_pay4 x co sa sb) (k0_pay6 x co sa sb kb) kc (ix2 r j)
    = Attn.wK (sl0 x co sa sb kb r) (sc0 x co sa sb kc r) (sc0 x co sa sb kc r j) := by
  rw [k0_pay9_apply, top0_eq, sc0_eq]; rfl
theorem el0_eq (j : Fin 2048) : k0_pay10 (k0_pay4 x co sa sb) (k0_pay5 x co sa sb kb) (k0_pay6 x co sa sb kb) kc (ix2 r j)
    = Attn.wK (sl0 x co sa sb kb r) (sc0 x co sa sb kc r) (sl0 x co sa sb kb r j) := by
  rw [k0_pay10_apply, top0_eq, sl0_eq]; rfl
theorem inv0_eq : k0_pay11 (k0_pay4 x co sa sb) (k0_pay5 x co sa sb kb) (k0_pay6 x co sa sb kb) kc (ix2 r 0)
    = Attn.invK (sl0 x co sa sb kb r) (sc0 x co sa sb kc r) := by
  rw [k0_pay11_apply]; simp only [ec0_eq, el0_eq]; rfl
theorem ec1_eq (hI : ∀ (q : FVec Ideal S256x128 .f32) (r : Fin 256) (l : Fin 128), k0_pay12 q I (ix2 r l) = Attn.hi (fun l => q (ix2 r l)) l) (j : Fin 256) : k0_pay16 (k0_pay3 x co sa sb) I kb kc (ix2 r j)
    = Attn.wK (sl1 x co sa sb kb r) (sc1 x co sa sb kc r) (sc1 x co sa sb kc r j) := by
  rw [k0_pay16_apply, top1_eq (hI := hI), sc1_eq (hI := hI)]; rfl
theorem el1_eq (hI : ∀ (q : FVec Ideal S256x128 .f32) (r : Fin 256) (l : Fin 128), k0_pay12 q I (ix2 r l) = Attn.hi (fun l => q (ix2 r l)) l) (j : Fin 2048) : Ideal.exp (k0_pay17 (k0_pay3 x co sa sb) I kb kc (ix2 r j))
    = Attn.wK (sl1 x co sa sb kb r) (sc1 x co sa sb kc r) (sl1 x co sa sb kb r j) := by
  rw [k0_pay17_apply, top1_eq (hI := hI), sl1_eq (hI := hI)]; rfl
theorem inv1_eq (sl : Fin 2048 → EReal) (sc : Fin 256 → EReal) :
    Ideal.div 1 (∑ j, Attn.wK sl sc (sl j) + ∑ j, Attn.wK sl sc (sc j)) = Attn.invK sl sc := rfl
end

/-- A trip's stored row, from the rows it reads. -/
theorem trip_row (I : IVec S256x128 32) (hI : ∀ (q : FVec Ideal S256x128 .f32) (r : Fin 256) (l : Fin 128), k0_pay12 q I (ix2 r l) = Attn.hi (fun l => q (ix2 r l)) l) (x : Vec Ideal S1x256x128 .bf16) (co sa sb : Vec Ideal S256x128 .f32) (kb : Vec Ideal S2048x128 .bf16) (kc : Vec Ideal S1x256x128 .bf16)
    (lp : Vec Ideal S4x128 .f32) (g : Vec Ideal S1x128 .f32) (v : Vec Ideal S1x2048x128 .bf16) (vc : Vec Ideal S1x256x128 .bf16) (r : Fin 256) (e : Fin 128) :
    k0_pay2 (k0_pay18 (k0_pay19 lp) (k0_pay1 g) (k0_pay9 (k0_pay4 x co sa sb) (k0_pay6 x co sa sb kb) kc)
      (k0_pay10 (k0_pay4 x co sa sb) (k0_pay5 x co sa sb kb) (k0_pay6 x co sa sb kb) kc)
      (k0_pay11 (k0_pay4 x co sa sb) (k0_pay5 x co sa sb kb) (k0_pay6 x co sa sb kb) kc)
      (k0_pay16 (k0_pay3 x co sa sb) I kb kc)
      (k0_pay17 (k0_pay3 x co sa sb) I kb kc) v vc) (ix3 0 r e)
    = Attn.rowK (qRow x co sa sb r) (fun j l => kb (ix2 j l)) (fun j l => kc (ix3 0 j l))
        (Attn.lamK fun n l => lp (ix2 n l)) (g (ix2 0 e)) (fun j e => v (ix3 0 j e)) (fun j e => vc (ix3 0 j e)) e := by
  rw [k0_pay2_apply, k0_pay18_apply]
  unfold Attn.rowK
  rw [k0_pay1_apply]
  refine congrArg (fun o => Attn.normK o _ e) (funext fun e => ?_)
  simp only [k0_pay19_apply, ec0_eq, el0_eq, inv0_eq, ec1_eq (hI := hI), el1_eq (hI := hI), inv1_eq]
  rfl
end Cert.KernelIdeal.Gen
-- ==== Proof.Tables.lean ====
module
public import proofs.«01_k».proof.Proof.Gen.KernelIdeal.Value
public import proofs.«01_k».proof.Proof.Row
public import Idealize.ShloMosaic.Lib.Pointwise
public import Idealize.ShloMosaic.Lib.Pipeline.ValueKit
@[expose] public section
set_option maxRecDepth 16384
noncomputable section
namespace Cert.KernelIdeal.Value
open Cert.KernelIdeal Cert.KernelIdeal.Gen
open Idealize.ShloMosaic Idealize.ShloMosaic.TcCoe Idealize.SL.Sem Idealize.ShloMosaic.Tactic
variable (m : (ℓ : Loc nD τ sig) → Buf (Elt Ideal) ℓ)

theorem row_word : ∀ n : Fin 2048, Scalar.select
    (IntOp.andi
      (IntOp.cmpi CmpIPredicate.ne (if BitVec.ofNat 32 n.val = 0 then (0 : BitVec 32) else if (BitVec.ofNat 32 n.val).msb = true then -1 else 1)
        (if (64#32 : BitVec 32) = 0 then 0 else if BitVec.msb 64#32 = true then -1 else 1))
      (IntOp.cmpi CmpIPredicate.ne (IntOp.remsi ArithUnit.host (BitVec.ofNat 32 n.val) 64#32) 0#32))
    (IntOp.subi (IntOp.divsi ArithUnit.host (BitVec.ofNat 32 n.val) 64#32) 1#32)
    (IntOp.divsi ArithUnit.host (BitVec.ofNat 32 n.val) 64#32) = BitVec.ofNat 32 (n.val / 64) := by decide +kernel
theorem col_word : ∀ n : Fin 2048, Scalar.select
    (IntOp.andi
      (IntOp.cmpi CmpIPredicate.ne
        (IntOp.cmpi CmpIPredicate.slt (IntOp.remsi ArithUnit.host (BitVec.ofNat 32 n.val) (Scalar.select (IntOp.cmpi CmpIPredicate.eq 64#32 0#32) (1#32) 64#32)) 0#32)
        (IntOp.cmpi CmpIPredicate.slt (Scalar.select (IntOp.cmpi CmpIPredicate.eq 64#32 0#32) (1#32) 64#32) 0#32))
      (IntOp.cmpi CmpIPredicate.ne (IntOp.remsi ArithUnit.host (BitVec.ofNat 32 n.val) (Scalar.select (IntOp.cmpi CmpIPredicate.eq 64#32 0#32) (1#32) 64#32)) 0#32))
    (IntOp.addi (IntOp.remsi ArithUnit.host (BitVec.ofNat 32 n.val) (Scalar.select (IntOp.cmpi CmpIPredicate.eq 64#32 0#32) (1#32) 64#32)) (Scalar.select (IntOp.cmpi CmpIPredicate.eq 64#32 0#32) (1#32) 64#32))
    (IntOp.remsi ArithUnit.host (BitVec.ofNat 32 n.val) (Scalar.select (IntOp.cmpi CmpIPredicate.eq 64#32 0#32) (1#32) 64#32))
    = BitVec.ofNat 32 (n.val % 64) := by decide +kernel

theorem lamp_eq (c : Dev nD) (n : Fin 4) (l : Fin 128) : (V m c main_v5 : FVec Ideal S4x128 .f32) (ix2 n l)
     = if h : l.val < 64 then
        (if n.val < 1 then m ((c.tc : Thread nD τ).loc main_arg2) (ix1 ⟨l, h⟩) else if n.val < 2 then m ((c.tc : Thread nD τ).loc main_arg3) (ix1 ⟨l, h⟩)
         else if n.val < 3 then m ((c.tc : Thread nD τ).loc main_arg4) (ix1 ⟨l, h⟩) else m ((c.tc : Thread nD τ).loc main_arg5) (ix1 ⟨l, h⟩))
       else (0 : EReal) := by
  unfold V
  simp only [List.flatten_cons, List.flatten_nil, List.cons_append, List.nil_append, hostOps0, hostOps0_1, hostOps0_2, hostOps0_3, hostOps0_4, hostOps0_5, hostOps0_6]
  after_results_simp
  try simp only [Matrix.cons_val_zero, Matrix.cons_val_one, Matrix.cons_val_two, Matrix.cons_val_three, Matrix.cons_val]
  simp only [StableHlo.TRef.ofBuf_toBuf, StableHlo.TRef.ofBuf, StableHlo.TRef.toBuf, cast_eq]
  pointwise
  simp only [Matrix.vecHead, Matrix.vecTail, Function.comp_apply, Matrix.cons_val_zero, Matrix.cons_val_succ, Matrix.cons_val_one]
  try after_results_simp
  have e1 : n.val - 1 < 1 ↔ n.val < 2 := by omega
  have e2 : n.val - 1 - 1 < 1 ↔ n.val < 3 := by omega
  simp only [Fin.succ_zero_eq_one, Fin.succ_one_eq_two, Matrix.cons_val]
  after_results_simp
  pointwise
  simp only [e1, e2]
  have e0 : FloatOps.sitofp (F := Ideal) FTy.f32 0#32 = (0 : EReal) := by
    show (((0#32 : BitVec 32).toInt : ℝ) : EReal) = 0
    simp
  rw [e0]
  rfl

theorem gain_eq (c : Dev nD) (l : Fin 128) : (V m c main_v50 : FVec Ideal S1x128 .f32) (ix2 0 l) = m ((c.tc : Thread nD τ).loc main_arg6) (ix1 l) := by
  unfold V
  simp only [List.flatten_cons, List.flatten_nil, List.cons_append, List.nil_append, hostOps0, hostOps0_1, hostOps0_2, hostOps0_3, hostOps0_4, hostOps0_5, hostOps0_6]
  after_results_simp
  pointwise

theorem cos_eq (c : Dev nD) (n : Fin 2048) (l : Fin 128) : (V m c main_v34 : FVec Ideal S2048x128 .f32) (ix2 n l)
    = Ideal.cos (Attn.ang n (l.val % 64 / 32) (l.val % 16)) := by
  unfold V
  simp only [List.flatten_cons, List.flatten_nil, List.cons_append, List.nil_append, hostOps0, hostOps0_1, hostOps0_2, hostOps0_3, hostOps0_4, hostOps0_5, hostOps0_6]
  after_results_simp
  pointwise
  after_results_simp
  pointwise
  after_results_simp
  simp only [StableHlo.TRef.ofBuf_toBuf, StableHlo.TRef.ofBuf, StableHlo.TRef.toBuf, cast_eq]
  pointwise
  simp only [id, constantI, show l.val % 64 / 16 % 2 = l.val / 16 % 2 by omega, show l.val % 64 % 16 = l.val % 16 by omega]
  unfold Attn.ang Attn.inv
  by_cases h1 : l.val / 16 % 2 < 1 <;> by_cases h2 : l.val % 64 / 32 < 1 <;>
    simp only [h1, h2, dite_true, dite_false, if_true, if_false] <;>
    first
      | rfl
      | exact congrArg Ideal.cos (congrArg (· * _) (congrArg (FloatOps.sitofp (F := Ideal) FTy.f32) (row_word n)))
      | exact congrArg Ideal.cos (congrArg (· * _) (congrArg (FloatOps.sitofp (F := Ideal) FTy.f32) (col_word n)))
theorem sa_eq (c : Dev nD) (n : Fin 2048) (l : Fin 128) : (V m c main_v42 : FVec Ideal S2048x128 .f32) (ix2 n l)
    = if l.val / 16 % 2 < 1 then -Ideal.sin (Attn.ang n (l.val % 64 / 32) (l.val % 16)) else 0 := by
  unfold V
  simp only [List.flatten_cons, List.flatten_nil, List.cons_append, List.nil_append, hostOps0, hostOps0_1, hostOps0_2, hostOps0_3, hostOps0_4, hostOps0_5, hostOps0_6]
  after_results_simp
  pointwise
  after_results_simp
  pointwise
  after_results_simp
  simp only [StableHlo.TRef.ofBuf_toBuf, StableHlo.TRef.ofBuf, StableHlo.TRef.toBuf, cast_eq]
  pointwise
  simp only [id, constantI, show l.val % 64 / 16 % 2 = l.val / 16 % 2 by omega, show l.val % 64 % 16 = l.val % 16 by omega]
  unfold Attn.ang Attn.inv
  by_cases h1 : l.val / 16 % 2 < 1 <;> by_cases h2 : l.val % 64 / 32 < 1 <;>
    simp only [h1, h2, dite_true, dite_false, if_true, if_false] <;>
    first
      | rfl
      | exact congrArg (fun x => -Ideal.sin x) (congrArg (· * _) (congrArg (FloatOps.sitofp (F := Ideal) FTy.f32) (row_word n)))
      | exact congrArg (fun x => -Ideal.sin x) (congrArg (· * _) (congrArg (FloatOps.sitofp (F := Ideal) FTy.f32) (col_word n)))
theorem sb_eq (c : Dev nD) (n : Fin 2048) (l : Fin 128) : (V m c main_v49 : FVec Ideal S2048x128 .f32) (ix2 n l)
    = if l.val / 16 % 2 < 1 then 0 else Ideal.sin (Attn.ang n (l.val % 64 / 32) (l.val % 16)) := by
  unfold V
  simp only [List.flatten_cons, List.flatten_nil, List.cons_append, List.nil_append, hostOps0, hostOps0_1, hostOps0_2, hostOps0_3, hostOps0_4, hostOps0_5, hostOps0_6]
  after_results_simp
  pointwise
  after_results_simp
  pointwise
  after_results_simp
  simp only [StableHlo.TRef.ofBuf_toBuf, StableHlo.TRef.ofBuf, StableHlo.TRef.toBuf, cast_eq]
  pointwise
  simp only [id, constantI, show l.val % 64 / 16 % 2 = l.val / 16 % 2 by omega, show l.val % 64 % 16 = l.val % 16 by omega]
  unfold Attn.ang Attn.inv
  by_cases h1 : l.val / 16 % 2 < 1 <;> by_cases h2 : l.val % 64 / 32 < 1 <;>
    simp only [h1, h2, dite_true, dite_false, if_true, if_false] <;>
    first
      | rfl
      | exact congrArg Ideal.sin (congrArg (· * _) (congrArg (FloatOps.sitofp (F := Ideal) FTy.f32) (row_word n)))
      | exact congrArg Ideal.sin (congrArg (· * _) (congrArg (FloatOps.sitofp (F := Ideal) FTy.f32) (col_word n)))
end Cert.KernelIdeal.Value
-- ==== Proof.Blocks.lean ====
/- The blocks the kernel reads, at coordinates, and what its output array ends holding, row by row. -/
module
public import proofs.«01_k».proof.Proof.Out
public import proofs.«01_k».proof.Proof.Pay
public import proofs.«01_k».proof.Proof.Tables
public import Idealize.ShloMosaic.Lib.Pipeline.ValueKit
@[expose] public section
set_option maxRecDepth 16384
noncomputable section
namespace Cert.KernelIdeal.Value
open Cert.KernelIdeal Cert.KernelIdeal.Gen
open Idealize.ShloMosaic Idealize.ShloMosaic.TcCoe Idealize.SL.Sem Idealize.ShloMosaic.Tactic
open Idealize.ShloMosaic.Pipeline (Dat)
variable (m : (ℓ : Loc nD τ sig) → Buf (Elt Ideal) ℓ)

theorem idx : ∀ t : Fin cfg0.N, win0_0.index t = ![t.val / 4, 0, 12 + t.val % 4] ∧ win0_1.index t = ![t.val / 4, 0, 16 + t.val % 4]
    ∧ win0_2.index t = ![t.val / 4, 0, 20 + t.val % 4] ∧ win0_3.index t = ![t.val / 4, 0, 16 + t.val % 4] ∧ win0_4.index t = ![t.val / 4, 0, 20 + t.val % 4]
    ∧ win0_5.index t = ![0, 0] ∧ win0_6.index t = ![0, 0] ∧ win0_7.index t = ![0, 0] ∧ win0_8.index t = ![0, 0] ∧ win0_9.index t = ![0, 0]
    ∧ win0_10.index t = ![t.val / 4, 0, t.val % 4] :=
  (by decide +kernel : ∀ t : Fin grid0.N, _)

theorem lt64 (t : Fin cfg0.N) : t.val < 64 := by have h : cfg0.N = 64 := N_0; omega

/-- The latents' projections, at coordinates. -/
abbrev PL (c : Dev nD) : FVec Ideal S16x2048x3072 .bf16 := m ((c.tc : Thread nD τ).loc main_arg0)
/-- The context's projections, at coordinates. -/
abbrev PC (c : Dev nD) : FVec Ideal S16x256x3072 .bf16 := m ((c.tc : Thread nD τ).loc main_arg1)

theorem b0 (c : Dev nD) (t : Fin cfg0.N) (r : Fin 2048) (l : Fin 128) : (iblk m c 0 t : Vec Ideal S1x2048x128 .bf16) (ix3 0 r l)
    = PL m c (ix3 ⟨t.val / 4, by have := lt64 t; omega⟩ r ⟨(12 + t.val % 4) * 128 + l.val, by omega⟩) := by
  blk_ext [iblk, V, idx t]
theorem b1 (c : Dev nD) (t : Fin cfg0.N) (r : Fin 2048) (l : Fin 128) : (iblk m c 1 t : Vec Ideal S1x2048x128 .bf16) (ix3 0 r l)
    = PL m c (ix3 ⟨t.val / 4, by have := lt64 t; omega⟩ r ⟨(16 + t.val % 4) * 128 + l.val, by omega⟩) := by
  blk_ext [iblk, V, idx t]
theorem b2 (c : Dev nD) (t : Fin cfg0.N) (r : Fin 2048) (l : Fin 128) : (iblk m c 2 t : Vec Ideal S1x2048x128 .bf16) (ix3 0 r l)
    = PL m c (ix3 ⟨t.val / 4, by have := lt64 t; omega⟩ r ⟨(20 + t.val % 4) * 128 + l.val, by omega⟩) := by
  blk_ext [iblk, V, idx t]
theorem b3 (c : Dev nD) (t : Fin cfg0.N) (r : Fin 256) (l : Fin 128) : (iblk m c 3 t : Vec Ideal S1x256x128 .bf16) (ix3 0 r l)
    = PC m c (ix3 ⟨t.val / 4, by have := lt64 t; omega⟩ r ⟨(16 + t.val % 4) * 128 + l.val, by omega⟩) := by
  blk_ext [iblk, V, idx t]
theorem b4 (c : Dev nD) (t : Fin cfg0.N) (r : Fin 256) (l : Fin 128) : (iblk m c 4 t : Vec Ideal S1x256x128 .bf16) (ix3 0 r l)
    = PC m c (ix3 ⟨t.val / 4, by have := lt64 t; omega⟩ r ⟨(20 + t.val % 4) * 128 + l.val, by omega⟩) := by
  blk_ext [iblk, V, idx t]
theorem b5 (c : Dev nD) (t : Fin cfg0.N) (r : Fin 2048) (l : Fin 128) : (iblk m c 5 t : Vec Ideal S2048x128 .f32) (ix2 r l) = (V m c main_v34 : FVec Ideal S2048x128 .f32) (ix2 r l) := by
  blk_ext [iblk, idx t]
theorem b6 (c : Dev nD) (t : Fin cfg0.N) (r : Fin 2048) (l : Fin 128) : (iblk m c 6 t : Vec Ideal S2048x128 .f32) (ix2 r l) = (V m c main_v42 : FVec Ideal S2048x128 .f32) (ix2 r l) := by
  blk_ext [iblk, idx t]
theorem b7 (c : Dev nD) (t : Fin cfg0.N) (r : Fin 2048) (l : Fin 128) : (iblk m c 7 t : Vec Ideal S2048x128 .f32) (ix2 r l) = (V m c main_v49 : FVec Ideal S2048x128 .f32) (ix2 r l) := by
  blk_ext [iblk, idx t]
theorem b8 (c : Dev nD) (t : Fin cfg0.N) (r : Fin 4) (l : Fin 128) : (iblk m c 8 t : Vec Ideal S4x128 .f32) (ix2 r l) = (V m c main_v5 : FVec Ideal S4x128 .f32) (ix2 r l) := by
  blk_ext [iblk, idx t]
theorem b9 (c : Dev nD) (t : Fin cfg0.N) (r : Fin 1) (l : Fin 128) : (iblk m c 9 t : Vec Ideal S1x128 .f32) (ix2 r l) = (V m c main_v50 : FVec Ideal S1x128 .f32) (ix2 r l) := by
  blk_ext [iblk, idx t]
theorem b10 (t : Fin cfg0.N) (r : Fin 2048) (e : Fin 128) : ((cfg0.win 10).blk t).view.emb (ix3 0 r e : S1x2048x128.Idx)
    = (ix3 ⟨t.val / 4, by have := lt64 t; omega⟩ r ⟨t.val % 4 * 128 + e.val, by omega⟩ : S16x2048x512.Idx) := by
  blk_ext [idx t]
end Cert.KernelIdeal.Value
-- ==== Proof.Final.lean ====
/- What the kernel's output array ends holding, row by row, over the argument arrays. -/
module
public import proofs.«01_k».proof.Proof.Blocks
@[expose] public section
set_option maxRecDepth 16384
noncomputable section
namespace Cert.KernelIdeal.Value
open Cert.KernelIdeal Cert.KernelIdeal.Gen
open Idealize.ShloMosaic Idealize.ShloMosaic.TcCoe Idealize.SL.Sem Idealize.ShloMosaic.Tactic
open Idealize.ShloMosaic.Pipeline (Dat)

theorem rot_congr {x x' co co' sa sa' sb sb' : Fin 128 → EReal} (h : ∀ l, x l = x' l) (h1 : ∀ l, co l = co' l) (h2 : ∀ l, sa l = sa' l)
    (h3 : ∀ l, sb l = sb' l) (l : Fin 128) : Attn.rot x co sa sb l = Attn.rot x' co' sa' sb' l := by
  rw [funext h, funext h1, funext h2, funext h3]

theorem rowK_congr {q q' : Fin 128 → EReal} {kl kl' : Fin 2048 → Fin 128 → EReal} {kc kc' : Fin 256 → Fin 128 → EReal} {lam lam' g g' : EReal}
    {vl vl' : Fin 2048 → Fin 128 → EReal} {vc vc' : Fin 256 → Fin 128 → EReal} (hq : ∀ l, q l = q' l) (hl : ∀ j l, kl j l = kl' j l)
    (hc : ∀ j l, kc j l = kc' j l) (ha : lam = lam') (hg : g = g') (hv : ∀ j l, vl j l = vl' j l) (hw : ∀ j l, vc j l = vc' j l) (e : Fin 128) :
    Attn.rowK q kl kc lam g vl vc e = Attn.rowK q' kl' kc' lam' g' vl' vc' e := by
  rw [funext hq, funext fun j => funext (hl j), funext fun j => funext (hc j), ha, hg, funext fun j => funext (hv j), funext fun j => funext (hw j)]

/-- A trip's value at one of its rows, from the blocks' rows. -/
theorem tripVal_row (k : Fin k0_t1_loop.trips) (x0 x1 x2 : Vec Ideal S1x2048x128 .bf16) (x3 x4 : Vec Ideal S1x256x128 .bf16)
    (x5 x6 x7 : Vec Ideal S2048x128 .f32) (x8 : Vec Ideal S4x128 .f32) (x9 : Vec Ideal S1x128 .f32) (kb : Vec Ideal S2048x128 .bf16)
    (a : Fin 256) (e : Fin 128) (h : 256 * k.val + a.val < 2048) :
    tripVal k x0 x1 x2 x3 x4 x5 x6 x7 x8 x9 kb (ix3 0 a e)
      = Attn.rowK (fun l => Attn.rot (fun l => x0 (ix3 0 ⟨256 * k.val + a.val, h⟩ l)) (fun l => x5 (ix2 ⟨256 * k.val + a.val, h⟩ l))
            (fun l => x6 (ix2 ⟨256 * k.val + a.val, h⟩ l)) (fun l => x7 (ix2 ⟨256 * k.val + a.val, h⟩ l)) l * Ideal.ofBits FTy.f32 1040187392#32)
          (fun j l => kb (ix2 j l)) (fun j l => x3 (ix3 0 j l)) (Attn.lamK fun n l => x8 (ix2 n l)) (x9 (ix2 0 e))
          (fun j e => x2 (ix3 0 j e)) (fun j e => x4 (ix3 0 j e)) e := by
  unfold tripVal
  dsimp only
  rw [trip_row (I := iota .tc S256x128 32 [1] iota_S256x128_d1_w32) (hI := k0_pay12_apply)]
  have e1 : ∀ l : Fin 128, View.ld x0 (Rect.unit (s := S1x2048x128) (k0_off1 k) S1x256x128.size (k0_off1_inb k)) (ix3 0 a l) = x0 (ix3 0 ⟨256 * k.val + a.val, h⟩ l) :=
    fun l => congrArg x0 (emb1 k a l h)
  have e2 : ∀ (X : Vec Ideal S2048x128 .f32) (l : Fin 128), View.ld X (Rect.unit (s := S2048x128) (k0_off2 k) S256x128.size (k0_off2_inb k)) (ix2 a l) = X (ix2 ⟨256 * k.val + a.val, h⟩ l) :=
    fun X l => congrArg X (emb2 k a l h)
  refine congrArg (fun q => Attn.rowK q _ _ _ _ _ _ e) (funext fun l => ?_)
  unfold qRow
  exact congrArg (fun y => y * Ideal.ofBits FTy.f32 1040187392#32) (rot_congr e1 (e2 x5) (e2 x6) (e2 x7) l)

theorem outG_row (x0 x1 x2 : Vec Ideal S1x2048x128 .bf16) (x3 x4 : Vec Ideal S1x256x128 .bf16)
    (x5 x6 x7 : Vec Ideal S2048x128 .f32) (x8 : Vec Ideal S4x128 .f32) (x9 : Vec Ideal S1x128 .f32) (r : Fin 2048) (e : Fin 128) :
    outG x0 x1 x2 x3 x4 x5 x6 x7 x8 x9 (ix3 0 r e)
      = Attn.rowK (fun l => Attn.rot (fun l => x0 (ix3 0 r l)) (fun l => x5 (ix2 r l)) (fun l => x6 (ix2 r l)) (fun l => x7 (ix2 r l)) l * Ideal.ofBits FTy.f32 1040187392#32)
          (fun j l => Attn.rot (fun l => x1 (ix3 0 j l)) (fun l => x5 (ix2 j l)) (fun l => x6 (ix2 j l)) (fun l => x7 (ix2 j l)) l)
          (fun j l => x3 (ix3 0 j l)) (Attn.lamK fun n l => x8 (ix2 n l)) (x9 (ix2 0 e))
          (fun j e => x2 (ix3 0 j e)) (fun j e => x4 (ix3 0 j e)) e := by
  have hr : 256 * (r.val / 256) + r.val % 256 = r.val := by omega
  have h : 256 * (r.val / 256) + r.val % 256 < 2048 := by omega
  have e0 : (⟨256 * (r.val / 256) + r.val % 256, h⟩ : Fin 2048) = r := Fin.ext hr
  refine (tripVal_row (trip r) x0 x1 x2 x3 x4 x5 x6 x7 x8 x9 (k0_pay20 x1 x5 x6 x7) ⟨r.val % 256, Nat.mod_lt _ (by decide)⟩ e h).trans ?_
  simp only [k0_pay20_apply]
  show Attn.rowK (fun l => Attn.rot (fun l => x0 (ix3 0 (⟨256 * (r.val / 256) + r.val % 256, h⟩ : Fin 2048) l)) (fun l => x5 (ix2 (⟨256 * (r.val / 256) + r.val % 256, h⟩ : Fin 2048) l))
    (fun l => x6 (ix2 (⟨256 * (r.val / 256) + r.val % 256, h⟩ : Fin 2048) l)) (fun l => x7 (ix2 (⟨256 * (r.val / 256) + r.val % 256, h⟩ : Fin 2048) l)) l * Ideal.ofBits FTy.f32 1040187392#32) _ _ _ _ _ _ _ = _
  rw [e0]

variable (m : (ℓ : Loc nD τ sig) → Buf (Elt Ideal) ℓ)

/-- The four parameter rows, padded to the lane width. -/
def lamRows (c : Dev nD) (n : Fin 4) (l : Fin 128) : EReal := (V m c main_v5 : FVec Ideal S4x128 .f32) (ix2 n l)

/-- One row of the output as the kernel computes it, for batch entry `b` and head `h`. -/
def outRow (pl : FVec Ideal S16x2048x3072 .bf16) (pc : FVec Ideal S16x256x3072 .bf16) (g : FVec Ideal S128 .f32) (lam : EReal)
    (b : Fin 16) (h : Fin 4) (r : Fin 2048) (e : Fin 128) : EReal :=
  Attn.rowK (fun l => Attn.rot (fun l => pl (ix3 b r ⟨(12 + h.val) * 128 + l.val, by omega⟩)) (Attn.tco r) (Attn.tsa r) (Attn.tsb r) l * Ideal.ofBits FTy.f32 1040187392#32)
    (fun j l => Attn.rot (fun l => pl (ix3 b j ⟨(16 + h.val) * 128 + l.val, by omega⟩)) (Attn.tco j) (Attn.tsa j) (Attn.tsb j) l)
    (fun j l => pc (ix3 b j ⟨(16 + h.val) * 128 + l.val, by omega⟩)) lam (g (ix1 e))
    (fun j e => pl (ix3 b j ⟨(20 + h.val) * 128 + e.val, by omega⟩)) (fun j e => pc (ix3 b j ⟨(20 + h.val) * 128 + e.val, by omega⟩)) e

theorem block_row (c : Dev nD) (t : Fin cfg0.N) (r : Fin 2048) (e : Fin 128) :
    outG (iblk m c 0 t) (iblk m c 1 t) (iblk m c 2 t) (iblk m c 3 t) (iblk m c 4 t) (iblk m c 5 t) (iblk m c 6 t) (iblk m c 7 t) (iblk m c 8 t) (iblk m c 9 t) (ix3 0 r e)
      = outRow (PL m c) (PC m c) (m ((c.tc : Thread nD τ).loc main_arg6)) (Attn.lamK (lamRows m c)) ⟨t.val / 4, by have := lt64 t; omega⟩ ⟨t.val % 4, by omega⟩ r e := by
  refine (outG_row _ _ _ _ _ _ _ _ _ _ r e).trans ?_
  exact rowK_congr
    (fun l => congrArg (fun y => y * Ideal.ofBits FTy.f32 1040187392#32) (rot_congr (fun l => b0 m c t r l)
      (fun l => (b5 m c t r l).trans (cos_eq m c r l)) (fun l => (b6 m c t r l).trans (sa_eq m c r l)) (fun l => (b7 m c t r l).trans (sb_eq m c r l)) l))
    (fun j l => rot_congr (fun l => b1 m c t j l)
      (fun l => (b5 m c t j l).trans (cos_eq m c j l)) (fun l => (b6 m c t j l).trans (sa_eq m c j l)) (fun l => (b7 m c t j l).trans (sb_eq m c j l)) l)
    (fun j l => b3 m c t j l) (congrArg Attn.lamK (funext fun n => funext fun l => b8 m c t n l)) ((b9 m c t 0 e).trans (gain_eq m c e))
    (fun j l => b2 m c t j l) (fun j l => b4 m c t j l) e

/-- The kernel's result array, given what every row is. -/
theorem final (c : Dev nD) (G : S16x2048x512.Idx → Elt Ideal .bf16)
    (hG : ∀ (b : Fin 16) (h : Fin 4) (r : Fin 2048) (e : Fin 128),
      outRow (PL m c) (PC m c) (m ((c.tc : Thread nD τ).loc main_arg6)) (Attn.lamK (lamRows m c)) b h r e = G (ix3 b r ⟨h.val * 128 + e.val, by omega⟩)) :
    (dats m 0 c).arrAt 10 cfg0.N = G := by
  refine (dats m 0 c).arrAt_eq_of_covers 10 G (by decide +kernel) fun t _ y => ?_
  blk_simp
  rw [after0_10]
  obtain ⟨r, e, rfl⟩ : ∃ (r : Fin 2048) (e : Fin 128), y = ix3 0 r e :=
    ⟨y 1, y 2, funext fun i => by fin_cases i; exact Subsingleton.elim (α := Fin 1) _ _; rfl; rfl⟩
  simp only [outsAt0]
  refine (out_eq c _ _ _ _ _ _ _ _ _ _ _ _ _ _ _ _ _ _ _ _ _ _ _ _ _ _ _ _ _ _ _ _ _ _ _ (ix3 0 r e)).trans ?_
  refine (block_row m c t r e).trans ((hG _ _ r e).trans ?_)
  exact congrArg G (b10 t r e).symm
end Cert.KernelIdeal.Value
-- ==== Proof.Ref.lean ====
module
public import proofs.«01_k».proof.Proof.Gen.ReferenceIdeal.Run
public import Idealize.ShloMosaic.Lib.Pointwise
public import proofs.«01_k».proof.Proof.Attn
@[expose] public section
set_option maxRecDepth 16384
noncomputable section
namespace Cert.ReferenceIdeal.Value
open Cert.ReferenceIdeal Cert.ReferenceIdeal.Gen
open Idealize.ShloMosaic Idealize.ShloMosaic.TcCoe Idealize.SL.Sem Idealize.ShloMosaic.Tactic
variable (V0 : Valuation τ sig (Elt Ideal))

/-- The reference's result array as a function of its arguments. -/
def result : FVec Ideal S16x2048x512 .bf16 := truncf .bf16 (shapeCast _ (mulf (mulf (mulf (res_main_v119 V0) (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf (res_main_v119 V0) (res_main_v119 V0)) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x3727C5AC#32)))))) (broadcastInDim S16x2048x4x128 ![0, 1, 2, 3] bcast_S1x1x1x128_S16x2048x4x128_0_1_2_3 (broadcastInDim S1x1x1x128 ![3] bcast_S128_S1x1x1x128_3 (V0 (Proc.devRef .tc main_arg6))))) (broadcastInDim S16x2048x4x128 ![] bcast_S_S16x2048x4x128 (constant S_ .f32 0x3F4CCCCD#32))) shapeCasts_S16x2048x4x128_S16x2048x512) bitsLt_bf16_f32

def smTerm (x : FVec Ideal S16x8x2048x2304 .f32) : FVec Ideal S16x4x2x2048x2304 .f32 :=
  shapeCast _ (Host.divf (Host.exp (subf x (broadcastInDim S16x8x2048x2304 ![0, 1, 2, 3] bcast_S16x8x2048x1_S16x8x2048x2304_0_1_2_3 (broadcastInDim S16x8x2048x1 ![0, 1, 2] bcast_S16x8x2048_S16x8x2048x1_0_1_2 (maximumf (broadcastInDim S16x8x2048 ![] bcast_S_S16x8x2048 (constant S_ .f32 0xFF800000#32)) (Host.reduce FloatOps.maximumf x (constant S_ .f32 0xFF800000#32) reducesTo_S16x8x2048x2304_S16x8x2048_d3 h_S_)))))) (broadcastInDim S16x8x2048x2304 ![0, 1, 2, 3] bcast_S16x8x2048x1_S16x8x2048x2304_0_1_2_3 (broadcastInDim S16x8x2048x1 ![0, 1, 2] bcast_S16x8x2048_S16x8x2048x1_0_1_2 (Host.reduceAdd (Host.exp (subf x (broadcastInDim S16x8x2048x2304 ![0, 1, 2, 3] bcast_S16x8x2048x1_S16x8x2048x2304_0_1_2_3 (broadcastInDim S16x8x2048x1 ![0, 1, 2] bcast_S16x8x2048_S16x8x2048x1_0_1_2 (maximumf (broadcastInDim S16x8x2048 ![] bcast_S_S16x8x2048 (constant S_ .f32 0xFF800000#32)) (Host.reduce FloatOps.maximumf x (constant S_ .f32 0xFF800000#32) reducesTo_S16x8x2048x2304_S16x8x2048_d3 h_S_)))))) (constant S_ .f32 0x00000000#32) reducesTo_S16x8x2048x2304_S16x8x2048_d3 h_S_)))) shapeCasts_S16x8x2048x2304_S16x4x2x2048x2304
theorem v110_eq : res_main_v110 V0 = smTerm (res_main_v98 V0) := rfl
theorem rowMax (x : FVec Ideal S16x8x2048x2304 .f32) (c : FVec Ideal S_ .f32) (b : Fin 16) (g : Fin 8) (n : Fin 2048) :
    Host.reduce FloatOps.maximumf x c reducesTo_S16x8x2048x2304_S16x8x2048_d3 h_S_ (ix3 b g n)
      = Finset.univ.fold max (c (Shape.Idx.first h_S_)) fun j => x (ix4 b g n j) := by
  pointwise
theorem rowSum (x : FVec Ideal S16x8x2048x2304 .f32) (c : FVec Ideal S_ .f32) (b : Fin 16) (g : Fin 8) (n : Fin 2048) :
    Host.reduceAdd x c reducesTo_S16x8x2048x2304_S16x8x2048_d3 h_S_ (ix3 b g n) = c (Shape.Idx.first h_S_) + ∑ j, x (ix4 b g n j) := by
  pointwise
def eTerm (x : FVec Ideal S16x8x2048x2304 .f32) (r : FVec Ideal S16x8x2048 .f32) : FVec Ideal S16x8x2048x2304 .f32 :=
  Host.exp (subf x (broadcastInDim S16x8x2048x2304 ![0, 1, 2, 3] bcast_S16x8x2048x1_S16x8x2048x2304_0_1_2_3 (broadcastInDim S16x8x2048x1 ![0, 1, 2] bcast_S16x8x2048_S16x8x2048x1_0_1_2 (maximumf (broadcastInDim S16x8x2048 ![] bcast_S_S16x8x2048 (constant S_ .f32 0xFF800000#32)) r))))
theorem eTerm_apply (x : FVec Ideal S16x8x2048x2304 .f32) (r : FVec Ideal S16x8x2048 .f32) (b : Fin 16) (g : Fin 8) (n : Fin 2048) (j : Fin 2304) :
    eTerm x r (ix4 b g n j) = Ideal.exp (x (ix4 b g n j) - max (Ideal.ofBits FTy.f32 4286578688#32) (r (ix3 b g n))) := by
  pointwise [eTerm]
def dTerm (y : FVec Ideal S16x8x2048x2304 .f32) (r : FVec Ideal S16x8x2048 .f32) : FVec Ideal S16x4x2x2048x2304 .f32 :=
  shapeCast _ (Host.divf y (broadcastInDim S16x8x2048x2304 ![0, 1, 2, 3] bcast_S16x8x2048x1_S16x8x2048x2304_0_1_2_3 (broadcastInDim S16x8x2048x1 ![0, 1, 2] bcast_S16x8x2048_S16x8x2048x1_0_1_2 r))) shapeCasts_S16x8x2048x2304_S16x4x2x2048x2304
theorem dTerm_apply (y : FVec Ideal S16x8x2048x2304 .f32) (r : FVec Ideal S16x8x2048 .f32) (b : Fin 16) (h : Fin 4) (s : Fin 2) (n : Fin 2048) (j : Fin 2304) :
    dTerm y r (ix5 b h s n j) = Ideal.div (y (ix4 b ⟨h * 2 + s, by omega⟩ n j)) (r (ix3 b ⟨h * 2 + s, by omega⟩ n)) := by
  pointwise [dTerm]
theorem smTerm_eq (x : FVec Ideal S16x8x2048x2304 .f32) :
    smTerm x = dTerm (eTerm x (Host.reduce FloatOps.maximumf x (constant S_ .f32 0xFF800000#32) reducesTo_S16x8x2048x2304_S16x8x2048_d3 h_S_))
      (Host.reduceAdd (eTerm x (Host.reduce FloatOps.maximumf x (constant S_ .f32 0xFF800000#32) reducesTo_S16x8x2048x2304_S16x8x2048_d3 h_S_)) (constant S_ .f32 0x00000000#32) reducesTo_S16x8x2048x2304_S16x8x2048_d3 h_S_) := rfl
theorem max_fold (s : Fin 2304 → EReal) (a : EReal) : max a (Finset.univ.fold max a s) = Finset.univ.fold max a s :=
  max_eq_right ((Finset.le_fold_max a).2 (Or.inl le_rfl))
theorem smTerm_apply (x : FVec Ideal S16x8x2048x2304 .f32) (b : Fin 16) (h : Fin 4) (s : Fin 2) (n : Fin 2048) (j : Fin 2304) :
    smTerm x (ix5 b h s n j) = Attn.softmax (fun j => x (ix4 b ⟨h * 2 + s, by omega⟩ n j)) j := by
  rw [smTerm_eq, dTerm_apply, rowSum, eTerm_apply, rowMax]
  simp only [eTerm_apply, rowMax]
  unfold Attn.softmax Attn.top
  rw [show (constant S_ .f32 0xFF800000#32 : FVec Ideal S_ .f32) (Shape.Idx.first h_S_) = Ideal.ofBits FTy.f32 4286578688#32 from rfl,
    show (constant S_ .f32 0x00000000#32 : FVec Ideal S_ .f32) (Shape.Idx.first h_S_) = Ideal.ofBits FTy.f32 0#32 from rfl,
    max_fold, Ideal.ofBits_zero_f32, zero_add]

def wTerm (p : FVec Ideal S16x4x2x2048x2304 .f32) : FVec Ideal S16x4x2048x2304 .f32 :=
  subf (shapeCast _ (extractStridedSlice S16x4x1x2048x2304 ![0, 0, 0, 0, 0] p slices_S16x4x2x2048x2304_S16x4x1x2048x2304_0_0_0_0_0) shapeCasts_S16x4x1x2048x2304_S16x4x2048x2304) (mulf (broadcastInDim S16x4x2048x2304 ![] bcast_S_S16x4x2048x2304 (addf (subf (Host.exp (Host.reduceAdd (mulf (V0 (Proc.devRef .tc main_arg2)) (V0 (Proc.devRef .tc main_arg3))) (constant S_ .f32 0x00000000#32) reducesTo_S64_S_d0 h_S_)) (Host.exp (Host.reduceAdd (mulf (V0 (Proc.devRef .tc main_arg4)) (V0 (Proc.devRef .tc main_arg5))) (constant S_ .f32 0x00000000#32) reducesTo_S64_S_d0 h_S_))) (constant S_ .f32 0x3E4CCCCD#32))) (shapeCast _ (extractStridedSlice S16x4x1x2048x2304 ![0, 0, 1, 0, 0] p slices_S16x4x2x2048x2304_S16x4x1x2048x2304_0_0_1_0_0) shapeCasts_S16x4x1x2048x2304_S16x4x2048x2304))
def oTerm (a : FVec Ideal S16x2304x4x128 .f32) (w : FVec Ideal S16x4x2048x2304 .f32) : FVec Ideal S16x2048x4x128 .f32 :=
  transpose S16x2048x4x128 [0, 3, 1, 2] (Host.dotGeneral dot_S16x2304x4x128_S16x4x2048x2304_S16x4x128x2048_1_3_3_2_02_01 none a w) transposes_S16x4x128x2048_S16x2048x4x128_0_3_1_2
def catTerm : FVec Ideal S16x2304x4x128 .f32 := concatenate S16x2304x4x128 1 [⟨S16x256x4x128, (shapeCast _ (extractStridedSlice S16x256x512 ![0, 0, 1024] (res_main_v2 V0) slices_S16x256x1536_S16x256x512_0_0_1024) shapeCasts_S16x256x512_S16x256x4x128)⟩, ⟨S16x2048x4x128, (shapeCast _ (extractStridedSlice S16x2048x512 ![0, 0, 1024] (res_main_v9 V0) slices_S16x2048x1536_S16x2048x512_0_0_1024) shapeCasts_S16x2048x512_S16x2048x4x128)⟩] concatenates_S16x256x4x128_S16x2048x4x128_S16x2304x4x128_d1
theorem v119_eq : res_main_v119 V0 = oTerm (catTerm V0) (wTerm V0 (res_main_v110 V0)) := rfl
theorem wTerm_apply (p : FVec Ideal S16x4x2x2048x2304 .f32) (b : Fin 16) (h : Fin 4) (n : Fin 2048) (j : Fin 2304) :
    wTerm V0 p (ix4 b h n j) = p (ix5 b h 0 n j) - Attn.lam (fun x => (V0 (Proc.tc.devRef main_arg2) : FVec Ideal S64 .f32) (ix1 x)) (fun x => (V0 (Proc.tc.devRef main_arg3) : FVec Ideal S64 .f32) (ix1 x))
      (fun x => (V0 (Proc.tc.devRef main_arg4) : FVec Ideal S64 .f32) (ix1 x)) (fun x => (V0 (Proc.tc.devRef main_arg5) : FVec Ideal S64 .f32) (ix1 x)) * p (ix5 b h 1 n j) := by
  pointwise [wTerm]
  rfl
theorem oTerm_apply (a : FVec Ideal S16x2304x4x128 .f32) (w : FVec Ideal S16x4x2048x2304 .f32) (b : Fin 16) (h : Fin 4) (n : Fin 2048) (e : Fin 128) :
    oTerm a w (ix4 b n h e) = ∑ j, a (ix4 b j h e) * w (ix4 b h n j) := by
  pointwise [oTerm]

/-- A head's values in order: the context's, then the latents'. -/
def val (pl : FVec Ideal S16x2048x3072 .bf16) (pc : FVec Ideal S16x256x3072 .bf16) (b : Fin 16) (h : Fin 4) (e : Fin 128) (j : Fin 2304) : EReal :=
  if hj : j.val < 256 then pc (ix3 b ⟨j, hj⟩ ⟨2560 + h * 128 + e, by omega⟩) else pl (ix3 b ⟨j - 256, by omega⟩ ⟨2560 + h * 128 + e, by omega⟩)
theorem catTerm_apply (b : Fin 16) (j : Fin 2304) (h : Fin 4) (e : Fin 128) :
    catTerm V0 (ix4 b j h e) = val (V0 (Proc.tc.devRef main_arg0)) (V0 (Proc.tc.devRef main_arg1)) b h e j := by
  pointwise [catTerm, res_main_v2, res_main_v9, val]
  simp only [show 1536 + (1024 + (h.val * 128 + e.val)) = 2560 + h.val * 128 + e.val by omega]

/-- A sub-head's queries, before the rotation. -/
def qry (pl : FVec Ideal S16x2048x3072 .bf16) (b : Fin 16) (g : Fin 8) (n : Fin 2048) (d : Fin 64) : EReal :=
  pl (ix3 b n ⟨1536 + g * 64 + d, by omega⟩)
/-- A sub-head's latent keys, before the rotation. -/
def keyL (pl : FVec Ideal S16x2048x3072 .bf16) (b : Fin 16) (g : Fin 8) (n : Fin 2048) (d : Fin 64) : EReal :=
  pl (ix3 b n ⟨2048 + g * 64 + d, by omega⟩)
/-- A sub-head's context keys. -/
def keyC (pc : FVec Ideal S16x256x3072 .bf16) (b : Fin 16) (g : Fin 8) (n : Fin 256) (d : Fin 64) : EReal :=
  pc (ix3 b n ⟨2048 + g * 64 + d, by omega⟩)
/-- The scores of one query row of a sub-head. -/
def scores (pl : FVec Ideal S16x2048x3072 .bf16) (pc : FVec Ideal S16x256x3072 .bf16) (b : Fin 16) (g : Fin 8) (n : Fin 2048) (j : Fin 2304) : EReal :=
  Attn.score (Attn.rope n (qry pl b g n)) (Attn.key (keyC pc b g) (keyL pl b g) j)

theorem v41_apply (n : Fin 2048) (a : Fin 2) (f : Fin 16) : (res_main_v41 V0 : FVec Ideal S2048x2x16 .f32) (ix3 n a f) = Attn.ang n a f := by
  pointwise [res_main_v41, res_main_v28]
  rfl
theorem v42_apply (n : Fin 2048) (a : Fin 2) (f : Fin 16) : (res_main_v42 V0 : FVec Ideal S2048x2x16 .f32) (ix3 n a f) = Ideal.cos (Attn.ang n a f) := by
  pointwise [res_main_v42]
  exact congrArg Ideal.cos (v41_apply V0 n a f)
theorem v43_apply (n : Fin 2048) (a : Fin 2) (f : Fin 16) : (res_main_v43 V0 : FVec Ideal S2048x2x16 .f32) (ix3 n a f) = Ideal.sin (Attn.ang n a f) := by
  pointwise [res_main_v43]
  exact congrArg Ideal.sin (v41_apply V0 n a f)
theorem v98_apply (b : Fin 16) (g : Fin 8) (n : Fin 2048) (j : Fin 2304) : (res_main_v98 V0 : FVec Ideal S16x8x2048x2304 .f32) (ix4 b g n j)
    = scores (V0 (Proc.tc.devRef main_arg0)) (V0 (Proc.tc.devRef main_arg1)) b g n j := by
  pointwise [res_main_v98, res_main_v46, res_main_v48, res_main_v49, res_main_v50, res_main_v67, res_main_v69, res_main_v70, res_main_v71, res_main_v44, res_main_v65, res_main_v9, res_main_v2]
  unfold scores Attn.score Attn.key Attn.rope qry keyL keyC
  congr 1
  refine Finset.sum_congr rfl fun x _ => ?_
  have hx := x.isLt
  have k1 : 1536 + (512 + (g.val * 64 + x.val)) = 2048 + g.val * 64 + x.val := by omega
  simp only [v42_apply, v43_apply, k1]
  by_cases h1 : x.val / 16 % 2 < 1
  · have e1 : 1536 + (g.val * 64 + x.val / 32 * 32 + x.val % 16) = 1536 + g.val * 64 + x.val := by omega
    have e2 : 1536 + (g.val * 64 + x.val / 32 * 32 + 16 + x.val % 16) = 1536 + g.val * 64 + (x.val + 16) := by omega
    have e3 : 1536 + (512 + (g.val * 64 + x.val / 32 * 32 + x.val % 16)) = 2048 + g.val * 64 + x.val := by omega
    have e4 : 1536 + (512 + (g.val * 64 + x.val / 32 * 32 + 16 + x.val % 16)) = 2048 + g.val * 64 + (x.val + 16) := by omega
    by_cases h2 : j.val < 256 <;> simp only [h1, h2, e1, e2, e3, e4, dite_true, dite_false]
  · have e1 : 1536 + (g.val * 64 + x.val / 32 * 32 + x.val % 16) = 1536 + g.val * 64 + (x.val - 16) := by omega
    have e2 : 1536 + (g.val * 64 + x.val / 32 * 32 + 16 + x.val % 16) = 1536 + g.val * 64 + x.val := by omega
    have e3 : 1536 + (512 + (g.val * 64 + x.val / 32 * 32 + x.val % 16)) = 2048 + g.val * 64 + (x.val - 16) := by omega
    have e4 : 1536 + (512 + (g.val * 64 + x.val / 32 * 32 + 16 + x.val % 16)) = 2048 + g.val * 64 + x.val := by omega
    by_cases h2 : j.val < 256 <;> simp only [h1, h2, e1, e2, e3, e4, dite_true, dite_false]

/-- One entry of a head's attention, before the normalisation. -/
def att (pl : FVec Ideal S16x2048x3072 .bf16) (pc : FVec Ideal S16x256x3072 .bf16) (lam : EReal) (b : Fin 16) (h : Fin 4) (n : Fin 2048) (e : Fin 128) : EReal :=
  Attn.attend (scores pl pc b ⟨h * 2 + 0, by omega⟩ n) (scores pl pc b ⟨h * 2 + 1, by omega⟩ n) (val pl pc b h e) lam
theorem v119_apply (b : Fin 16) (n : Fin 2048) (h : Fin 4) (e : Fin 128) : (res_main_v119 V0 : FVec Ideal S16x2048x4x128 .f32) (ix4 b n h e)
    = att (V0 (Proc.tc.devRef main_arg0)) (V0 (Proc.tc.devRef main_arg1)) (Attn.lam (fun x => (V0 (Proc.tc.devRef main_arg2) : FVec Ideal S64 .f32) (ix1 x)) (fun x => (V0 (Proc.tc.devRef main_arg3) : FVec Ideal S64 .f32) (ix1 x))
      (fun x => (V0 (Proc.tc.devRef main_arg4) : FVec Ideal S64 .f32) (ix1 x)) (fun x => (V0 (Proc.tc.devRef main_arg5) : FVec Ideal S64 .f32) (ix1 x))) b h n e := by
  refine (congrFun (v119_eq V0) _).trans ((oTerm_apply (catTerm V0) (wTerm V0 (res_main_v110 V0)) b h n e).trans ?_)
  rw [v110_eq]
  unfold att Attn.attend
  refine Finset.sum_congr rfl fun j _ => ?_
  rw [catTerm_apply, wTerm_apply, smTerm_apply, smTerm_apply]
  simp only [v98_apply]
  rfl
def nTerm (o : FVec Ideal S16x2048x4x128 .f32) (g : FVec Ideal S128 .f32) : FVec Ideal S16x2048x512 .bf16 := truncf .bf16 (shapeCast _ (mulf (mulf (mulf o (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf o o) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x3727C5AC#32)))))) (broadcastInDim S16x2048x4x128 ![0, 1, 2, 3] bcast_S1x1x1x128_S16x2048x4x128_0_1_2_3 (broadcastInDim S1x1x1x128 ![3] bcast_S128_S1x1x1x128_3 g))) (broadcastInDim S16x2048x4x128 ![] bcast_S_S16x2048x4x128 (constant S_ .f32 0x3F4CCCCD#32))) shapeCasts_S16x2048x4x128_S16x2048x512) bitsLt_bf16_f32
theorem result_eq : result V0 = nTerm (res_main_v119 V0) (V0 (Proc.tc.devRef main_arg6)) := rfl
theorem nTerm_apply (o : FVec Ideal S16x2048x4x128 .f32) (g : FVec Ideal S128 .f32) (b : Fin 16) (n : Fin 2048) (c : Fin 512) :
    nTerm o g (ix3 b n c) = Attn.norm (fun e => o (ix4 b n ⟨c / 128, by omega⟩ e)) (g (ix1 ⟨c % 128, by omega⟩)) ⟨c % 128, by omega⟩ := by
  pointwise [nTerm]
  rfl
end Cert.ReferenceIdeal.Value
-- ==== Proof.Math.lean ====
/- The blocked row equals the plain one wherever the queries and keys are finite. -/
module
public import proofs.«01_k».proof.Proof.Row
public import Idealize.ShloMosaic.Lib.IdealHost
@[expose] public section
noncomputable section
namespace Cert.Attn
open Idealize.ShloMosaic

/-- A finite extended real. -/
def Fin' (x : EReal) : Prop := ∃ r : ℝ, x = (r : EReal)

theorem Fin'.of_ne {x : EReal} (h : x ≠ ⊤) (h' : x ≠ ⊥) : Fin' x := ⟨x.toReal, (EReal.coe_toReal h h').symm⟩
theorem Fin'.add {x y : EReal} : Fin' x → Fin' y → Fin' (x + y) := by
  rintro ⟨a, rfl⟩ ⟨b, rfl⟩; exact ⟨a + b, (EReal.coe_add a b).symm⟩
theorem Fin'.mul {x y : EReal} : Fin' x → Fin' y → Fin' (x * y) := by
  rintro ⟨a, rfl⟩ ⟨b, rfl⟩; exact ⟨a * b, (EReal.coe_mul a b).symm⟩
theorem Fin'.sub {x y : EReal} : Fin' x → Fin' y → Fin' (x - y) := by
  rintro ⟨a, rfl⟩ ⟨b, rfl⟩; exact ⟨a - b, (EReal.coe_sub a b).symm⟩
theorem Fin'.sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih
theorem Fin'.cos {x : EReal} : Fin' x → Fin' (Ideal.cos x) := by
  rintro ⟨a, rfl⟩; exact ⟨Real.cos a, Ideal.cos_coe a⟩
theorem Fin'.sin {x : EReal} : Fin' x → Fin' (Ideal.sin x) := by
  rintro ⟨a, rfl⟩; exact ⟨Real.sin a, Ideal.sin_coe a⟩

theorem ofBits_16 : Ideal.ofBits FTy.f32 1098907648#32 = ((16 : ℝ) : EReal) := by
  simp [Ideal.ofBits, Ideal.ieee, -EReal.coe_mul]; norm_num
theorem ofBits_base : Fin' (Ideal.ofBits FTy.f32 1176256512#32) := by
  unfold Ideal.ofBits Ideal.ieee
  dsimp only
  rw [if_neg (by decide), if_neg (by decide)]
  exact ⟨_, rfl⟩
theorem ofBits_eighth : Fin' (Ideal.ofBits FTy.f32 1040187392#32) := by
  unfold Ideal.ofBits Ideal.ieee
  dsimp only
  rw [if_neg (by decide), if_neg (by decide)]
  exact ⟨_, rfl⟩
theorem ofBits_ninf : Ideal.ofBits FTy.f32 4286578688#32 = ⊥ := by
  simp [Ideal.ofBits, Ideal.ieee]

theorem inv_fin (f : ℕ) : Fin' (inv f) := by
  obtain ⟨b, hb⟩ := ofBits_base
  refine ⟨Real.rpow b ((-((BitVec.ofNat 32 f).toInt : ℝ)) * (1 / 16)), ?_⟩
  unfold inv
  rw [hb, ofBits_16, Ideal.div_coe (by norm_num)]
  have h : -(FloatOps.sitofp (F := Ideal) FTy.f32 (BitVec.ofNat 32 f)) * ((1 / 16 : ℝ) : EReal)
      = (((-((BitVec.ofNat 32 f).toInt : ℝ)) * (1 / 16) : ℝ) : EReal) := by
    rw [EReal.coe_mul, EReal.coe_neg]; rfl
  exact (congrArg (Ideal.pow _) h).trans (Ideal.pow_coe_coe _ _)

theorem ang_fin (n a f : ℕ) : Fin' (ang n a f) := by
  unfold ang
  split
  · exact Fin'.mul ⟨_, rfl⟩ (inv_fin f)
  · exact Fin'.mul ⟨_, rfl⟩ (inv_fin f)

theorem rope_fin (n : ℕ) (x : Fin 64 → EReal) (h : ∀ d, Fin' (x d)) (d : Fin 64) : Fin' (rope n x d) := by
  unfold rope
  split
  · exact ((h _).mul (ang_fin _ _ _).cos).sub ((h _).mul (ang_fin _ _ _).sin)
  · exact ((h _).mul (ang_fin _ _ _).cos).add ((h _).mul (ang_fin _ _ _).sin)

/-- One sub-head's 64 entries of a 128-lane row. -/
def half (s : Fin 2) (x : Fin 128 → EReal) (d : Fin 64) : EReal := x ⟨s.val * 64 + d.val, by omega⟩

/-- The tables' rotation of a lane is the axial embedding of its sub-head. -/
theorem rot_eq (n : ℕ) (x : Fin 128 → EReal) (s : Fin 2) (d : Fin 64) :
    rot x (tco n) (tsa n) (tsb n) ⟨s.val * 64 + d.val, by omega⟩ = rope n (half s x) d := by
  have e1 : (s.val * 64 + d.val) % 64 / 32 = d.val / 32 := by omega
  have e2 : (s.val * 64 + d.val) % 16 = d.val % 16 := by omega
  have e3 : (s.val * 64 + d.val) / 16 % 2 = d.val / 16 % 2 := by omega
  unfold rot rope tco tsa tsb half
  simp only [e1, e2, e3]
  by_cases h : d.val / 16 % 2 < 1
  · have e4 : (s.val * 64 + d.val + 128 - 112) % 128 = s.val * 64 + (d.val + 16) := by omega
    simp only [h, if_true, dif_pos, mul_zero, add_zero, mul_neg, ← sub_eq_add_neg, e4]
  · have e4 : (s.val * 64 + d.val + 128 - 16) % 128 = s.val * 64 + (d.val - 16) := by omega
    simp only [h, if_false, dif_neg, not_false_eq_true, mul_zero, add_zero, e4]

theorem sum_halves (f : Fin 128 → EReal) :
    ∑ l, f l = ∑ d : Fin 64, f ⟨d.val, by omega⟩ + ∑ d : Fin 64, f ⟨64 + d.val, by omega⟩ :=
  Fin.sum_univ_add (a := 64) (b := 64) f

theorem scale_sum (c : EReal) (hc : Fin' c) (q k : Fin 64 → EReal) (hq : ∀ d, Fin' (q d)) (hk : ∀ d, Fin' (k d)) :
    ∑ d, q d * c * k d = (∑ d, q d * k d) * c := by
  obtain ⟨c, rfl⟩ := hc
  choose q' hq' using hq
  choose k' hk' using hk
  have e : ∀ f : Fin 64 → ℝ, ∑ d, (f d : EReal) = ((∑ d, f d : ℝ) : EReal) := fun f => by
    induction (Finset.univ : Finset (Fin 64)) using Finset.induction_on with
    | empty => simp
    | insert a s ha ih => rw [Finset.sum_insert ha, Finset.sum_insert ha, EReal.coe_add, ih]
  simp only [hq', hk', ← EReal.coe_mul, e]
  rw [Finset.sum_mul]
  exact congrArg _ (Finset.sum_congr rfl fun d _ => by ring)

/-- The 128-lane products of the masked query row give the sub-heads' scaled scores. -/
theorem dot_lo (n : ℕ) (q k : Fin 128 → EReal) (hq : ∀ l, Fin' (q l)) (hk : ∀ l, Fin' (k l)) :
    dotK (lo fun l => rot q (tco n) (tsa n) (tsb n) l * Ideal.ofBits FTy.f32 1040187392#32) k = score (rope n (half 0 q)) (half 0 k) := by
  unfold dotK score
  rw [sum_halves]
  have z : ∀ d : Fin 64, lo (fun l => rot q (tco n) (tsa n) (tsb n) l * Ideal.ofBits FTy.f32 1040187392#32) ⟨64 + d.val, by omega⟩ = 0 :=
    fun d => if_neg (by simp)
  have y : ∀ d : Fin 64, lo (fun l => rot q (tco n) (tsa n) (tsb n) l * Ideal.ofBits FTy.f32 1040187392#32) ⟨d.val, by omega⟩
      = rope n (half 0 q) d * Ideal.ofBits FTy.f32 1040187392#32 := fun d => by
    refine (if_pos (by simp)).trans (congrArg (· * _) ?_)
    rw [← rot_eq]
    exact congrArg _ (Fin.ext (by simp))
  simp only [z, zero_mul, Finset.sum_const_zero, add_zero, y]
  refine Eq.trans (Finset.sum_congr rfl fun d _ => congrArg (fun y => rope n _ d * Ideal.ofBits FTy.f32 1040187392#32 * y) ?_)
    (scale_sum _ ofBits_eighth _ (half 0 k) (rope_fin n _ fun d => hq _) fun d => hk _)
  exact congrArg k (Fin.ext (by simp))

theorem dot_hi (n : ℕ) (q k : Fin 128 → EReal) (hq : ∀ l, Fin' (q l)) (hk : ∀ l, Fin' (k l)) :
    dotK (hi fun l => rot q (tco n) (tsa n) (tsb n) l * Ideal.ofBits FTy.f32 1040187392#32) k = score (rope n (half 1 q)) (half 1 k) := by
  unfold dotK score
  rw [sum_halves]
  have z : ∀ d : Fin 64, hi (fun l => rot q (tco n) (tsa n) (tsb n) l * Ideal.ofBits FTy.f32 1040187392#32) ⟨d.val, by omega⟩ = 0 :=
    fun d => if_pos (by simp)
  have y : ∀ d : Fin 64, hi (fun l => rot q (tco n) (tsa n) (tsb n) l * Ideal.ofBits FTy.f32 1040187392#32) ⟨64 + d.val, by omega⟩
      = rope n (half 1 q) d * Ideal.ofBits FTy.f32 1040187392#32 := fun d => by
    refine (if_neg (by simp)).trans (congrArg (· * _) ?_)
    rw [← rot_eq]
    exact congrArg _ (Fin.ext (by simp))
  simp only [z, zero_mul, Finset.sum_const_zero, zero_add, y]
  refine Eq.trans (Finset.sum_congr rfl fun d _ => congrArg (fun y => rope n _ d * Ideal.ofBits FTy.f32 1040187392#32 * y) ?_)
    (scale_sum _ ofBits_eighth _ (half 1 k) (rope_fin n _ fun d => hq _) fun d => hk _)
  exact congrArg k (Fin.ext (by simp))

/-- The context's part of a row over all keys. -/
def ctx (s : Fin 2304 → EReal) (j : Fin 256) : EReal := s ⟨j.val, by omega⟩
/-- The latents' part of a row over all keys. -/
def lat (s : Fin 2304 → EReal) (j : Fin 2048) : EReal := s ⟨256 + j.val, by omega⟩

theorem sum_parts (f : Fin 2304 → EReal) : ∑ j, f j = ∑ j, lat f j + ∑ j, ctx f j := by
  rw [add_comm]; exact Fin.sum_univ_add (a := 256) (b := 2048) f

theorem fold_sup {n : ℕ} (s : Fin n → EReal) : Finset.univ.fold max (Ideal.ofBits FTy.f32 4286578688#32) s = Finset.univ.sup s := by
  rw [ofBits_ninf]; rfl

theorem topK_eq (s : Fin 2304 → EReal) : topK (lat s) (ctx s) = top s := by
  unfold topK top
  rw [fold_sup, fold_sup, fold_sup]
  apply le_antisymm
  · exact max_le (Finset.sup_le fun j _ => Finset.le_sup (f := s) (Finset.mem_univ _)) (Finset.sup_le fun j _ => Finset.le_sup (f := s) (Finset.mem_univ _))
  · refine Finset.sup_le fun j _ => ?_
    by_cases h : j.val < 256
    · exact le_max_of_le_right (Finset.le_sup (f := ctx s) (Finset.mem_univ (⟨j.val, h⟩ : Fin 256)))
    · have e : s j = lat s ⟨j.val - 256, by omega⟩ := congrArg s (Fin.ext (by simp; omega))
      rw [e]
      exact le_max_of_le_left (Finset.le_sup (f := lat s) (Finset.mem_univ _))

theorem exp_nonneg (x : EReal) : 0 ≤ Ideal.exp x := by
  induction x using EReal.rec with
  | bot => simp
  | top => simp
  | coe r => rw [Ideal.exp_coe]; exact_mod_cast (Real.exp_pos r).le

/-- A row of finite scores has a total weight that isn't zero. -/
theorem total_ne (s : Fin 2304 → EReal) (h : ∀ j, Fin' (s j)) : ∑ j, Ideal.exp (s j - top s) ≠ 0 := by
  obtain ⟨j, -, hj⟩ := Finset.exists_mem_eq_sup Finset.univ ⟨(0 : Fin 2304), Finset.mem_univ _⟩ s
  have ht : top s = s j := (fold_sup s).trans hj
  have h1 : Ideal.exp (s j - top s) = 1 := by
    rw [ht]
    obtain ⟨r, hr⟩ := h j
    rw [hr, ← EReal.coe_sub, sub_self, Ideal.exp_coe, Real.exp_zero]; rfl
  have : (1 : EReal) ≤ ∑ j, Ideal.exp (s j - top s) := h1 ▸ Finset.single_le_sum (f := fun j => Ideal.exp (s j - top s)) (fun _ _ => exp_nonneg _) (Finset.mem_univ j)
  intro h0
  rw [h0] at this
  exact absurd this (by simp)

theorem weight_eq (s : Fin 2304 → EReal) (h : ∀ j, Fin' (s j)) (j : Fin 2304) :
    wK (lat s) (ctx s) (s j) * invK (lat s) (ctx s) = softmax s j := by
  unfold wK invK softmax
  rw [topK_eq, ← Ideal.mul_one_div (total_ne s h), sum_parts]
  rfl

theorem att_eq (s0 s1 v : Fin 2304 → EReal) (lam : EReal) (h0 : ∀ j, Fin' (s0 j)) (h1 : ∀ j, Fin' (s1 j)) :
    attK (lat s0) (ctx s0) (lat s1) (ctx s1) lam (lat v) (ctx v) = attend s0 s1 v lam := by
  unfold attK attend
  rw [sum_parts]
  have e : ∀ j, (wK (lat s0) (ctx s0) (s0 j) * invK (lat s0) (ctx s0) - wK (lat s1) (ctx s1) (s1 j) * (lam * invK (lat s1) (ctx s1))) * v j
      = v j * (softmax s0 j - lam * softmax s1 j) := fun j => by
    rw [mul_left_comm, weight_eq s0 h0, weight_eq s1 h1, mul_comm]
  exact congrArg₂ (· + ·) (Finset.sum_congr rfl fun j _ => e _) (Finset.sum_congr rfl fun j _ => e _)

theorem norm_eq (o : Fin 128 → EReal) (g : EReal) (e : Fin 128) : normK o (g * Ideal.ofBits FTy.f32 1061997773#32) e = norm o g e := by
  unfold normK norm
  rw [mul_assoc _ g]

/-- A sub-head's scores over all keys, from the 128-lane rows. -/
def rowScores (s : Fin 2) (n : ℕ) (q : Fin 128 → EReal) (kl : Fin 2048 → Fin 128 → EReal) (kc : Fin 256 → Fin 128 → EReal) (j : Fin 2304) : EReal :=
  score (rope n (half s q)) (key (fun j => half s (kc j)) (fun j => half s (kl j)) j)

/-- The values over all keys. -/
def rowVals (vl : Fin 2048 → Fin 128 → EReal) (vc : Fin 256 → Fin 128 → EReal) (e : Fin 128) (j : Fin 2304) : EReal :=
  if h : j.val < 256 then vc ⟨j, h⟩ e else vl ⟨j - 256, by omega⟩ e

theorem score_fin (q k : Fin 64 → EReal) (hq : ∀ d, Fin' (q d)) (hk : ∀ d, Fin' (k d)) : Fin' (score q k) :=
  (Fin'.sum _ fun d => (hq d).mul (hk d)).mul ofBits_eighth

theorem rowScores_fin (s : Fin 2) (n : ℕ) (q : Fin 128 → EReal) (kl : Fin 2048 → Fin 128 → EReal) (kc : Fin 256 → Fin 128 → EReal)
    (hq : ∀ l, Fin' (q l)) (hl : ∀ j l, Fin' (kl j l)) (hc : ∀ j l, Fin' (kc j l)) (j : Fin 2304) : Fin' (rowScores s n q kl kc j) := by
  refine score_fin _ _ (rope_fin n _ fun d => hq _) fun d => ?_
  unfold key
  split
  · exact hc _ _
  · exact rope_fin _ _ (fun d => hl _ _) d

theorem half_rot (s : Fin 2) (n : ℕ) (x : Fin 128 → EReal) : half s (rot x (tco n) (tsa n) (tsb n)) = rope n (half s x) :=
  funext fun d => rot_eq n x s d

theorem key_lat (kc : Fin 256 → Fin 64 → EReal) (kl : Fin 2048 → Fin 64 → EReal) (j : Fin 2048) :
    key kc kl ⟨256 + j.val, by omega⟩ = rope j.val (kl j) := by
  unfold key
  rw [dif_neg (by simp)]
  have e : 256 + j.val - 256 = j.val := by omega
  simp only [e]
theorem key_ctx (kc : Fin 256 → Fin 64 → EReal) (kl : Fin 2048 → Fin 64 → EReal) (j : Fin 256) :
    key kc kl ⟨j.val, by omega⟩ = kc j := by
  unfold key
  rw [dif_pos (by simp)]

theorem rot_fin (n : ℕ) (x : Fin 128 → EReal) (h : ∀ l, Fin' (x l)) (l : Fin 128) : Fin' (rot x (tco n) (tsa n) (tsb n) l) := by
  have e : l = ⟨(⟨l.val / 64, by omega⟩ : Fin 2).val * 64 + (⟨l.val % 64, by omega⟩ : Fin 64).val, by simp; omega⟩ := Fin.ext (by simp; omega)
  rw [e, rot_eq]
  exact rope_fin n _ (fun d => h _) _

/-- The blocked row is the normalised differential attention of the plain form. -/
theorem row_eq (n : ℕ) (q : Fin 128 → EReal) (kl : Fin 2048 → Fin 128 → EReal) (kc : Fin 256 → Fin 128 → EReal) (lam g : EReal)
    (vl : Fin 2048 → Fin 128 → EReal) (vc : Fin 256 → Fin 128 → EReal) (e : Fin 128)
    (hq : ∀ l, Fin' (q l)) (hl : ∀ j l, Fin' (kl j l)) (hc : ∀ j l, Fin' (kc j l)) :
    rowK (fun l => rot q (tco n) (tsa n) (tsb n) l * Ideal.ofBits FTy.f32 1040187392#32)
        (fun j l => rot (kl j) (tco j) (tsa j) (tsb j) l) kc lam g vl vc e
      = norm (fun e => attend (rowScores 0 n q kl kc) (rowScores 1 n q kl kc) (rowVals vl vc e) lam) g e := by
  unfold rowK
  refine (norm_eq _ _ _).trans (congrArg (fun o => norm o g e) (funext fun e => ?_))
  rw [← att_eq _ _ _ _ (rowScores_fin 0 n q kl kc hq hl hc) (rowScores_fin 1 n q kl kc hq hl hc)]
  have a0 : (fun j : Fin 2048 => dotK (lo fun l => rot q (tco n) (tsa n) (tsb n) l * Ideal.ofBits FTy.f32 1040187392#32) (fun l => rot (kl j) (tco j) (tsa j) (tsb j) l))
      = lat (rowScores 0 n q kl kc) := funext fun j => by
    rw [dot_lo n q _ hq (rot_fin _ _ (hl j)), half_rot]
    unfold lat rowScores; rw [key_lat]
  have a1 : (fun j : Fin 2048 => dotK (hi fun l => rot q (tco n) (tsa n) (tsb n) l * Ideal.ofBits FTy.f32 1040187392#32) (fun l => rot (kl j) (tco j) (tsa j) (tsb j) l))
      = lat (rowScores 1 n q kl kc) := funext fun j => by
    rw [dot_hi n q _ hq (rot_fin _ _ (hl j)), half_rot]
    unfold lat rowScores; rw [key_lat]
  have c0 : (fun j : Fin 256 => dotK (lo fun l => rot q (tco n) (tsa n) (tsb n) l * Ideal.ofBits FTy.f32 1040187392#32) (kc j))
      = ctx (rowScores 0 n q kl kc) := funext fun j => by
    rw [dot_lo n q _ hq (hc j)]
    unfold ctx rowScores; rw [key_ctx]
  have c1 : (fun j : Fin 256 => dotK (hi fun l => rot q (tco n) (tsa n) (tsb n) l * Ideal.ofBits FTy.f32 1040187392#32) (kc j))
      = ctx (rowScores 1 n q kl kc) := funext fun j => by
    rw [dot_hi n q _ hq (hc j)]
    unfold ctx rowScores; rw [key_ctx]
  have v0 : (fun j => vl j e) = lat (rowVals vl vc e) := funext fun j => by
    unfold lat rowVals
    rw [dif_neg (by simp)]
    have h : 256 + j.val - 256 = j.val := by omega
    simp only [h]
  have v1 : (fun j => vc j e) = ctx (rowVals vl vc e) := funext fun j => by
    unfold ctx rowVals
    rw [dif_pos (by simp)]
  rw [a0, a1, c0, c1, v0, v1]

/-- The padded parameter rows give the plain second weight. -/
theorem lamK_eq (x : Fin 4 → Fin 128 → EReal) (p : Fin 4 → Fin 64 → EReal)
    (h : ∀ n l, x n l = if h : l.val < 64 then p n ⟨l.val, h⟩ else 0) :
    lamK x = lam (p 0) (p 1) (p 2) (p 3) := by
  have e : ∀ a b, ∑ l, x a l * x b l = ∑ d, p a d * p b d := fun a b => by
    rw [sum_halves]
    have z : ∀ d : Fin 64, x a ⟨64 + d.val, by omega⟩ * x b ⟨64 + d.val, by omega⟩ = 0 := fun d => by
      rw [h, dif_neg (by simp), zero_mul]
    simp only [z, Finset.sum_const_zero, add_zero]
    refine Finset.sum_congr rfl fun d _ => ?_
    rw [h, h, dif_pos (by simp), dif_pos (by simp)]
  unfold lamK lam
  rw [e, e]
end Cert.Attn
end
-- ==== Proof.Equal.lean ====
/- The kernel's result array is the reference's, where the queries and the keys are finite. -/
module
public import proofs.«01_k».proof.Proof.Final
public import proofs.«01_k».proof.Proof.Ref
public import proofs.«01_k».proof.Proof.Math
@[expose] public section
set_option maxRecDepth 16384
noncomputable section
namespace Cert.KernelIdeal.Value
open Cert.KernelIdeal Cert.KernelIdeal.Gen
open Idealize.ShloMosaic Idealize.ShloMosaic.TcCoe Idealize.SL.Sem Idealize.ShloMosaic.Tactic
open Cert.ReferenceIdeal.Value (qry keyL keyC val scores att)

/-- Both descriptions of a sub-head's scores read the same columns. -/
theorem scores_eq (pl : FVec Ideal S16x2048x3072 .bf16) (pc : FVec Ideal S16x256x3072 .bf16) (b : Fin 16) (h : Fin 4) (s : Fin 2) (r : Fin 2048) :
    Attn.rowScores s r (fun l => pl (ix3 b r ⟨(12 + h.val) * 128 + l.val, by omega⟩)) (fun j l => pl (ix3 b j ⟨(16 + h.val) * 128 + l.val, by omega⟩))
        (fun j l => pc (ix3 b j ⟨(16 + h.val) * 128 + l.val, by omega⟩))
      = scores pl pc b ⟨h * 2 + s, by omega⟩ r := by
  have eq : Attn.half s (fun l => pl (ix3 b r ⟨(12 + h.val) * 128 + l.val, by omega⟩)) = qry pl b ⟨h * 2 + s, by omega⟩ r :=
    funext fun d => congrArg (fun i => pl (ix3 b r i)) (Fin.ext (by simp; omega))
  have el : (fun j => Attn.half s (fun l => pl (ix3 b j ⟨(16 + h.val) * 128 + l.val, by omega⟩))) = keyL pl b ⟨h * 2 + s, by omega⟩ :=
    funext fun j => funext fun d => congrArg (fun i => pl (ix3 b j i)) (Fin.ext (by simp; omega))
  have ec : (fun j => Attn.half s (fun l => pc (ix3 b j ⟨(16 + h.val) * 128 + l.val, by omega⟩))) = keyC pc b ⟨h * 2 + s, by omega⟩ :=
    funext fun j => funext fun d => congrArg (fun i => pc (ix3 b j i)) (Fin.ext (by simp; omega))
  funext j
  unfold Attn.rowScores scores
  rw [eq, el, ec]

theorem vals_eq (pl : FVec Ideal S16x2048x3072 .bf16) (pc : FVec Ideal S16x256x3072 .bf16) (b : Fin 16) (h : Fin 4) (e : Fin 128) :
    Attn.rowVals (fun j e => pl (ix3 b j ⟨(20 + h.val) * 128 + e.val, by omega⟩)) (fun j e => pc (ix3 b j ⟨(20 + h.val) * 128 + e.val, by omega⟩)) e
      = val pl pc b h e := by
  funext j
  unfold Attn.rowVals val
  have e1 : (20 + h.val) * 128 + e.val = 2560 + h.val * 128 + e.val := by omega
  simp only [e1]

/-- One row of the kernel is the reference's normalised attention. -/
theorem outRow_eq (pl : FVec Ideal S16x2048x3072 .bf16) (pc : FVec Ideal S16x256x3072 .bf16) (g : FVec Ideal S128 .f32) (lam : EReal)
    (hl : ∀ (b : Fin 16) (n : Fin 2048) (k : Fin 1024), Attn.Fin' (pl (ix3 b n ⟨1536 + k.val, by omega⟩)))
    (hc : ∀ (b : Fin 16) (n : Fin 256) (k : Fin 512), Attn.Fin' (pc (ix3 b n ⟨2048 + k.val, by omega⟩)))
    (b : Fin 16) (h : Fin 4) (r : Fin 2048) (e : Fin 128) :
    outRow pl pc g lam b h r e = Attn.norm (fun e => att pl pc lam b h r e) (g (ix1 e)) e := by
  unfold outRow
  have fq : ∀ l : Fin 128, Attn.Fin' (pl (ix3 b r ⟨(12 + h.val) * 128 + l.val, by omega⟩)) := fun l => by
    have := hl b r ⟨h.val * 128 + l.val, by omega⟩
    have e1 : (⟨(12 + h.val) * 128 + l.val, by omega⟩ : Fin 3072) = ⟨1536 + (h.val * 128 + l.val), by omega⟩ := Fin.ext (by simp; omega)
    rw [e1]; exact this
  have fl : ∀ (j : Fin 2048) (l : Fin 128), Attn.Fin' (pl (ix3 b j ⟨(16 + h.val) * 128 + l.val, by omega⟩)) := fun j l => by
    have := hl b j ⟨512 + h.val * 128 + l.val, by omega⟩
    have e1 : (⟨(16 + h.val) * 128 + l.val, by omega⟩ : Fin 3072) = ⟨1536 + (512 + h.val * 128 + l.val), by omega⟩ := Fin.ext (by simp; omega)
    rw [e1]; exact this
  have fc : ∀ (j : Fin 256) (l : Fin 128), Attn.Fin' (pc (ix3 b j ⟨(16 + h.val) * 128 + l.val, by omega⟩)) := fun j l => by
    have := hc b j ⟨h.val * 128 + l.val, by omega⟩
    have e1 : (⟨(16 + h.val) * 128 + l.val, by omega⟩ : Fin 3072) = ⟨2048 + (h.val * 128 + l.val), by omega⟩ := Fin.ext (by simp; omega)
    rw [e1]; exact this
  refine (Attn.row_eq r.val _ _ _ lam (g (ix1 e)) _ _ e fq fl fc).trans ?_
  refine congrArg (fun o => Attn.norm o (g (ix1 e)) e) (funext fun e => ?_)
  rw [scores_eq, scores_eq, vals_eq]
  rfl

variable (m : (ℓ : Loc nD τ sig) → Buf (Elt Ideal) ℓ)

theorem lam_eq (c : Dev nD) : Attn.lamK (lamRows m c)
    = Attn.lam (fun x => (m ((c.tc : Thread nD τ).loc main_arg2) : FVec Ideal S64 .f32) (ix1 x)) (fun x => (m ((c.tc : Thread nD τ).loc main_arg3) : FVec Ideal S64 .f32) (ix1 x))
      (fun x => (m ((c.tc : Thread nD τ).loc main_arg4) : FVec Ideal S64 .f32) (ix1 x)) (fun x => (m ((c.tc : Thread nD τ).loc main_arg5) : FVec Ideal S64 .f32) (ix1 x)) := by
  refine Attn.lamK_eq (lamRows m c) (fun n x => if n.val < 1 then m ((c.tc : Thread nD τ).loc main_arg2) (ix1 x) else if n.val < 2 then m ((c.tc : Thread nD τ).loc main_arg3) (ix1 x)
         else if n.val < 3 then m ((c.tc : Thread nD τ).loc main_arg4) (ix1 x) else m ((c.tc : Thread nD τ).loc main_arg5) (ix1 x)) fun n l => ?_
  exact lamp_eq m c n l

/-- The kernel's result array is the reference's function of the same arguments. -/
theorem equal (c : Dev nD) (V0 : Valuation ReferenceIdeal.τ ReferenceIdeal.sig (Elt Ideal))
    (h0 : V0 (Proc.tc.devRef ReferenceIdeal.main_arg0) = PL m c) (h1 : V0 (Proc.tc.devRef ReferenceIdeal.main_arg1) = PC m c)
    (h2 : V0 (Proc.tc.devRef ReferenceIdeal.main_arg2) = (m ((c.tc : Thread nD τ).loc main_arg2) : FVec Ideal S64 .f32))
    (h3 : V0 (Proc.tc.devRef ReferenceIdeal.main_arg3) = (m ((c.tc : Thread nD τ).loc main_arg3) : FVec Ideal S64 .f32))
    (h4 : V0 (Proc.tc.devRef ReferenceIdeal.main_arg4) = (m ((c.tc : Thread nD τ).loc main_arg4) : FVec Ideal S64 .f32))
    (h5 : V0 (Proc.tc.devRef ReferenceIdeal.main_arg5) = (m ((c.tc : Thread nD τ).loc main_arg5) : FVec Ideal S64 .f32))
    (h6 : V0 (Proc.tc.devRef ReferenceIdeal.main_arg6) = (m ((c.tc : Thread nD τ).loc main_arg6) : FVec Ideal S128 .f32))
    (hl : ∀ (b : Fin 16) (n : Fin 2048) (k : Fin 1024), Attn.Fin' (PL m c (ix3 b n ⟨1536 + k.val, by omega⟩)))
    (hc : ∀ (b : Fin 16) (n : Fin 256) (k : Fin 512), Attn.Fin' (PC m c (ix3 b n ⟨2048 + k.val, by omega⟩))) :
    (dats m 0 c).arrAt 10 cfg0.N = ReferenceIdeal.Value.result V0 := by
  refine final m c _ fun b h r e => ?_
  refine (outRow_eq (PL m c) (PC m c) _ _ hl hc b h r e).trans ?_
  rw [lam_eq]
  refine Eq.trans ?_ (congrFun (ReferenceIdeal.Value.result_eq V0) _).symm
  refine Eq.trans ?_ (ReferenceIdeal.Value.nTerm_apply _ _ b r ⟨h.val * 128 + e.val, by omega⟩).symm
  have eh : (⟨(h.val * 128 + e.val) / 128, by omega⟩ : Fin 4) = h := Fin.ext (by show (h.val * 128 + e.val) / 128 = h.val; omega)
  have ee : (⟨(h.val * 128 + e.val) % 128, by omega⟩ : Fin 128) = e := Fin.ext (by show (h.val * 128 + e.val) % 128 = e.val; omega)
  simp only [eh, ee]
  have hv : ∀ e, (ReferenceIdeal.Value.res_main_v119 V0 : FVec Ideal ReferenceIdeal.S16x2048x4x128 .f32) (ix4 b r h e) = _ := fun e => ReferenceIdeal.Value.v119_apply V0 b r h e
  refine Eq.trans ?_ (congrArg (fun o => Attn.norm o _ e) (funext hv)).symm
  rw [h0, h1, h2, h3, h4, h5, h6]
end Cert.KernelIdeal.Value
end
-- ==== Proof.Pre.lean ====
/- The precondition read entry by entry: the queries and the keys are finite. -/
module
public import proofs.«01_k».proof.Defs
public import proofs.«01_k».proof.Proof.Math
public import Idealize.ShloMosaic.Lib.Pointwise
@[expose] public section
set_option maxRecDepth 16384
noncomputable section
namespace Cert.Pre_finite_queries_and_keys
open Cert.Pre_finite_queries_and_keys
open Idealize.ShloMosaic Idealize.ShloMosaic.Tactic

/-- The side conditions of the precondition's operations. -/
theorem facts : Facts where
  slices_S16x2048x3072_S16x2048x1024_0_0_1536 := by decide
  bcast_S_S16x2048x1024 := by decide
  slices_S16x256x3072_S16x256x512_0_0_2048 := by decide
  bcast_S_S16x256x512 := by decide

variable [hF : Facts]

theorem inf_bf16 : Ideal.ofBits FTy.bf16 32640#16 = ⊤ := by simp [Ideal.ofBits, Ideal.ieee]

theorem finite_of_lt {x : EReal} (e : BitVec.ofBool (decide (FloatOps.absf (F := Ideal) (φ := .bf16) x < Ideal.ofBits FTy.bf16 32640#16)) = 1#1) : Attn.Fin' x := by
  rw [inf_bf16] at e
  have h : max x (-x) < ⊤ := by
    by_contra hn
    exact absurd ((congrArg BitVec.ofBool (decide_eq_false hn)).symm.trans e) (by decide)
  refine Attn.Fin'.of_ne (fun hx => ?_) (fun hx => ?_)
  · rw [hx] at h; simp at h
  · rw [hx] at h; simp at h

theorem lat_fin (x0 : FVec Ideal S16x2048x3072 .bf16) (x1 : FVec Ideal S16x256x3072 .bf16) (x2 x3 x4 x5 : FVec Ideal S64 .f32) (x6 : FVec Ideal S128 .f32)
    (h : (fn (F := Ideal) x0 x1 x2 x3 x4 x5 x6).1 = fun _ => 1#1) (b : Fin 16) (n : Fin 2048) (k : Fin 1024) :
    Attn.Fin' (x0 (ix3 b n ⟨1536 + k.val, by omega⟩)) := by
  have e := congrFun h (ix3 b n k)
  pointwise [fn] at e
  exact finite_of_lt e
theorem ctx_fin (x0 : FVec Ideal S16x2048x3072 .bf16) (x1 : FVec Ideal S16x256x3072 .bf16) (x2 x3 x4 x5 : FVec Ideal S64 .f32) (x6 : FVec Ideal S128 .f32)
    (h : (fn (F := Ideal) x0 x1 x2 x3 x4 x5 x6).2 = fun _ => 1#1) (b : Fin 16) (n : Fin 256) (k : Fin 512) :
    Attn.Fin' (x1 (ix3 b n ⟨2048 + k.val, by omega⟩)) := by
  have e := congrFun h (ix3 b n k)
  pointwise [fn] at e
  exact finite_of_lt e
end Cert.Pre_finite_queries_and_keys
end
-- ==== Proof.MoeBody.lean ====
module
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
@[expose] public section
set_option maxRecDepth 16384
set_option Elab.async false
noncomputable section
namespace Cert.Kernel2Ideal.Moe
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two tables, whole. -/
abbrev tbM0_0 : Memref sig .tc .smem S816 .i32 := Memref.whole main_arg0
abbrev tbM0_1 : Memref sig .tc .smem S1 .i32 := Memref.whole main_arg1

/-- A staging buffer of the output, through which what the body leaves is stated. -/
abbrev outView : View sig .tc .vmem S512x1024 .bf16 := (Memref.whole cc0_stg4_0 : Memref sig .tc .vmem S512x1024 .bf16).view

set_option backward.proofsInPublic true in
set_option maxHeartbeats 8000000 in
/-- The body at a tile in use: from the blocks of the four inputs and the two tables, it runs to its end, and leaves in the
    output's buffer the pieces found here. -/
noncomputable def runUsed (c : Dev nD) (i : grid0.Coords) (arg3 : Memref sig .tc .vmem S512x1024 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole) (T0 : (S816.Idx → Elt F .i32)) (T1 : (S1.Idx → Elt F .i32))
     (x0 : (S512x1024.Idx → Elt F .bf16)) (x1 : (S1x1x1024x256.Idx → Elt F .f32)) (x2 : (S1x1x1024x256.Idx → Elt F .f32)) (x3 : (S1x1x256x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) :
    { out0 : List (View.Piece (Elt F) S512x1024 .bf16) //
      ∀ (K : PUnit → sProp (MT nD τ sig Unit (Elt F) ℕ (UR sig nD τ) ℕ)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt F) f out0)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7) K } :=
  ⟨_, fun K => by
    unfold owns
    rw [cc0_moe_experts_eq_skeleton]; unfold cc0_moe_experts_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ _ = _; exact k0_h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- Those pieces fill the whole block. -/
theorem coverUsed (c : Dev nD) (i : grid0.Coords) (arg3 : Memref sig .tc .vmem S512x1024 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole) (T0 : (S816.Idx → Elt F .i32)) (T1 : (S1.Idx → Elt F .i32))
     (x0 : (S512x1024.Idx → Elt F .bf16)) (x1 : (S1x1x1024x256.Idx → Elt F .f32)) (x2 : (S1x1x1024x256.Idx → Elt F .f32)) (x3 : (S1x1x256x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (y : S512x1024.Idx) :
    ∃ pc ∈ (runUsed c i arg3 harg3 arg4 harg4 arg5 harg5 arg6 harg6 arg7 harg7 T0 T1 x0 x1 x2 x3 k0_h1).1, y ∈ pc.1.set :=
  View.cover_of_tiledL (runUsed c i arg3 harg3 arg4 harg4 arg5 harg5 arg6 harg6 arg7 harg7 T0 T1 x0 x1 x2 x3 k0_h1).1 S512x1024.size (by sl_kernel_rfl) y

/-- What the body leaves in the output's buffer at a tile in use. -/
def outUsed (c : Dev nD) (i : grid0.Coords) (arg3 : Memref sig .tc .vmem S512x1024 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole) (T0 : (S816.Idx → Elt F .i32)) (T1 : (S1.Idx → Elt F .i32))
     (x0 : (S512x1024.Idx → Elt F .bf16)) (x1 : (S1x1x1024x256.Idx → Elt F .f32)) (x2 : (S1x1x1024x256.Idx → Elt F .f32)) (x3 : (S1x1x256x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) : (S512x1024.Idx → Elt F .bf16) :=
  outView.read (Elt F) (outView.writes (Elt F) outView.junk (runUsed c i arg3 harg3 arg4 harg4 arg5 harg5 arg6 harg6 arg7 harg7 T0 T1 x0 x1 x2 x3 k0_h1).1)

set_option maxHeartbeats 8000000 in
/-- The body at a tile not in use: it changes nothing. -/
noncomputable def runRest (c : Dev nD) (i : grid0.Coords) (arg3 : Memref sig .tc .vmem S512x1024 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole) (T0 : (S816.Idx → Elt F .i32)) (T1 : (S1.Idx → Elt F .i32))
     (x0 : (S512x1024.Idx → Elt F .bf16)) (x1 : (S1x1x1024x256.Idx → Elt F .f32)) (x2 : (S1x1x1024x256.Idx → Elt F .f32)) (x3 : (S1x1x256x1024.Idx → Elt F .f32)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) :
    { out : Unit //
      ∀ (y4 : (S512x1024.Idx → Elt F .bf16)) (K : PUnit → sProp (MT nD τ sig Unit (Elt F) ℕ (UR sig nD τ) ℕ)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ owns (c : Thread nD τ) arg7 fullShare y4
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ owns (c : Thread nD τ) arg7 fullShare y4) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7) K } :=
  ⟨⟨⟩, fun (y4 : (S512x1024.Idx → Elt F .bf16)) K => by
    unfold owns
    rw [cc0_moe_experts_eq_skeleton]; unfold cc0_moe_experts_skel
    iintro ⟨H0, H1, H2, H3, HT0, HT1, ⟨%f4, %hf4, HO4⟩, Hk⟩
    obtain rfl := harg7.eq_unread hf4
    have hT0 : tbM0_0.IsWhole := Memref.isWhole_whole _
    have hT1 : tbM0_1.IsWhole := Memref.isWhole_whole _
    sl_exec! (disch := first | (guard_target = ¬(k0_cond1 _ _ = _); exact k0_h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; · ipureintro; exact harg7.read_unread _
    iexact HO4⟩

end Cert.Kernel2Ideal.Moe

end
-- ==== Proof.MoeTab.lean ====
module
public import proofs.«01_k».proof.Proof.MoeBody
public import Idealize.ShloMosaic.Lib.Pipeline.Kit
public import Idealize.ShloMosaic.Lib.Pipeline.TableIdle
public import Idealize.ShloMosaic.Lib.Pipeline.FrameBody
public import Idealize.ShloMosaic.Lib.Pipeline.ValueKit
@[expose] public section
set_option maxRecDepth 16384
noncomputable section
namespace Cert.Kernel2Ideal.Moe
open Cert.Kernel2Ideal Cert.Kernel2Ideal.Gen
open Idealize.ShloMosaic Idealize.ShloMosaic.TcCoe Idealize.ShloMosaic.Tactic
open Idealize.SL Idealize.SL.Sem

/-- The one index of the table of one word. -/
def z1 : S1.Idx := fun a => ⟨0, by fin_cases a; decide⟩

theorem z1_eq (x : S1.Idx) : x = z1 := funext fun a => by
  fin_cases a
  refine Fin.ext ?_
  have h : (x 0).val < 1 := (x 0).isLt
  show (x 0).val = 0
  omega

/-- The tables: each tile's expert, and how many tiles are in use. Every expert is one of the sixty-four, and at least one
    tile is in use. -/
structure Tab (F : FTy → Type) where
  te : S816.Idx → BitVec 32
  nu : S1.Idx → BitVec 32
  te_lt : ∀ x, (te x).toNat < 64
  nu_pos : 1 ≤ (nu z1).toNat
  nu_lt : (nu z1).toNat < 2 ^ 31

variable {F : FTy → Type} [FloatOps F] (ch : Tab F)

/-- How many tiles are in use. -/
def Tab.n (ch : Tab F) : ℕ := (ch.nu z1).toNat
theorem Tab.n_pos : 1 ≤ ch.n := ch.nu_pos
theorem Tab.n_lt : ch.n < 2 ^ 31 := ch.nu_lt
theorem Tab.nu_eq : ch.nu z1 = BitVec.ofNat 32 ch.n := by
  unfold Tab.n; simp

/-- The tables as the launch holds them. -/
def tabs : pre0.Contents (Elt F) := fun | ⟨0, _⟩ => ch.te | ⟨1, _⟩ => ch.nu | ⟨_ + 2, h⟩ => absurd h (by simp)

theorem toInt_nat {a : ℕ} (ha : a < 2 ^ 31) : (BitVec.ofNat 32 a).toInt = (a : Int) := by
  rw [BitVec.toInt_eq_toNat_cond, BitVec.toNat_ofNat]
  have : a % 2 ^ 32 = a := Nat.mod_eq_of_lt (by omega)
  rw [this, if_pos (by omega)]

theorem slt_nat {a b : ℕ} (ha : a < 2 ^ 31) (hb : b < 2 ^ 31) : (BitVec.ofNat 32 a).slt (BitVec.ofNat 32 b) = decide (a < b) := by
  have ea : (BitVec.ofNat 32 a).toInt = (a : Int) := toInt_nat ha
  have eb : (BitVec.ofNat 32 b).toInt = (b : Int) := toInt_nat hb
  rw [BitVec.slt, ea, eb]
  simp

theorem pred_nat {n : ℕ} (h : 1 ≤ n) (h' : n < 2 ^ 31) : BitVec.ofNat 32 n - 1#32 = BitVec.ofNat 32 (n - 1) := by
  refine BitVec.eq_of_toNat_eq ?_
  rw [BitVec.toNat_sub]
  simp only [BitVec.toNat_ofNat]
  omega

theorem minsi_nat {a b : ℕ} (ha : a < 2 ^ 31) (hb : b < 2 ^ 31) :
    (Scalar.minsi (BitVec.ofNat 32 a) (BitVec.ofNat 32 b)).toNat = min a b := by
  unfold Scalar.minsi IntOp.minsi
  rw [slt_nat ha hb]
  by_cases h : a < b
  · simp only [h, decide_true, if_true, BitVec.toNat_ofNat]; omega
  · simp only [h, decide_false, Bool.false_eq_true, if_false, BitVec.toNat_ofNat]; omega

/-- The condition the body tests: the tile is in use. -/
theorem cond_iff (i : grid0.Coords) {v : BitVec 32} (hv : v = ch.nu z1) : k0_cond1 i v = 1#1 ↔ (i 0).val < ch.n := by
  have hi : (i 0).val < 816 := (i 0).isLt
  have hn := ch.n_lt
  subst hv
  rw [ch.nu_eq]
  unfold k0_cond1 Scalar.cmpi IntOp.cmpi Scalar.extui
  simp only
  rw [slt_nat (by omega) hn]
  by_cases h : (i 0).val < ch.n
  · simp [h]
  · simp [h]

theorem index_4 (i : grid0.Coords) : cc0_transform_4 inb_S1_S1_0 numel1_S1 (tabs ch) i = ![min (i 0).val (ch.n - 1), 0] := by
  have hi : (i 0).val < 816 := (i 0).isLt
  have hn := ch.n_lt
  have e : (tabs ch).at 1 (Rect.unit (s := S1) ![0] S1.size inb_S1_S1_0) numel1_S1 = ch.nu z1 := congrArg ch.nu (z1_eq _)
  unfold cc0_transform_4
  simp only
  rw [e, ch.nu_eq]
  unfold Scalar.subi IntOp.subi
  rw [pred_nat ch.n_pos hn, minsi_nat (by omega) (by omega)]
  rfl

theorem index_0 (i : grid0.Coords) : cc0_transform_0 inb_S1_S1_0 numel1_S1 (tabs ch) i = ![min (i 0).val (ch.n - 1), 0] := index_4 ch i

/-- The word of the experts' table a point reads. -/
def teAt (i : grid0.Coords) : BitVec 32 := ch.te (fun a => ⟨(i 0).val, by fin_cases a; exact (i 0).isLt⟩)

theorem te_read (i : grid0.Coords) : (tabs ch).at 0 (Rect.unit (s := S816) (k0_off1 i) S1.size (k0_off1_inb i)) numel1_S1 = teAt ch i := by
  refine congrArg ch.te (funext fun a => ?_)
  have hi : (i 0).val < 816 := (i 0).isLt
  fin_cases a
  refine Fin.ext ?_
  show (BitVec.ofNat 32 (i 0).val).toNat + 1 * _ = (i 0).val
  rw [BitVec.toNat_ofNat]
  have : ((Shape.Idx.first (numel1_S1.symm ▸ Nat.one_pos) : S1.Idx) 0).val < 1 := ((Shape.Idx.first (numel1_S1.symm ▸ Nat.one_pos) : S1.Idx) 0).isLt
  have h2 : ((Shape.Idx.first (numel1_S1.symm ▸ Nat.one_pos) : S1.Idx) 0).val = 0 := by omega
  erw [h2]
  omega

theorem index_1 (i : grid0.Coords) : cc0_transform_1 k0_off1_inb numel1_S1 (tabs ch) i = ![0, (teAt ch i).toNat, 0, 0] :=
  congrArg (fun v : BitVec 32 => ![0, v.toNat, 0, 0]) (te_read ch i)
theorem index_2 (i : grid0.Coords) : cc0_transform_2 k0_off1_inb numel1_S1 (tabs ch) i = ![0, (teAt ch i).toNat, 0, 0] := index_1 ch i
theorem index_3 (i : grid0.Coords) : cc0_transform_3 k0_off1_inb numel1_S1 (tabs ch) i = ![0, (teAt ch i).toNat, 0, 0] := index_1 ch i

theorem inb_4 (i : grid0.Coords) : ∀ a, (cc0_transform_4 inb_S1_S1_0 numel1_S1 (tabs ch) i a + 1) * S512x1024.size a ≤ S417792x1024.size a := by
  have hi : (i 0).val < 816 := (i 0).isLt
  rw [index_4]
  intro a
  fin_cases a
  · show (min (i 0).val (ch.n - 1) + 1) * 512 ≤ 417792
    omega
  · show (0 + 1) * 1024 ≤ 1024
    decide

theorem inb_1 (i : grid0.Coords) : ∀ a, (cc0_transform_1 k0_off1_inb numel1_S1 (tabs ch) i a + 1) * S1x1x1024x256.size a ≤ S4x64x1024x256.size a := by
  have ht : (teAt ch i).toNat < 64 := ch.te_lt _
  rw [index_1]
  intro a
  fin_cases a
  · show (0 + 1) * 1 ≤ 4
    decide
  · show ((teAt ch i).toNat + 1) * 1 ≤ 64
    omega
  · show (0 + 1) * 1024 ≤ 1024
    decide
  · show (0 + 1) * 256 ≤ 256
    decide

theorem inb_3 (i : grid0.Coords) : ∀ a, (cc0_transform_3 k0_off1_inb numel1_S1 (tabs ch) i a + 1) * S1x1x256x1024.size a ≤ S4x64x256x1024.size a := by
  have ht : (teAt ch i).toNat < 64 := ch.te_lt _
  rw [index_3]
  intro a
  fin_cases a
  · show (0 + 1) * 1 ≤ 4
    decide
  · show ((teAt ch i).toNat + 1) * 1 ≤ 64
    omega
  · show (0 + 1) * 256 ≤ 256
    decide
  · show (0 + 1) * 1024 ≤ 1024
    decide

/-- Every block the index maps name at these tables lies inside its array. -/
theorem ok_tabs : ok0 (F := F) (tabs ch) :=
  ⟨fun i => ⟨inb_4 ch i, .inr (Affine.block_words_dvd (s := S417792x1024) (p := EltTy.packing .bf16) (by decide) (by decide))⟩,
   fun i => ⟨inb_1 ch i, .inl rfl⟩, fun i => ⟨inb_1 ch i, .inl rfl⟩, fun i => ⟨inb_3 ch i, .inl rfl⟩,
   fun i => ⟨inb_4 ch i, .inr (Affine.block_words_dvd (s := S417792x1024) (p := EltTy.packing .bf16) (by decide) (by decide))⟩⟩

/-- The pipeline at the tables. -/
def adm : (pcfg0 (F := F)).Adm := ⟨tabs ch, ok_tabs ch⟩
abbrev cfgA : Pipeline.Cfg sig Λ₀ := cfg0 (F := F) (adm ch)
abbrev pcs : Fin 1 → Pipeline.Cfg sig Λ₀ := Pipeline.pin (pcfgs (F := F)) fun _ => adm ch
abbrev crd (t : Fin (cfgA ch).N) : (cfgA ch).grid.Coords := (cfgA ch).grid.coords t

theorem N_eq : (cfgA ch).N = 816 := N_0
theorem t_lt (t : Fin (cfgA ch).N) : t.val < 816 := lt_of_lt_of_eq t.isLt (N_eq ch)
theorem crd_val (t : Fin (cfgA ch).N) : (crd ch t 0).val = t.val := by
  have h : t.val < 816 := t_lt ch t
  refine (Pipeline.Grid.coords_val (G := grid0) t 0 (S := 1) (B := 816) (by decide) rfl).trans ?_
  omega

/-- The tile a point computes is in use. -/
abbrev P0_0 (t : Fin (cfgA ch).N) : Prop := k0_cond1 (crd ch t) (View.readAt (Elt F) (tbM0_1).view (Rect.unit (s := S1) ![0] S1.size inb_S1_S1_0).toLoadRect (ch.nu) (Shape.Idx.first (numel1_S1.symm ▸ Nat.one_pos))) = 1#1

theorem P_iff (t : Fin (cfgA ch).N) : P0_0 ch t ↔ t.val < ch.n := by
  refine (cond_iff ch (crd ch t) ?_).trans (by rw [crd_val])
  exact congrArg ch.nu (z1_eq _)

theorem idle_eq (t : Fin (cfgA ch).N) : (cfgA ch).idle (4 : Fin 5) ((cfgA ch).grid.coords t) = decide (¬ t.val < ch.n) := by
  have e : (tabs ch).atD 1 ![0] = ch.nu z1 := by
    unfold Pipeline.Prefetch.Contents.atD
    rw [dif_pos (fun a => by fin_cases a; decide)]
    exact congrArg ch.nu (z1_eq _)
  have h := cond_iff ch (crd ch t) e
  rw [crd_val] at h
  show (!(k0_cond1 (crd ch t) ((tabs ch).atD 1 ![0]) == 1#1)) = _
  by_cases hn : t.val < ch.n
  · rw [h.2 hn]; simp [hn]
  · have : ¬ k0_cond1 (crd ch t) ((tabs ch).atD 1 ![0]) = 1#1 := fun e => hn (h.1 e)
    simp [hn, this]

theorem index4_eq (t : Fin (cfgA ch).N) : ((cfgA ch).win (4 : Fin 5)).index t = ![min t.val (ch.n - 1), 0] := by
  have h := index_4 ch (crd ch t)
  rw [crd_val] at h
  exact h

theorem flush_iff (t : Fin (cfgA ch).N) : ((cfgA ch).win (4 : Fin 5)).flush t = true ↔ t.val + 1 = 816 ∨ (t.val + 1 < 816 ∧ t.val + 1 < ch.n) := by
  have hn := ch.n_pos
  unfold Pipeline.Window.flush
  have e0 : ((cfgA ch).win (4 : Fin 5)).isOut = true := rfl
  rw [e0, Bool.true_and, Bool.or_eq_true, decide_eq_true_iff, decide_eq_true_iff]
  have hN : (cfgA ch).grid.N = 816 := N_0
  refine or_congr ⟨fun h => h.trans hN, fun h => h.trans hN.symm⟩ ⟨fun ⟨h, hne⟩ => ?_, fun ⟨h, hlt⟩ => ⟨lt_of_lt_of_eq h hN.symm, ?_⟩⟩
  · refine ⟨lt_of_lt_of_eq h hN, ?_⟩
    by_contra hc
    refine hne ?_
    rw [index4_eq, index4_eq]
    have : min (t.val + 1) (ch.n - 1) = min t.val (ch.n - 1) := by omega
    show ![min (t.val + 1) (ch.n - 1), 0] = _
    rw [this]
  · rw [index4_eq, index4_eq]
    intro e
    have := congrFun e 0
    have : min (t.val + 1) (ch.n - 1) = min t.val (ch.n - 1) := this
    omega

theorem fresh_eq : ∀ k, k < 816 → (cfgA ch).fresh (4 : Fin 5) k = decide (k < ch.n)
  | 0, _ => by
    have := ch.n_pos
    rw [Pipeline.Cfg.fresh_zero]
    simp [show 0 < ch.n by omega]
  | k + 1, h => by
    have hk : k < (cfgA ch).N := by rw [N_eq]; omega
    rw [Pipeline.Cfg.fresh_succ _ _ k hk, fresh_eq k (by omega), idle_eq]
    have hf := flush_iff ch ⟨k, hk⟩
    simp only at hf
    by_cases h1 : k + 1 < ch.n
    · rw [hf.2 (.inr ⟨h, h1⟩)]; simp [h1]
    · have : ((cfgA ch).win (4 : Fin 5)).flush ⟨k, hk⟩ = false := by
        rw [← Bool.not_eq_true]
        intro e
        rcases hf.1 e with e | ⟨_, e⟩ <;> omega
      rw [this]
      simp only [Bool.false_or]
      by_cases h2 : k < ch.n <;> simp [h1, h2]

/-- At a tile in use: the output is stored, over nothing. -/
theorem sched_A (t : Fin (cfgA ch).N) (q : P0_0 ch t) :
    (cfgA ch).idle (4 : Fin 5) ((cfgA ch).grid.coords t) = false ∧ (cfgA ch).fresh (4 : Fin 5) t.val = true := by
  have h := (P_iff ch t).1 q
  have hN : t.val < 816 := t_lt ch t
  rw [idle_eq, fresh_eq ch _ hN]
  simp [h]

/-- At a tile not in use: the output is left as it was. -/
theorem sched_B (t : Fin (cfgA ch).N) (q : ¬ P0_0 ch t) :
    (cfgA ch).idle (4 : Fin 5) ((cfgA ch).grid.coords t) = true ∧ (cfgA ch).fresh (4 : Fin 5) t.val = false := by
  have h : ¬ t.val < ch.n := fun e => q ((P_iff ch t).2 e)
  have hN : t.val < 816 := t_lt ch t
  rw [idle_eq, fresh_eq ch _ hN]
  simp [h]

end Cert.Kernel2Ideal.Moe
end
-- ==== Proof.MoeRun.lean ====
module
public import proofs.«01_k».proof.Proof.MoeTab
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
@[expose] public section
set_option maxRecDepth 16384
set_option Elab.async false
noncomputable section
namespace Cert.Kernel2Ideal.Moe
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] (ch : Tab F)

/-- The machine's resources, at this kernel's memory and floats. -/
abbrev Mach (F : FTy → Type) [FloatOps F] := MT nD τ sig Unit (Elt F) ℕ (UR sig nD τ) ℕ
/-- The resource of the pipeline's staging cells, the whole of it. -/
abbrev EP : Emb (UR sig nD τ) (Mach F) := emb₁

variable (m : (ℓ : Loc nD τ sig) → Buf (Elt F) ℓ) (ρ : Dev nD → PrngReg)

/-- The launch memory holds the tables. -/
def Pinned (m : (ℓ : Loc nD τ sig) → Buf (Elt F) ℓ) : Prop :=
  (∀ c : Dev nD, m ((c : Thread nD τ).loc main_arg0) = ch.te) ∧ (∀ c : Dev nD, m ((c : Thread nD τ).loc main_arg1) = ch.nu)

abbrev ms0_0 (t : Fin (cfgA ch).N) : Memref sig .tc .vmem S512x1024 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1x1024x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1x1024x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1x256x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x1024 .bf16 := spec0_4.stage ((cfgA ch).slots t (4 : Fin 5))
abbrev hs0_4 (t : Fin (cfgA ch).N) : (ms0_4 ch t).IsWhole := hstage0_4 (((cfgA ch).slots t (4 : Fin 5)).cast nbuf0_4)

def iblk (c : Dev nD) (w : Fin (cfgA ch).W) (t : Fin (cfgA ch).N) : (((cfgA ch).win w).xblock (crd ch t)).Idx → Elt F ((cfgA ch).win w).elt :=
  (((cfgA ch).win w).blk t).view.read (Elt F) ((s₀ m ρ).mem (((cfgA ch).win w).arr.view.loc (c : Thread nD τ)))

/-- What stands for a buffer's contents before anything is stored. -/
def blank : S512x1024.Idx → Elt F .bf16 := outView.read (Elt F) outView.junk

def step0 (c : Dev nD) (t : Fin (cfgA ch).N) (prev : (S512x1024.Idx → Elt F .bf16)) : (S512x1024.Idx → Elt F .bf16) :=
  if q0 : P0_0 ch t then
    outUsed c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0
  else
    (if (cfgA ch).fresh (4 : Fin 5) t.val then blank else prev)

def traj0 (c : Dev nD) : (n : ℕ) → n < (cfgA ch).N → (S512x1024.Idx → Elt F .bf16)
  | 0, h => step0 ch m ρ c ⟨0, h⟩ blank
  | n + 1, h => step0 ch m ρ c ⟨n + 1, h⟩ (traj0 c n (Nat.lt_of_succ_lt h))

def prev0 (c : Dev nD) (t : Fin (cfgA ch).N) : (S512x1024.Idx → Elt F .bf16) :=
  if h : t.val = 0 then blank else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S512x1024.Idx → Elt F .bf16)) (q0 : P0_0 ch t) :
    step0 ch m ρ c t prev = outUsed c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 := by
  unfold step0; simp only [dif_pos q0]

theorem step0_B (c : Dev nD) (t : Fin (cfgA ch).N) (prev : (S512x1024.Idx → Elt F .bf16)) (q0 : ¬P0_0 ch t) :
    step0 ch m ρ c t prev = (if (cfgA ch).fresh (4 : Fin 5) t.val then blank else prev) := by
  unfold step0; simp only [dif_neg q0]

def prev0T (c : Dev nD) (t : Fin ((cfgA ch).N + 1)) : (S512x1024.Idx → Elt F .bf16) :=
  if h : t.val = 0 then blank else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt F) ℓ) (ρ : Dev nD → PrngReg) (c : Dev nD) (t : Fin ((cfgA ch).N + 1)) : sProp (Mach F) :=
  iprop((tbM0_0.view.loc (c : Thread nD τ) ↦{fullShare.right} ch.te) ∗ (tbM0_1.view.loc (c : Thread nD τ) ↦{fullShare.right} ch.nu))

def dats (_ : Fin 1) (c : Dev nD) : Dat τ (Elt F) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt)
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt) := rfl

theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · obtain ⟨i4, -⟩ := sched_A ch t q0
    rw [i4] at hi; exact absurd hi (by decide)
  · rw [step0_B ch m ρ c t _ q0]
    simp only [hf, Bool.false_eq_true, ↓reduceIte]
    unfold prev0; rw [dif_neg ht]

theorem before0_4 (c : Dev nD) (t : Fin (cfgA ch).N) (d) :
    (dats ch m ρ 0 c).before (4 : Fin 5) t d = if (cfgA ch).fresh (4 : Fin 5) t.val then d else (prev0 ch m ρ c t) := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

abbrev bodyAt0 (t : Fin (cfgA ch).N) : Prog (TpuEff nD τ sig (Elt F) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := F)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, fr4⟩ := sched_A ch t q0
    have k0_h1 := q0
    rewrite [i4]
    simp only [before0_0, before0_1, before0_2, before0_3, before0_4, after0_0, after0_1, after0_2, after0_3, after0_4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨HT0, HT1⟩, Ho, ⟨%d0, H0⟩, ⟨%d1, H1⟩, ⟨%d2, H2⟩, ⟨%d3, H3⟩, ⟨%d4, H4⟩⟩
    iapply ((runUsed c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) k0_h1).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (coverUsed c _ _ _ _ _ _ _ _ _ _ _ _ _ _ _ _ _ _)
  · obtain ⟨i4, fr4⟩ := sched_B ch t q0
    have k0_h1 := q0
    cases f4 : ((cfgA ch).win (4 : Fin 5)).flush t
    · rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((runRest c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ, fr4, Bool.false_eq_true, ↓reduceIte]
      iintro ⟨⟨HT0, HT1⟩, Ho, ⟨%d0, H0⟩, ⟨%d1, H1⟩, ⟨%d2, H2⟩, ⟨%d3, H3⟩, ⟨%d4, H4⟩⟩
      iapply ((runRest c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

theorem body_obligation (hp : Pinned ch m) (c : Dev nD) : BodyObligation (dats ch m ρ 0 c) (defs₀ (F := F)) Variants.none () Set.univ := fun t => by
  rw [bigSep_W0]
  exact sound_body ch m ρ hp c t

def u₀ : UR sig nD τ :=
  initOf (Pipeline.cells (pcs ch) ((launch0 (F := F)).cellOf_inj fun _ => adm ch))
    (Pipeline.launchToks (pcs ch) ((launch0 (F := F)).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (Mach F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

def QC : PUnit × MemSt nD τ sig (Elt F) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
theorem run_main_quiescent (hp : Pinned ch m) : θ_run (defs (F := F)) (onTc (τ := τ) (main (F := F))) (s₀ m ρ) (fun r => QC ch m ρ r ∧ r.2.sem = fun _ => 0) :=
  Pipeline.θ_run_region_noSem_pf_quiescent pcfgs (fun _ => adm ch) (dats ch m ρ) () ((launch0 (F := F)).cellOf_inj fun _ => adm ch) (0 : Fin 1)
    (launch0 (F := F)).win.to₀ (launch0 (F := F)).pre EP defs₀ Variants.none m ρ main
    (hbody := fun c => (body_obligation ch m ρ hp c).loose) (hne := (launch0 (F := F)).block_pos)
    (harr := (launch0 (F := F)).arr_whole) (hstage := (launch0 (F := F)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := F)).win.arr_inj c (launch0 (F := F)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := F)) (onTc (τ := τ) (main (F := F))) (s₀ m ρ) (QC ch m ρ) :=
  (θ_run defs _ _).mono (fun _ h => h.1) (run_main_quiescent ch m ρ hp)

theorem unchanged (hp : Pinned ch m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

theorem frame (hp : Pinned ch m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel2Ideal.Moe

end
-- ==== Proof.MoePay.lean ====
/- One expert's feed-forward of a row, and that the kernel's stored block is it, entry by entry. -/
module
public import proofs.«01_k».proof.Proof.Gen.Kernel2Ideal.Skeleton
public import Idealize.ShloMosaic.Lib.Pointwise
@[expose] public section
set_option maxRecDepth 16384
noncomputable section
namespace Cert.Moe
open Idealize.ShloMosaic

/-- A value times its logistic. -/
def silu (x : EReal) : EReal := x * Ideal.logistic x
/-- The hidden entry of a row: the gate's silu times the up projection. -/
def hidden (x : Fin 1024 → EReal) (wg wu : Fin 1024 → Fin 256 → EReal) (f : Fin 256) : EReal :=
  silu (∑ k, x k * wg k f) * ∑ k, x k * wu k f
/-- One entry of an expert's feed-forward of a row. -/
def expert (x : Fin 1024 → EReal) (wg wu : Fin 1024 → Fin 256 → EReal) (wd : Fin 256 → EReal) : EReal :=
  ∑ f, hidden x wg wu f * wd f
end Cert.Moe

namespace Cert.Kernel2Ideal.Moe
open Cert.Kernel2Ideal Cert.Kernel2Ideal.Gen
open Idealize.ShloMosaic Idealize.ShloMosaic.TcCoe Idealize.SL.Sem Idealize.ShloMosaic.Tactic

theorem k0_pay1_apply (x : Vec Ideal S512x1024 .bf16) (wg wu : Vec Ideal S1x1x1024x256 .f32) (wd : Vec Ideal S1x1x256x1024 .f32) (r : Fin 512) (d : Fin 1024) :
    k0_pay1 x wg wu wd (ix2 r d) = Cert.Moe.expert (fun k => x (ix2 r k)) (fun k f => wg (ix4 0 0 k f)) (fun k f => wu (ix4 0 0 k f)) (fun f => wd (ix4 0 0 f d)) := by
  pointwise [k0_pay1]
  rfl
end Cert.Kernel2Ideal.Moe
-- ==== Proof.MoeValue.lean ====
/- What the kernel's output array ends holding, row by row of the tiles in use. -/
module
public import proofs.«01_k».proof.Proof.MoeRun
public import proofs.«01_k».proof.Proof.MoePay
public import Idealize.ShloMosaic.Lib.Pipeline.ValueKit
@[expose] public section
set_option maxRecDepth 16384
noncomputable section
namespace Cert.Kernel2Ideal.Moe
open Cert.Kernel2Ideal Cert.Kernel2Ideal.Gen
open Idealize.ShloMosaic Idealize.ShloMosaic.TcCoe Idealize.SL.Sem Idealize.ShloMosaic.Tactic
open Idealize.ShloMosaic.Pipeline (Dat Cfg Window)

theorem hz2 : (![0, 0] : Fin 2 → Nat) = fun _ => 0 := funext fun a => by fin_cases a <;> rfl
theorem hz4 : (![0, 0, 0, 0] : Fin 4 → Nat) = fun _ => 0 := funext fun a => by fin_cases a <;> rfl

section
variable {F : FTy → Type} [FloatOps F]

/-- The one store of a tile in use is the payload of its blocks. -/
theorem outUsed_eq (c : Dev nD) (i : grid0.Coords) (arg3 : Memref sig .tc .vmem S512x1024 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S512x1024 .bf16) (harg7 : arg7.IsWhole) (T0 : (S816.Idx → Elt F .i32)) (T1 : (S1.Idx → Elt F .i32))
     (x0 : (S512x1024.Idx → Elt F .bf16)) (x1 : (S1x1x1024x256.Idx → Elt F .f32)) (x2 : (S1x1x1024x256.Idx → Elt F .f32)) (x3 : (S1x1x256x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) :
    outUsed c i arg3 harg3 arg4 harg4 arg5 harg5 arg6 harg6 arg7 harg7 T0 T1 x0 x1 x2 x3 k0_h1 = k0_pay1 x0 x1 x2 x3 := by
  unfold outUsed runUsed
  dsimp only
  sl_unfold_words
  simp only [View.readAt_eq_ld, View.ld_unit_zero (S := S512x1024) hz2, View.ld_unit_zero (S := S1x1x1024x256) hz4, View.ld_unit_zero (S := S1x1x256x1024) hz4]
  funext y
  rw [View.read_writes_junk_apply_eq_canon]
  refine (congrFun (View.canon_unit_zero (S := S512x1024) hz2 _ _) y).trans ?_
  rw [View.read_rep, View.read_rep, View.read_rep, View.read_rep]

variable (ch : Tab F) (m : (ℓ : Loc nD τ sig) → Buf (Elt F) ℓ) (ρ : Dev nD → PrngReg)

/-- The last tile in use at or before a point. -/
def last (t : Fin (cfgA ch).N) : Fin (cfgA ch).N := ⟨min t.val (ch.n - 1), lt_of_le_of_lt (Nat.min_le_left _ _) t.isLt⟩

/-- What the output's buffer holds after a point: the block of the last tile in use. -/
theorem traj_eq (c : Dev nD) : ∀ (k : ℕ) (h : k < (cfgA ch).N), traj0 ch m ρ c k h
    = k0_pay1 (iblk ch m ρ c (0 : Fin 5) (last ch ⟨k, h⟩)) (iblk ch m ρ c (1 : Fin 5) (last ch ⟨k, h⟩)) (iblk ch m ρ c (2 : Fin 5) (last ch ⟨k, h⟩)) (iblk ch m ρ c (3 : Fin 5) (last ch ⟨k, h⟩)) := by
  intro k
  induction k with
  | zero =>
    intro h
    have e : last ch ⟨0, h⟩ = ⟨0, h⟩ := Fin.ext (Nat.zero_min _)
    rw [e]
    refine (traj0_eq ch m ρ c ⟨0, h⟩).trans ?_
    rw [step0_A ch m ρ c _ _ ((P_iff ch ⟨0, h⟩).2 ch.n_pos), outUsed_eq]
  | succ k ih =>
    intro h
    refine (traj0_eq ch m ρ c ⟨k + 1, h⟩).trans ?_
    by_cases hk : k + 1 < ch.n
    · have e : last ch ⟨k + 1, h⟩ = ⟨k + 1, h⟩ := Fin.ext (Nat.min_eq_left (by show k + 1 ≤ ch.n - 1; omega))
      rw [e, step0_A ch m ρ c _ _ ((P_iff ch ⟨k + 1, h⟩).2 hk), outUsed_eq]
    · have q : ¬ P0_0 ch ⟨k + 1, h⟩ := fun q => hk ((P_iff ch ⟨k + 1, h⟩).1 q)
      have e : last ch ⟨k + 1, h⟩ = last ch ⟨k, Nat.lt_of_succ_lt h⟩ := Fin.ext (by
        show min (k + 1) (ch.n - 1) = min k (ch.n - 1); omega)
      rw [e, step0_B ch m ρ c _ _ q, (sched_B ch _ q).2, if_neg (by decide)]
      unfold prev0
      rw [dif_neg (Nat.succ_ne_zero k)]
      exact ih (Nat.lt_of_succ_lt h)

theorem index0_eq (t : Fin (cfgA ch).N) : ((cfgA ch).win (0 : Fin 5)).index t = ![min t.val (ch.n - 1), 0] := index4_eq ch t
theorem index1_eq (t : Fin (cfgA ch).N) : ((cfgA ch).win (1 : Fin 5)).index t = ![0, (teAt ch (crd ch t)).toNat, 0, 0] := index_1 ch (crd ch t)
theorem index2_eq (t : Fin (cfgA ch).N) : ((cfgA ch).win (2 : Fin 5)).index t = ![0, (teAt ch (crd ch t)).toNat, 0, 0] := index_2 ch (crd ch t)
theorem index3_eq (t : Fin (cfgA ch).N) : ((cfgA ch).win (3 : Fin 5)).index t = ![0, (teAt ch (crd ch t)).toNat, 0, 0] := index_3 ch (crd ch t)

theorem te_eq (t : Fin (cfgA ch).N) : teAt ch (crd ch t) = ch.te (ix1 ⟨t.val, t_lt ch t⟩) := by
  unfold teAt
  refine congrArg ch.te (funext fun a => ?_)
  fin_cases a
  exact Fin.ext (crd_val ch t)

theorem emb4 (t : Fin (cfgA ch).N) (r : Fin 512) (d : Fin 1024) : (((cfgA ch).win (4 : Fin 5)).blk t).view.emb (ix2 r d : S512x1024.Idx)
    = (ix2 ⟨min t.val (ch.n - 1) * 512 + r.val, by have := t_lt ch t; omega⟩ d : S417792x1024.Idx) := by
  funext a
  fin_cases a
  · refine Fin.ext ((Window.rect_emb_val ((cfgA ch).win (4 : Fin 5)) t _ 0 rfl).trans ?_)
    rw [index4_eq]; rfl
  · refine Fin.ext ((Window.rect_emb_val ((cfgA ch).win (4 : Fin 5)) t _ 1 rfl).trans ?_)
    rw [index4_eq]
    show 0 * 1024 + d.val = d.val
    omega

theorem emb0 (t : Fin (cfgA ch).N) (r : Fin 512) (d : Fin 1024) : (((cfgA ch).win (0 : Fin 5)).blk t).view.emb (ix2 r d : S512x1024.Idx)
    = (ix2 ⟨min t.val (ch.n - 1) * 512 + r.val, by have := t_lt ch t; omega⟩ d : S417792x1024.Idx) := by
  funext a
  fin_cases a
  · refine Fin.ext ((Window.rect_emb_val ((cfgA ch).win (0 : Fin 5)) t _ 0 rfl).trans ?_)
    rw [index0_eq]; rfl
  · refine Fin.ext ((Window.rect_emb_val ((cfgA ch).win (0 : Fin 5)) t _ 1 rfl).trans ?_)
    rw [index0_eq]
    show 0 * 1024 + d.val = d.val
    omega

theorem emb1 (t : Fin (cfgA ch).N) (k : Fin 1024) (f : Fin 256) : (((cfgA ch).win (1 : Fin 5)).blk t).view.emb (ix4 0 0 k f : S1x1x1024x256.Idx)
    = (ix4 0 ⟨(ch.te (ix1 ⟨t.val, t_lt ch t⟩)).toNat, ch.te_lt _⟩ k f : S4x64x1024x256.Idx) := by
  funext a
  fin_cases a
  · refine Fin.ext ((Window.rect_emb_val ((cfgA ch).win (1 : Fin 5)) t _ 0 rfl).trans ?_)
    rw [index1_eq]; rfl
  · refine Fin.ext ((Window.rect_emb_val ((cfgA ch).win (1 : Fin 5)) t _ 1 rfl).trans ?_)
    rw [index1_eq, te_eq]
    show (ch.te (ix1 ⟨t.val, t_lt ch t⟩)).toNat * 1 + 0 = (ch.te (ix1 ⟨t.val, t_lt ch t⟩)).toNat
    omega
  · refine Fin.ext ((Window.rect_emb_val ((cfgA ch).win (1 : Fin 5)) t _ 2 rfl).trans ?_)
    rw [index1_eq]
    show 0 * 1024 + k.val = k.val
    omega
  · refine Fin.ext ((Window.rect_emb_val ((cfgA ch).win (1 : Fin 5)) t _ 3 rfl).trans ?_)
    rw [index1_eq]
    show 0 * 256 + f.val = f.val
    omega

theorem emb2 (t : Fin (cfgA ch).N) (k : Fin 1024) (f : Fin 256) : (((cfgA ch).win (2 : Fin 5)).blk t).view.emb (ix4 0 0 k f : S1x1x1024x256.Idx)
    = (ix4 0 ⟨(ch.te (ix1 ⟨t.val, t_lt ch t⟩)).toNat, ch.te_lt _⟩ k f : S4x64x1024x256.Idx) := by
  funext a
  fin_cases a
  · refine Fin.ext ((Window.rect_emb_val ((cfgA ch).win (2 : Fin 5)) t _ 0 rfl).trans ?_)
    rw [index2_eq]; rfl
  · refine Fin.ext ((Window.rect_emb_val ((cfgA ch).win (2 : Fin 5)) t _ 1 rfl).trans ?_)
    rw [index2_eq, te_eq]
    show (ch.te (ix1 ⟨t.val, t_lt ch t⟩)).toNat * 1 + 0 = (ch.te (ix1 ⟨t.val, t_lt ch t⟩)).toNat
    omega
  · refine Fin.ext ((Window.rect_emb_val ((cfgA ch).win (2 : Fin 5)) t _ 2 rfl).trans ?_)
    rw [index2_eq]
    show 0 * 1024 + k.val = k.val
    omega
  · refine Fin.ext ((Window.rect_emb_val ((cfgA ch).win (2 : Fin 5)) t _ 3 rfl).trans ?_)
    rw [index2_eq]
    show 0 * 256 + f.val = f.val
    omega

theorem emb3 (t : Fin (cfgA ch).N) (k : Fin 256) (f : Fin 1024) : (((cfgA ch).win (3 : Fin 5)).blk t).view.emb (ix4 0 0 k f : S1x1x256x1024.Idx)
    = (ix4 0 ⟨(ch.te (ix1 ⟨t.val, t_lt ch t⟩)).toNat, ch.te_lt _⟩ k f : S4x64x256x1024.Idx) := by
  funext a
  fin_cases a
  · refine Fin.ext ((Window.rect_emb_val ((cfgA ch).win (3 : Fin 5)) t _ 0 rfl).trans ?_)
    rw [index3_eq]; rfl
  · refine Fin.ext ((Window.rect_emb_val ((cfgA ch).win (3 : Fin 5)) t _ 1 rfl).trans ?_)
    rw [index3_eq, te_eq]
    show (ch.te (ix1 ⟨t.val, t_lt ch t⟩)).toNat * 1 + 0 = (ch.te (ix1 ⟨t.val, t_lt ch t⟩)).toNat
    omega
  · refine Fin.ext ((Window.rect_emb_val ((cfgA ch).win (3 : Fin 5)) t _ 2 rfl).trans ?_)
    rw [index3_eq]
    show 0 * 256 + k.val = k.val
    omega
  · refine Fin.ext ((Window.rect_emb_val ((cfgA ch).win (3 : Fin 5)) t _ 3 rfl).trans ?_)
    rw [index3_eq]
    show 0 * 1024 + f.val = f.val
    omega

theorem blk0 (c : Dev nD) (t : Fin (cfgA ch).N) (r : Fin 512) (d : Fin 1024) : (iblk ch m ρ c (0 : Fin 5) t : S512x1024.Idx → Elt F .bf16) (ix2 r d)
    = (m ((c : Thread nD τ).loc main_arg2) : S417792x1024.Idx → Elt F .bf16) (ix2 ⟨min t.val (ch.n - 1) * 512 + r.val, by have := t_lt ch t; omega⟩ d) :=
  congrArg (m ((c : Thread nD τ).loc main_arg2)) (emb0 ch t r d)
theorem blk1 (c : Dev nD) (t : Fin (cfgA ch).N) (k : Fin 1024) (f : Fin 256) : (iblk ch m ρ c (1 : Fin 5) t : S1x1x1024x256.Idx → Elt F .f32) (ix4 0 0 k f)
    = (m ((c : Thread nD τ).loc main_arg3) : S4x64x1024x256.Idx → Elt F .f32) (ix4 0 ⟨(ch.te (ix1 ⟨t.val, t_lt ch t⟩)).toNat, ch.te_lt _⟩ k f) :=
  congrArg (m ((c : Thread nD τ).loc main_arg3)) (emb1 ch t k f)
theorem blk2 (c : Dev nD) (t : Fin (cfgA ch).N) (k : Fin 1024) (f : Fin 256) : (iblk ch m ρ c (2 : Fin 5) t : S1x1x1024x256.Idx → Elt F .f32) (ix4 0 0 k f)
    = (m ((c : Thread nD τ).loc main_arg4) : S4x64x1024x256.Idx → Elt F .f32) (ix4 0 ⟨(ch.te (ix1 ⟨t.val, t_lt ch t⟩)).toNat, ch.te_lt _⟩ k f) :=
  congrArg (m ((c : Thread nD τ).loc main_arg4)) (emb2 ch t k f)
theorem blk3 (c : Dev nD) (t : Fin (cfgA ch).N) (k : Fin 256) (f : Fin 1024) : (iblk ch m ρ c (3 : Fin 5) t : S1x1x256x1024.Idx → Elt F .f32) (ix4 0 0 k f)
    = (m ((c : Thread nD τ).loc main_arg5) : S4x64x256x1024.Idx → Elt F .f32) (ix4 0 ⟨(ch.te (ix1 ⟨t.val, t_lt ch t⟩)).toNat, ch.te_lt _⟩ k f) :=
  congrArg (m ((c : Thread nD τ).loc main_arg5)) (emb3 ch t k f)
end

variable (ch : Tab Ideal) (m : (ℓ : Loc nD τ sig) → Buf (Elt Ideal) ℓ) (ρ : Dev nD → PrngReg)

/-- A row's feed-forward by its tile's expert. -/
def rowOut (te : IVec S816 32) (hte : ∀ x, (te x).toNat < 64) (xs : FVec Ideal S417792x1024 .bf16) (wg wu : FVec Ideal S4x64x1024x256 .f32) (wd : FVec Ideal S4x64x256x1024 .f32)
    (r : Fin 417792) (d : Fin 1024) : EReal :=
  Cert.Moe.expert (fun k => xs (ix2 r k))
    (fun k f => wg (ix4 0 ⟨(te (ix1 ⟨r.val / 512, by omega⟩)).toNat, hte _⟩ k f)) (fun k f => wu (ix4 0 ⟨(te (ix1 ⟨r.val / 512, by omega⟩)).toNat, hte _⟩ k f))
    (fun f => wd (ix4 0 ⟨(te (ix1 ⟨r.val / 512, by omega⟩)).toNat, hte _⟩ f d))

/-- Every row's feed-forward. -/
def outAll (c : Dev nD) : S417792x1024.Idx → Elt Ideal .bf16 := fun i =>
  rowOut ch.te ch.te_lt (m ((c : Thread nD τ).loc main_arg2)) (m ((c : Thread nD τ).loc main_arg3)) (m ((c : Thread nD τ).loc main_arg4)) (m ((c : Thread nD τ).loc main_arg5)) (i 0) (i 1)

theorem block_row (c : Dev nD) (t : Fin (cfgA ch).N) (ht : t.val < ch.n) (r : Fin 512) (d : Fin 1024) :
    k0_pay1 (F := Ideal) (iblk ch m ρ c (0 : Fin 5) t) (iblk ch m ρ c (1 : Fin 5) t) (iblk ch m ρ c (2 : Fin 5) t) (iblk ch m ρ c (3 : Fin 5) t) (ix2 r d)
      = outAll ch m c (ix2 ⟨t.val * 512 + r.val, by have := t_lt ch t; omega⟩ d) := by
  have hm : min t.val (ch.n - 1) = t.val := by omega
  refine (k0_pay1_apply _ _ _ _ r d).trans ?_
  simp only [blk0, blk1, blk2, blk3]
  unfold outAll rowOut
  have e : ((⟨(t.val * 512 + r.val) / 512, by have := t_lt ch t; omega⟩ : Fin 816)) = ⟨t.val, t_lt ch t⟩ := Fin.ext (by show (t.val * 512 + r.val) / 512 = t.val; omega)
  show _ = Cert.Moe.expert (fun k => (m ((c : Thread nD τ).loc main_arg2) : FVec Ideal S417792x1024 .bf16) (ix2 (⟨t.val * 512 + r.val, by have := t_lt ch t; omega⟩ : Fin 417792) k))
    (fun k f => (m ((c : Thread nD τ).loc main_arg3) : FVec Ideal S4x64x1024x256 .f32) (ix4 0 ⟨(ch.te (ix1 (⟨(t.val * 512 + r.val) / 512, by have := t_lt ch t; omega⟩ : Fin 816))).toNat, ch.te_lt _⟩ k f))
    (fun k f => (m ((c : Thread nD τ).loc main_arg4) : FVec Ideal S4x64x1024x256 .f32) (ix4 0 ⟨(ch.te (ix1 (⟨(t.val * 512 + r.val) / 512, by have := t_lt ch t; omega⟩ : Fin 816))).toNat, ch.te_lt _⟩ k f))
    (fun f => (m ((c : Thread nD τ).loc main_arg5) : FVec Ideal S4x64x256x1024 .f32) (ix4 0 ⟨(ch.te (ix1 (⟨(t.val * 512 + r.val) / 512, by have := t_lt ch t; omega⟩ : Fin 816))).toNat, ch.te_lt _⟩ f d))
  simp only [e, hm]

/-- What a write-back writes is its block of those rows. -/
theorem flushed_eq (c : Dev nD) (t : Fin (cfgA ch).N) :
    (dats ch m ρ 0 c).flushed (4 : Fin 5) t = (((cfgA ch).win (4 : Fin 5)).blk t).view.read (Elt Ideal) (outAll ch m c) := by
  funext y
  obtain ⟨r, d, rfl⟩ : ∃ (r : Fin 512) (d : Fin 1024), y = (ix2 r d : S512x1024.Idx) :=
    ⟨y 0, y 1, funext fun i => by fin_cases i <;> rfl⟩
  refine (congrFun (traj_eq ch m ρ c t.val t.isLt) (ix2 r d)).trans ?_
  have hn := ch.n_pos
  refine (block_row ch m ρ c (last ch t) (by show min t.val (ch.n - 1) < ch.n; omega) r d).trans ?_
  exact congrArg (outAll ch m c) (emb4 ch t r d).symm

/-- The kernel's result at a row of a tile in use. -/
theorem final (c : Dev nD) (r : Fin 417792) (d : Fin 1024) (hr : r.val / 512 < ch.n) :
    (dats ch m ρ 0 c).arrAt (4 : Fin 5) (cfgA ch).N (ix2 r d : S417792x1024.Idx) = outAll ch m c (ix2 r d) := by
  have hN := N_eq ch
  have hn := ch.n_pos
  have key : ∀ t : Fin (cfgA ch).N, ((cfgA ch).win (4 : Fin 5)).flush t = true → min t.val (ch.n - 1) = r.val / 512 →
      (dats ch m ρ 0 c).arrAt (4 : Fin 5) (cfgA ch).N (ix2 r d : S417792x1024.Idx) = outAll ch m c (ix2 r d) := fun t hf he => by
    refine (dats ch m ρ 0 c).arrAt_apply_of_mem (4 : Fin 5) (outAll ch m c) (fun t _ => flushed_eq ch m ρ c t) (cfgA ch).N t _ t.isLt hf ?_
    have e : (ix2 r d : S417792x1024.Idx) = (((cfgA ch).win (4 : Fin 5)).blk t).view.emb (ix2 (⟨r.val % 512, Nat.mod_lt _ (by decide)⟩ : Fin 512) d : S512x1024.Idx) := by
      rw [emb4]
      refine congrArg (fun x => (ix2 x d : S417792x1024.Idx)) (Fin.ext ?_)
      show r.val = min t.val (ch.n - 1) * 512 + r.val % 512
      rw [he]; omega
    rw [e]
    exact View.emb_mem_set _ _
  by_cases h : r.val / 512 + 1 < ch.n ∧ r.val / 512 + 1 < 816
  · exact key ⟨r.val / 512, by omega⟩ ((flush_iff ch _).2 (.inr ⟨h.2, h.1⟩)) (by show min (r.val / 512) _ = _; omega)
  · exact key ⟨815, by omega⟩ ((flush_iff ch _).2 (.inl rfl)) (by show min 815 _ = _; omega)
end Cert.Kernel2Ideal.Moe
-- ==== Proof.MoePre.lean ====
/- The precondition read word by word, and the two frames from the one run. -/
module
public import proofs.«01_k».proof.Defs
public import proofs.«01_k».proof.Proof.MoeRun
public import proofs.«01_k».proof.Proof.Gen.Pre_tiles_named
public import proofs.«01_k».proof.Proof.Gen.Kernel2
public import Idealize.ShloMosaic.Lib.Pointwise
@[expose] public section
set_option maxRecDepth 16384
noncomputable section
namespace Cert.Kernel2Ideal.Moe
open Cert.Kernel2Ideal Cert.Kernel2Ideal.Gen
open Idealize.ShloMosaic Idealize.ShloMosaic.TcCoe Idealize.SL.Sem Idealize.ShloMosaic.Tactic

theorem word_lt (v : BitVec 32) (h : IntOp.andi (IntOp.cmpi .sge v 0#32) (IntOp.cmpi .slt v 64#32) = 1#1) : v.toNat < 64 := by
  unfold IntOp.andi IntOp.cmpi at h
  simp only at h
  have hb : ∀ a b : Bool, BitVec.ofBool a &&& BitVec.ofBool b = 1#1 → a = true ∧ b = true := by decide
  obtain ⟨h0, h1⟩ := hb _ _ h
  simp only [BitVec.sle, BitVec.slt, decide_eq_true_iff] at h0 h1
  have e0 : (0#32).toInt = 0 := by decide
  have e1 : (64#32).toInt = 64 := by decide
  have e2 := BitVec.toInt_eq_toNat_cond v
  rw [e0] at h0
  rw [e1] at h1
  have := v.isLt
  split at e2 <;> omega

theorem word_pos (v : BitVec 32) (h : IntOp.cmpi .sge v 1#32 = 1#1) : 1 ≤ v.toNat ∧ v.toNat < 2 ^ 31 := by
  unfold IntOp.cmpi at h
  simp only at h
  by_cases h0 : (1#32).sle v = true
  · simp only [BitVec.sle, decide_eq_true_iff] at h0
    rw [BitVec.toInt_eq_toNat_cond] at h0
    have e0 : (1#32).toInt = 1 := by decide
    rw [BitVec.toInt_eq_toNat_cond] at h0
    have := v.isLt
    have e2 : (1#32).toNat = 1 := by decide
    rw [e2] at h0
    split at h0 <;> split at h0 <;> omega
  · rw [Bool.not_eq_true] at h0
    rw [h0] at h
    exact absurd h (by decide)

variable {F : FTy → Type} [FloatOps F]

/-- The tables of a launch that meets the precondition. -/
def tabOf (te : IVec S816 32) (nu : IVec S1 32) (xs : FVec F S417792x1024 .bf16) (wg wu : FVec F S4x64x1024x256 .f32) (wd : FVec F S4x64x256x1024 .f32)
    (h : (Cert.Pre_tiles_named.fn te nu xs wg wu wd).1 = fun _ => 1#1) (h' : (Cert.Pre_tiles_named.fn te nu xs wg wu wd).2 = fun _ => 1#1) : Tab F where
  te := te
  nu := nu
  te_lt x := word_lt (te x) (congrFun h x)
  nu_pos := (word_pos (nu z1) (congrFun h' z1)).1
  nu_lt := (word_pos (nu z1) (congrFun h' z1)).2

/-- There is one device. -/
theorem dev_eq (c : Dev nD) : c = 0 := Fin.ext (by have := c.isLt; change _ < 1 at this; show c.val = 0; omega)

/-- The program meets its frame: on tables that name experts and use a tile, it ends, its arguments unchanged and every
    counter zero. -/
def Frame (F : FTy → Type) [FloatOps F] : Prop :=
  ∀ (m : (ℓ : Loc nD τ sig) → Buf (Elt F) ℓ) (ρ : Dev nD → PrngReg),
    (∀ c : Dev nD, (Cert.Pre_tiles_named.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 = (fun _ => 1#1) ∧ (Cert.Pre_tiles_named.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2 = (fun _ => 1#1)) →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frame_all : Frame F := fun m ρ h =>
  frame (tabOf _ _ _ _ _ _ (h 0).1 (h 0).2) m ρ ⟨fun c => by rw [dev_eq c]; rfl, fun c => by rw [dev_eq c]; rfl⟩

end Cert.Kernel2Ideal.Moe

namespace Cert.Proof
open Idealize.ShloMosaic Idealize.ShloMosaic.Tactic

theorem frame_experts_ideal : Cert.quiescent_Kernel2Ideal (hKernel2Ideal := Cert.Kernel2Ideal.Gen.facts) (hPre_tiles_named := Cert.Pre_tiles_named.Gen.facts) :=
  Cert.Kernel2Ideal.Moe.frame_all (F := Ideal)

/-- The two printed programs are one text, and so are their frames. -/
theorem frame_same : Cert.Kernel2Ideal.Moe.Frame Bits = Cert.quiescent_Kernel2 (hKernel2 := Cert.Kernel2.Gen.facts) (hPre_tiles_named := Cert.Pre_tiles_named.Gen.facts) := by
  sl_kernel_rfl

theorem frame_experts : Cert.quiescent_Kernel2 (hKernel2 := Cert.Kernel2.Gen.facts) (hPre_tiles_named := Cert.Pre_tiles_named.Gen.facts) :=
  frame_same.mp (Cert.Kernel2Ideal.Moe.frame_all (F := Bits))
end Cert.Proof
-- ==== Proof.MoeRef.lean ====
/- The reference's result, entry by entry. -/
module
public import proofs.«01_k».proof.Proof.Gen.Reference2Ideal.Run
public import proofs.«01_k».proof.Proof.MoePay
public import Idealize.ShloMosaic.Lib.Pointwise
@[expose] public section
set_option maxRecDepth 16384
noncomputable section
namespace Cert.Reference2Ideal.Moe
open Cert.Reference2Ideal Cert.Reference2Ideal.Gen
open Idealize.ShloMosaic Idealize.ShloMosaic.TcCoe Idealize.SL.Sem Idealize.ShloMosaic.Tactic

variable (te : IVec S816 32) (xs : FVec Ideal S417792x1024 .bf16) (wg wu : FVec Ideal S4x64x1024x256 .f32) (wd : FVec Ideal S4x64x256x1024 .f32)

/-- The reference's result array as a function of its arguments. -/
def result : FVec Ideal S417792x1024 .bf16 := truncf .bf16 (Host.dotGeneral dot_S417792x64x256_S64x256x1024_S417792x1024_12_01_0_2_n_n none (mulf (mulf (mulf (Host.dotGeneral dot_S417792x1024_S64x1024x256_S417792x64x256_1_1_0_02_n_n none (extf .f32 xs bitsLt_bf16_f32) (shapeCast _ (extractStridedSlice S1x64x1024x256 ![0, 0, 0, 0] wg slices_S4x64x1024x256_S1x64x1024x256_0_0_0_0) shapeCasts_S1x64x1024x256_S64x1024x256)) (Host.divf (broadcastInDim S417792x64x256 ![] bcast_S_S417792x64x256 (constant S_ .f32 0x3F800000#32)) (addf (broadcastInDim S417792x64x256 ![] bcast_S_S417792x64x256 (constant S_ .f32 0x3F800000#32)) (Host.exp (Host.negf (Host.dotGeneral dot_S417792x1024_S64x1024x256_S417792x64x256_1_1_0_02_n_n none (extf .f32 xs bitsLt_bf16_f32) (shapeCast _ (extractStridedSlice S1x64x1024x256 ![0, 0, 0, 0] wg slices_S4x64x1024x256_S1x64x1024x256_0_0_0_0) shapeCasts_S1x64x1024x256_S64x1024x256))))))) (Host.dotGeneral dot_S417792x1024_S64x1024x256_S417792x64x256_1_1_0_02_n_n none (extf .f32 xs bitsLt_bf16_f32) (shapeCast _ (extractStridedSlice S1x64x1024x256 ![0, 0, 0, 0] wu slices_S4x64x1024x256_S1x64x1024x256_0_0_0_0) shapeCasts_S1x64x1024x256_S64x1024x256))) (broadcastInDim S417792x64x256 ![0, 1, 2] bcast_S417792x64x1_S417792x64x256_0_1_2 (broadcastInDim S417792x64x1 ![0, 1] bcast_S417792x64_S417792x64x1_0_1 (uitofp .f32 (cmpi .eq (broadcastInDim S417792x64 ![0, 1] bcast_S417792x1_S417792x64_0_1 (broadcastInDim S417792x1 ![0] bcast_S417792_S417792x1_0 (shapeCast _ (broadcastInDim S816x512 ![0] bcast_S816_S816x512_0 te) shapeCasts_S816x512_S417792))) (broadcastInDim S417792x64 ![0, 1] bcast_S1x64_S417792x64_0_1 (iotaInDim S1x64 32 1))))))) (shapeCast _ (extractStridedSlice S1x64x256x1024 ![0, 0, 0, 0] wd slices_S4x64x256x1024_S1x64x256x1024_0_0_0_0) shapeCasts_S1x64x256x1024_S64x256x1024)) bitsLt_bf16_f32

theorem one_eq (v : BitVec 32) (e : Fin 64) (hv : v.toNat < 64) :
    (FloatOps.uitofp FTy.f32 (IntOp.cmpi CmpIPredicate.eq v (BitVec.ofNat 32 e.val)) : Ideal .f32) = if e.val = v.toNat then (1 : EReal) else 0 := by
  by_cases h : e.val = v.toNat
  · rw [if_pos h, h]
    have e1 : IntOp.cmpi CmpIPredicate.eq v (BitVec.ofNat 32 v.toNat) = 1#1 := by
      unfold IntOp.cmpi; simp
    rw [e1]
    show (((1#1).toNat : ℝ) : EReal) = 1
    simp
  · rw [if_neg h]
    have e1 : IntOp.cmpi CmpIPredicate.eq v (BitVec.ofNat 32 e.val) = 0#1 := by
      have hne : ¬ v = BitVec.ofNat 32 e.val := fun hv' => h (by
        have := congrArg BitVec.toNat hv'
        rw [BitVec.toNat_ofNat] at this
        have := e.isLt
        omega)
      unfold IntOp.cmpi; simp only; rw [beq_eq_false_iff_ne.2 hne]; rfl
    rw [e1]
    show (((0#1).toNat : ℝ) : EReal) = 0
    simp

theorem result_sum (r : Fin 417792) (d : Fin 1024) :
    result te xs wg wu wd (ix2 r d) = ∑ e : Fin 64, ∑ f : Fin 256,
      Cert.Moe.hidden (fun k => xs (ix2 r k)) (fun k f => wg (ix4 0 e k f)) (fun k f => wu (ix4 0 e k f)) f
        * FloatOps.uitofp (F := Ideal) FTy.f32 (IntOp.cmpi CmpIPredicate.eq (te (ix1 ⟨r.val / 512, by omega⟩)) (BitVec.ofNat 32 e.val)) * wd (ix4 0 e f d) := by
  pointwise [result]
  rfl

/-- Only the row's own expert counts. -/
theorem result_apply (hte : ∀ x, (te x).toNat < 64) (r : Fin 417792) (d : Fin 1024) :
    result te xs wg wu wd (ix2 r d) = Cert.Moe.expert (fun k => xs (ix2 r k))
      (fun k f => wg (ix4 0 ⟨(te (ix1 ⟨r.val / 512, by omega⟩)).toNat, hte _⟩ k f)) (fun k f => wu (ix4 0 ⟨(te (ix1 ⟨r.val / 512, by omega⟩)).toNat, hte _⟩ k f))
      (fun f => wd (ix4 0 ⟨(te (ix1 ⟨r.val / 512, by omega⟩)).toNat, hte _⟩ f d)) := by
  rw [result_sum, Finset.sum_eq_single (⟨(te (ix1 ⟨r.val / 512, by omega⟩)).toNat, hte _⟩ : Fin 64)]
  · unfold Cert.Moe.expert
    refine Finset.sum_congr rfl fun f _ => ?_
    rw [one_eq _ _ (hte _), if_pos rfl, mul_one]
  · intro e _ he
    refine Finset.sum_eq_zero fun f _ => ?_
    rw [one_eq _ _ (hte _), if_neg (fun h => he (Fin.ext h)), mul_zero, zero_mul]
  · intro h; exact absurd (Finset.mem_univ _) h
end Cert.Reference2Ideal.Moe
-- ==== Proof.MoeEqual.lean ====
/- The expert kernel's result is the reference's at every row of a tile in use. -/
module
public import proofs.«01_k».proof.Proof.MoeValue
public import proofs.«01_k».proof.Proof.MoePre
public import proofs.«01_k».proof.Proof.MoeRef
public import proofs.«01_k».proof.Proof.Gen.On_rows_used
public import Idealize.ShloMosaic.Lib.Routing.Words
@[expose] public section
set_option maxRecDepth 16384
noncomputable section
namespace Cert.Kernel2Ideal.Moe
open Cert.Kernel2Ideal Cert.Kernel2Ideal.Gen
open Idealize.ShloMosaic Idealize.ShloMosaic.TcCoe Idealize.SL.Sem Idealize.ShloMosaic.Tactic

/-- The predicate holds only of the rows of the tiles in use. -/
theorem tile_used (te : IVec S816 32) (nu : IVec S1 32) (xs : FVec Ideal S417792x1024 .bf16) (wg wu : FVec Ideal S4x64x1024x256 .f32) (wd : FVec Ideal S4x64x256x1024 .f32)
    (hn : (nu z1).toNat < 2 ^ 31) (r : Fin 417792) (d : Fin 1024)
    (h : Cert.On_rows_used.fn (F := Ideal) te nu xs wg wu wd (ix2 r d) = 1#1) : r.val / 512 < (nu z1).toNat := by
  have hv : IntOp.cmpi .slt (IntOp.divsi .host (BitVec.ofNat 32 r.val) (BitVec.ofNat 32 512)) (nu z1) = 1#1 := by
    refine Eq.trans (congrArg (IntOp.cmpi .slt _) ?_) h
    exact congrArg nu (z1_eq _).symm
  rw [Idealize.ShloMosaic.Routing.divsi_word _ (by omega) (by decide) (by decide)] at hv
  have hd : (BitVec.ofNat 32 (r.val / 512)).toNat = r.val / 512 := by rw [BitVec.toNat_ofNat]; omega
  have hs : (BitVec.ofNat 32 (r.val / 512)).slt (nu z1) = true := by
    have hb : ∀ b : Bool, BitVec.ofBool b = 1#1 → b = true := by decide
    exact hb _ hv
  rw [BitVec.slt, decide_eq_true_iff, BitVec.toInt_eq_toNat_cond, BitVec.toInt_eq_toNat_cond, hd, if_pos (by omega), if_pos (by omega)] at hs
  omega

variable (ch : Tab Ideal) (m : (ℓ : Loc nD τ sig) → Buf (Elt Ideal) ℓ) (ρ : Dev nD → PrngReg)

/-- The launch ends with the rows of the tiles in use at their experts' feed-forwards, and its arguments unchanged. -/
theorem run_rows (hp : Pinned ch m) :
    θ_run (defs (F := Ideal)) (onTc (τ := τ) (main (F := Ideal))) ⟨m, fun _ => 0, ρ⟩ (fun r => ∀ c : Dev nD,
      (∀ (i : Fin 417792) (d : Fin 1024), i.val / 512 < ch.n → r.2.mem ((c.tc : Thread nD τ).loc main_v0) (ix2 i d : S417792x1024.Idx) = outAll ch m c (ix2 i d))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun i d hi => (congrFun ((h.1 c).1 (4 : Fin 5)) (ix2 i d : S417792x1024.Idx)).trans (final ch m ρ c i d hi), h.2 c⟩)
    (θ_run_and (run_main ch m ρ hp) (unchanged ch m ρ hp))
end Cert.Kernel2Ideal.Moe

namespace Cert.Proof
open Idealize.ShloMosaic Idealize.SL.Sem Idealize.ShloMosaic.Tactic

/-- The expert kernel and its reference end with the same rows, at every tile in use. -/
theorem algebraic_experts : Cert.algebraic_Kernel2Ideal_Reference2Ideal_on_rows_used (hKernel2Ideal := Cert.Kernel2Ideal.Gen.facts) (hReference2Ideal := Cert.Reference2Ideal.Gen.facts)
    (hPre_tiles_named := Cert.Pre_tiles_named.Gen.facts) (hOn_rows_used := Cert.On_rows_used.Gen.facts) := fun m g m' g' hpre hagree => by
  have hp : Cert.Kernel2Ideal.Moe.Pinned (Cert.Kernel2Ideal.Moe.tabOf _ _ _ _ _ _ (hpre 0).1 (hpre 0).2) m :=
    ⟨fun c => by rw [Cert.Kernel2Ideal.Moe.dev_eq c]; rfl, fun c => by rw [Cert.Kernel2Ideal.Moe.dev_eq c]; rfl⟩
  generalize Cert.Kernel2Ideal.Moe.tabOf _ _ _ _ _ _ (hpre 0).1 (hpre 0).2 = ch at hp
  refine ⟨fun c => Cert.Kernel2Ideal.Moe.outAll ch m c, ?_, ?_⟩
  · refine (θ_run _ _ _).mono (fun r h c => ⟨fun i hi => ?_, (h c).2⟩) (Cert.Kernel2Ideal.Moe.run_rows ch m g hp)
    obtain ⟨i, d, rfl⟩ : ∃ (r : Fin 417792) (d : Fin 1024), i = ix2 r d := ⟨i 0, i 1, funext fun i => by fin_cases i <;> rfl⟩
    refine (h c).1 i d ?_
    rw [hp.2 c] at hi
    exact Cert.Kernel2Ideal.Moe.tile_used _ _ _ _ _ _ ch.nu_lt i d hi
  · refine (θ_run _ _ _).mono (fun r h c => ⟨fun i _ => ?_, (h c).2⟩) (Cert.Reference2Ideal.Value.run m' g')
    obtain ⟨i, d, rfl⟩ : ∃ (r : Fin 417792) (d : Fin 1024), i = ix2 r d := ⟨i 0, i 1, funext fun i => by fin_cases i <;> rfl⟩
    obtain ⟨a0, a1, a2, a3, a4, a5⟩ := hagree c
    refine (congrFun (h c).1 (ix2 i d)).trans ?_
    rw [a0, a2, a3, a4, a5, hp.1 c]
    exact Cert.Reference2Ideal.Moe.result_apply ch.te _ _ _ _ ch.te_lt i d
end Cert.Proof
end
-- ==== Proof.Lay.lean ====
/- The row functions the layer's projections share: a modulated entry, a layer norm, the smooth gate. -/
module
public import Idealize.ShloMosaic.Lib.Pointwise
@[expose] public section
noncomputable section
namespace Cert.Lay
open Idealize.ShloMosaic

/-- An entry scaled and shifted. -/
def modulated (x sc sh : EReal) : EReal := x * (1 + sc) + sh
/-- The mean of a row of 1024 entries. -/
def mean (p : Fin 1024 → EReal) : EReal := Ideal.div (∑ j, p j) (Ideal.ofBits FTy.f32 0x44800000#32)
/-- The layer norm of a row, at one entry. -/
def layerNorm (p : Fin 1024 → EReal) (g b : EReal) (e : Fin 1024) : EReal :=
  (p e - mean p) * Ideal.rsqrt (mean (fun j => (p j - mean p) * (p j - mean p)) + Ideal.ofBits FTy.f32 0x3727C5AC#32) * g + b
/-- The residual entry: the scaled old value plus the gated update. -/
def residual (x g u : EReal) : EReal := Ideal.ofBits FTy.f32 0x3FD744FD#32 * x + g * u
/-- The tanh form of the Gaussian gate. -/
def gelu (y : EReal) : EReal :=
  Ideal.ofBits FTy.f32 0x3F000000#32 * y * (1 + Ideal.tanh (Ideal.ofBits FTy.f32 0x3F4C422A#32 * (y + Ideal.ofBits FTy.f32 0x3D372713#32 * (y * y * y))))
theorem gelu_eq (y : EReal) : gelu y
    = y * (Ideal.ofBits FTy.f32 0x3F000000#32 * (1 + Ideal.tanh (Ideal.ofBits FTy.f32 0x3F4C422A#32 * (y + Ideal.ofBits FTy.f32 0x3D372713#32 * (y * y * y))))) :=
  (mul_assoc _ _ _).trans (mul_left_comm _ _ _)
/-- One entry of a modulated row's projection. -/
def projected (x sc sh w : Fin 1024 → EReal) : EReal := ∑ k, modulated (x k) (sc k) (sh k) * w k
/-- A sum of products. -/
def inner {n : ℕ} (p q : Fin n → EReal) : EReal := ∑ k, p k * q k
/-- A row's entry after the gate: the sum of both directions times the gate times the weight. -/
def gated {n : ℕ} (a f b w : Fin n → EReal) : EReal := ∑ k, a k * (f k + b k) * w k
end Cert.Lay
-- ==== Proof.In.lean ====
/- The input projection of the attention layer: the kernel's result array is the reference's. -/
module
public import proofs.«01_k».proof.Proof.Gen.Kernel3Ideal.Value
public import proofs.«01_k».proof.Proof.Gen.Reference3Ideal.Run
public import proofs.«01_k».proof.Proof.Lay
public import Idealize.ShloMosaic.Lib.Pipeline.ValueKit
@[expose] public section
set_option maxRecDepth 16384
noncomputable section
namespace Cert.Reference3Ideal.Value
open Cert.Reference3Ideal Cert.Reference3Ideal.Gen
open Idealize.ShloMosaic Idealize.ShloMosaic.TcCoe Idealize.SL.Sem Idealize.ShloMosaic.Tactic

/-- The reference's result array as a function of its arguments. -/
def result (x : FVec Ideal S16x2048x1024 .f32) (sc sh : FVec Ideal S16x1x1024 .f32) (w : FVec Ideal S1024x3072 .f32) : FVec Ideal S16x2048x3072 .bf16 :=
  truncf .bf16 (Host.dotGeneral dot_S16x2048x1024_S1024x3072_S16x2048x3072_2_0_01_1_n_n none (addf (mulf x (broadcastInDim S16x2048x1024 ![0, 1, 2] bcast_S16x1x1024_S16x2048x1024_0_1_2 (addf (broadcastInDim S16x1x1024 ![] bcast_S_S16x1x1024 (constant S_ .f32 0x3F800000#32)) sc))) (broadcastInDim S16x2048x1024 ![0, 1, 2] bcast_S16x1x1024_S16x2048x1024_0_1_2 sh)) w) bitsLt_bf16_f32

theorem result_apply (x : FVec Ideal S16x2048x1024 .f32) (sc sh : FVec Ideal S16x1x1024 .f32) (w : FVec Ideal S1024x3072 .f32)
    (b : Fin 16) (r : Fin 2048) (j : Fin 3072) : result x sc sh w (ix3 b r j)
      = Lay.projected (fun k => x (ix3 b r k)) (fun k => sc (ix3 b 0 k)) (fun k => sh (ix3 b 0 k)) (fun k => w (ix2 k j)) := by
  pointwise [result]
  rfl

end Cert.Reference3Ideal.Value

namespace Cert.Kernel3Ideal.Value
open Cert.Kernel3Ideal Cert.Kernel3Ideal.Gen
open Idealize.ShloMosaic Idealize.ShloMosaic.TcCoe Idealize.SL.Sem Idealize.ShloMosaic.Tactic
open Idealize.ShloMosaic.Pipeline (Dat)

section
variable (x : Vec Ideal S1x512x1024 .f32) (sc sh : Vec Ideal S1x1x1024 .f32) (w : Vec Ideal S1024x1024 .bf16)
theorem k0_pay2_apply (r : Fin 512) (k : Fin 1024) :
    k0_pay2 x sc sh (ix2 r k) = Lay.modulated (x (ix3 0 r k)) (sc (ix3 0 0 k)) (sh (ix3 0 0 k)) := by
  pointwise [k0_pay2]
  rfl
theorem k0_pay3_apply (r : Fin 512) (j : Fin 1024) : k0_pay3 x sc sh w (ix3 0 r j) = ∑ k, k0_pay2 x sc sh (ix2 r k) * w (ix2 k j) := by
  pointwise [k0_pay3]
theorem k0_pay4_apply (r : Fin 512) (j : Fin 1024) : k0_pay4 x sc sh w (ix3 0 r j) = ∑ k, k0_pay2 x sc sh (ix2 r k) * w (ix2 k j) := by
  pointwise [k0_pay4]
theorem k0_pay1_apply (r : Fin 512) (j : Fin 1024) : k0_pay1 (k0_pay5 x sc sh w) (ix3 0 r j) = ∑ k, k0_pay2 x sc sh (ix2 r k) * w (ix2 k j) := by
  pointwise [k0_pay1, k0_pay5]
end

/-- The stored block, entry by entry. -/
def blockG (x : Vec Ideal S1x512x1024 .f32) (sc sh : Vec Ideal S1x1x1024 .f32) (w : Vec Ideal S1024x3072 .bf16) : Vec Ideal S1x512x3072 .bf16 := fun y =>
  Lay.projected (fun k => x (ix3 0 (y 1) k)) (fun k => sc (ix3 0 0 k)) (fun k => sh (ix3 0 0 k)) (fun k => w (ix2 k (y 2)))

theorem piece_eq (x : Vec Ideal S1x512x1024 .f32) (sc sh : Vec Ideal S1x1x1024 .f32) (w : Vec Ideal S1024x3072 .bf16) (o : Nat) (ho : o ≤ 2048)
    (h1 : ∀ a, ![0, o] a + S1024x1024.size a ≤ S1024x3072.size a) (h2 : ∀ a, ![0, 0, o] a + S1x512x1024.size a ≤ S1x512x3072.size a) (r : Fin 512) (j : Fin 1024) :
    blockG x sc sh w ((Rect.unit (s := S1x512x3072) ![0, 0, o] S1x512x1024.size h2).emb (ix3 0 r j))
      = (∑ k : Fin 1024, (k0_pay2 x sc sh (ix2 r k) : EReal) * (View.ld (Val := Elt Ideal) w (Rect.unit (s := S1024x3072) ![0, o] S1024x1024.size h1) (ix2 k j) : EReal) : EReal) := by
  have er : (Rect.unit (s := S1x512x3072) ![0, 0, o] S1x512x1024.size h2).emb (ix3 0 r j) = (ix3 0 r ⟨o + j.val, by omega⟩ : S1x512x3072.Idx) :=
    funext fun a => Fin.ext (by fin_cases a <;> simp [Rect.unit, Rect.emb])
  rw [er]
  unfold blockG Lay.projected
  refine Finset.sum_congr rfl fun k _ => ?_
  rw [k0_pay2_apply]
  refine congrArg (fun z : EReal => _ * z) (congrArg w (funext fun a => Fin.ext ?_))
  fin_cases a <;> simp [Rect.unit, Rect.emb]

theorem out_eq (x : Vec Ideal S1x512x1024 .f32) (sc sh : Vec Ideal S1x1x1024 .f32) (w : Vec Ideal S1024x3072 .bf16) (y : S1x512x3072.Idx) :
    out0_4 x sc sh w y = blockG x sc sh w y := by
  unfold out0_4
  refine View.canon_apply_of_pieces (blockG x sc sh w) _ ?_ y (cover0_4 _ _ _ y)
  intro pc hpc
  rw [View.ld_unit_zero (by decide), View.ld_unit_zero (by decide), View.ld_unit_zero (by decide)] at hpc
  simp only [List.mem_cons, List.not_mem_nil, or_false] at hpc
  rcases hpc with rfl | rfl | rfl <;> intro z <;>
    obtain ⟨r, j, rfl⟩ : ∃ (r : Fin 512) (j : Fin 1024), z = ix3 0 r j :=
      ⟨z 1, z 2, funext fun i => by fin_cases i; exact Subsingleton.elim (α := Fin 1) _ _; rfl; rfl⟩
  · exact (k0_pay1_apply _ _ _ _ r j).trans (piece_eq x sc sh w 2048 (by decide) inb_S1024x3072_S1024x1024_0_2048 inb_S1x512x3072_S1x512x1024_0_0_2048 r j).symm
  · exact (k0_pay4_apply _ _ _ _ r j).trans (piece_eq x sc sh w 1024 (by decide) inb_S1024x3072_S1024x1024_0_1024 inb_S1x512x3072_S1x512x1024_0_0_1024 r j).symm
  · exact (k0_pay3_apply _ _ _ _ r j).trans (piece_eq x sc sh w 0 (by decide) inb_S1024x3072_S1024x1024_0_0 inb_S1x512x3072_S1x512x1024_0_0_0 r j).symm

variable (m : (ℓ : Loc nD τ sig) → Buf (Elt Ideal) ℓ)

theorem idx : ∀ t : Fin cfg0.N, win0_0.index t = ![t.val / 4, t.val % 4, 0] ∧ win0_1.index t = ![t.val / 4, 0, 0] ∧ win0_2.index t = ![t.val / 4, 0, 0]
    ∧ win0_3.index t = ![0, 0] ∧ win0_4.index t = ![t.val / 4, t.val % 4, 0] :=
  (by decide +kernel : ∀ t : Fin grid0.N, _)
theorem lt64 (t : Fin cfg0.N) : t.val < 64 := by have h : cfg0.N = 64 := N_0; omega

/-- The rows, at coordinates. -/
abbrev X (c : Dev nD) : FVec Ideal S16x2048x1024 .f32 := m ((c.tc : Thread nD τ).loc main_arg0)
/-- The scales, at coordinates. -/
abbrev Sc (c : Dev nD) : FVec Ideal S16x1x1024 .f32 := m ((c.tc : Thread nD τ).loc main_arg1)
/-- The shifts, at coordinates. -/
abbrev Sh (c : Dev nD) : FVec Ideal S16x1x1024 .f32 := m ((c.tc : Thread nD τ).loc main_arg2)
/-- The weight, at coordinates. -/
abbrev W (c : Dev nD) : FVec Ideal S1024x3072 .f32 := m ((c.tc : Thread nD τ).loc main_arg3)

theorem b0 (c : Dev nD) (t : Fin cfg0.N) (r : Fin 512) (k : Fin 1024) : (iblk m c 0 t : Vec Ideal S1x512x1024 .f32) (ix3 0 r k)
    = X m c (ix3 ⟨t.val / 4, by have := lt64 t; omega⟩ ⟨t.val % 4 * 512 + r.val, by omega⟩ k) := by
  blk_ext [iblk, V, idx t]
theorem b1 (c : Dev nD) (t : Fin cfg0.N) (k : Fin 1024) : (iblk m c 1 t : Vec Ideal S1x1x1024 .f32) (ix3 0 0 k)
    = Sc m c (ix3 ⟨t.val / 4, by have := lt64 t; omega⟩ 0 k) := by
  blk_ext [iblk, V, idx t]
theorem b2 (c : Dev nD) (t : Fin cfg0.N) (k : Fin 1024) : (iblk m c 2 t : Vec Ideal S1x1x1024 .f32) (ix3 0 0 k)
    = Sh m c (ix3 ⟨t.val / 4, by have := lt64 t; omega⟩ 0 k) := by
  blk_ext [iblk, V, idx t]
theorem b3 (c : Dev nD) (t : Fin cfg0.N) (k : Fin 1024) (j : Fin 3072) : (iblk m c 3 t : Vec Ideal S1024x3072 .bf16) (ix2 k j)
    = W m c (ix2 k j) := by
  refine Eq.trans (b := (V m c main_v0 : FVec Ideal S1024x3072 .bf16) (ix2 k j)) ?_ rfl
  blk_ext [iblk, idx t]
theorem b4 (t : Fin cfg0.N) (r : Fin 512) (j : Fin 3072) : ((cfg0.win 4).blk t).view.emb (ix3 0 r j : S1x512x3072.Idx)
    = (ix3 ⟨t.val / 4, by have := lt64 t; omega⟩ ⟨t.val % 4 * 512 + r.val, by omega⟩ j : S16x2048x3072.Idx) := by
  blk_ext [idx t]

/-- The kernel's result array, given what every entry is. -/
theorem final (c : Dev nD) (G : S16x2048x3072.Idx → Elt Ideal .bf16)
    (hG : ∀ (b : Fin 16) (r : Fin 2048) (j : Fin 3072),
      Lay.projected (fun k => X m c (ix3 b r k)) (fun k => Sc m c (ix3 b 0 k)) (fun k => Sh m c (ix3 b 0 k)) (fun k => W m c (ix2 k j)) = G (ix3 b r j)) :
    (dats m 0 c).arrAt 4 cfg0.N = G := by
  refine (dats m 0 c).arrAt_eq_of_covers 4 G (by decide +kernel) fun t _ y => ?_
  blk_simp
  rw [after0_4]
  obtain ⟨r, j, rfl⟩ : ∃ (r : Fin 512) (j : Fin 3072), y = ix3 0 r j :=
    ⟨y 1, y 2, funext fun i => by fin_cases i; exact Subsingleton.elim (α := Fin 1) _ _; rfl; rfl⟩
  refine (out_eq _ _ _ _ (ix3 0 r j)).trans ?_
  refine Eq.trans ?_ ((hG _ _ j).trans (congrArg G (b4 t r j).symm))
  unfold blockG
  exact congr (congr (congr (congrArg Lay.projected (funext fun k => b0 m c t r k)) (funext fun k => b1 m c t k)) (funext fun k => b2 m c t k)) (funext fun k => b3 m c t k j)

theorem equal (c : Dev nD) : (dats m 0 c).arrAt 4 cfg0.N = Reference3Ideal.Value.result (X m c) (Sc m c) (Sh m c) (W m c) :=
  final m c _ fun b r j => (Reference3Ideal.Value.result_apply _ _ _ _ b r j).symm
end Cert.Kernel3Ideal.Value
end
-- ==== Proof.OutNorm.lean ====
/- The output projection of the attention layer with its layer norm: the kernel's result array is the reference's. -/
module
public import proofs.«01_k».proof.Proof.Gen.Kernel4Ideal.Value
public import proofs.«01_k».proof.Proof.Gen.Reference4Ideal.Run
public import proofs.«01_k».proof.Proof.Lay
public import Idealize.ShloMosaic.Lib.Pipeline.ValueKit
@[expose] public section
set_option maxRecDepth 16384
noncomputable section
namespace Cert.Reference4Ideal.Value
open Cert.Reference4Ideal Cert.Reference4Ideal.Gen
open Idealize.ShloMosaic Idealize.ShloMosaic.TcCoe Idealize.SL.Sem Idealize.ShloMosaic.Tactic

variable (m : (ℓ : Loc nD τ sig) → Buf (Elt Ideal) ℓ)
/-- One entry of the result as a function of the arguments. -/
def entry (y o : FVec Ideal S16x2048x512 .bf16) (w : FVec Ideal S1024x1024 .f32) (x : FVec Ideal S16x2048x1024 .f32) (g : FVec Ideal S16x1x1024 .f32) (lg lb : FVec Ideal S1024 .f32)
    (b : Fin 16) (r : Fin 2048) (e : Fin 1024) : EReal :=
  Lay.layerNorm (fun j => Lay.residual (x (ix3 b r j)) (g (ix3 b 0 j))
      (Lay.inner (fun k : Fin 512 => y (ix3 b r k)) (fun k => w (ix2 ⟨k.val, by omega⟩ j)) + Lay.inner (fun k : Fin 512 => o (ix3 b r k)) fun k => w (ix2 ⟨512 + k.val, by omega⟩ j)))
    (lg (ix1 e)) (lb (ix1 e)) e
theorem result_apply (c : Dev nD) (b : Fin 16) (r : Fin 2048) (e : Fin 1024) : (res_main_v32 m c : FVec Ideal S16x2048x1024 .f32) (ix3 b r e)
    = entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r e := by
  pointwise [res_main_v32]
  rfl
end Cert.Reference4Ideal.Value

namespace Cert.Kernel4Ideal.Value
open Cert.Kernel4Ideal Cert.Kernel4Ideal.Gen
open Idealize.ShloMosaic Idealize.ShloMosaic.TcCoe Idealize.SL.Sem Idealize.ShloMosaic.Tactic
open Idealize.ShloMosaic.Pipeline (Dat)

section
variable (y o : Vec Ideal S1x512x512 .bf16) (w w' : Vec Ideal S512x1024 .bf16) (x : Vec Ideal S1x512x1024 .f32) (g : Vec Ideal S1x1x1024 .f32) (lg lb : Vec Ideal S1x1024 .f32)
/-- A row before its norm. -/
def row (r : Fin 512) (j : Fin 1024) : EReal :=
  Lay.residual (x (ix3 0 r j)) (g (ix3 0 0 j)) (Lay.inner (fun k => y (ix3 0 r k)) (fun k => w (ix2 k j)) + Lay.inner (fun k => o (ix3 0 r k)) fun k => w' (ix2 k j))
theorem k0_pay4_apply (r : Fin 512) (j : Fin 1024) : k0_pay4 y w o w' x g (ix2 r j) = row y o w w' x g r j - Lay.mean (row y o w w' x g r) := by
  pointwise [k0_pay4]
  rfl
theorem k0_pay5_apply (r : Fin 512) : k0_pay5 y w o w' x g (ix1 r) = ∑ j, k0_pay4 y w o w' x g (ix2 r j) * k0_pay4 y w o w' x g (ix2 r j) := by
  pointwise [k0_pay5]
theorem k0_pay1_apply (p : FVec Ideal S512x1024 .f32) (q : FVec Ideal S512 .f32) (r : Fin 512) (e : Fin 1024) : k0_pay1 (k0_pay2 lg) (k0_pay3 lb) p q (ix3 0 r e)
    = p (ix2 r e) * Ideal.rsqrt (Ideal.div (q (ix1 r)) (Ideal.ofBits FTy.f32 0x44800000#32) + Ideal.ofBits FTy.f32 0x3727C5AC#32) * lg (ix2 0 e) + lb (ix2 0 e) := by
  pointwise [k0_pay1, k0_pay2, k0_pay3]
theorem stored_apply (r : Fin 512) (e : Fin 1024) : k0_pay1 (k0_pay2 lg) (k0_pay3 lb) (k0_pay4 y w o w' x g) (k0_pay5 y w o w' x g) (ix3 0 r e)
    = Lay.layerNorm (row y o w w' x g r) (lg (ix2 0 e)) (lb (ix2 0 e)) e := by
  rw [k0_pay1_apply, k0_pay5_apply]
  simp only [k0_pay4_apply]
  rfl
end
variable (m : (ℓ : Loc nD τ sig) → Buf (Elt Ideal) ℓ)
theorem idx : ∀ t : Fin cfg0.N, win0_0.index t = ![t.val / 4, t.val % 4, 0] ∧ win0_1.index t = ![t.val / 4, t.val % 4, 0] ∧ win0_2.index t = ![0, 0]
    ∧ win0_3.index t = ![t.val / 4, t.val % 4, 0] ∧ win0_4.index t = ![t.val / 4, 0, 0] ∧ win0_5.index t = ![0, 0] ∧ win0_6.index t = ![0, 0] ∧ win0_7.index t = ![t.val / 4, t.val % 4, 0] :=
  (by decide +kernel : ∀ t : Fin grid0.N, _)
theorem lt64 (t : Fin cfg0.N) : t.val < 64 := by have h : cfg0.N = 64 := N_0; omega
/-- The batch entry of a grid point. -/
abbrev bat (t : Fin cfg0.N) : Fin 16 := ⟨t.val / 4, by have := lt64 t; omega⟩
/-- The array row of a block row. -/
abbrev pos (t : Fin cfg0.N) (r : Fin 512) : Fin 2048 := ⟨t.val % 4 * 512 + r.val, by omega⟩
theorem weight_eq (c : Dev nD) : (V m c main_v0 : FVec Ideal S1024x1024 .bf16) = (m ((c.tc : Thread nD τ).loc main_arg2) : FVec Ideal S1024x1024 .f32) := rfl
theorem gain_eq (c : Dev nD) (e : Fin 1024) : (V m c main_v1 : FVec Ideal S1x1024 .f32) (ix2 0 e) = (m ((c.tc : Thread nD τ).loc main_arg5) : FVec Ideal S1024 .f32) (ix1 e) := by
  unfold V
  simp only [hostOps0]
  after_results_simp
  pointwise
theorem bias_eq (c : Dev nD) (e : Fin 1024) : (V m c main_v2 : FVec Ideal S1x1024 .f32) (ix2 0 e) = (m ((c.tc : Thread nD τ).loc main_arg6) : FVec Ideal S1024 .f32) (ix1 e) := by
  unfold V
  simp only [hostOps0]
  after_results_simp
  pointwise

theorem b0 (c : Dev nD) (t : Fin cfg0.N) (r : Fin 512) (k : Fin 512) : (iblk m c 0 t : Vec Ideal S1x512x512 .bf16) (ix3 0 r k) = (m ((c.tc : Thread nD τ).loc main_arg0) : FVec Ideal S16x2048x512 .bf16) (ix3 (bat t) (pos t r) k) := by
  blk_ext [iblk, V, idx t]
theorem b1 (c : Dev nD) (t : Fin cfg0.N) (r : Fin 512) (k : Fin 512) : (iblk m c 1 t : Vec Ideal S1x512x512 .bf16) (ix3 0 r k) = (m ((c.tc : Thread nD τ).loc main_arg1) : FVec Ideal S16x2048x512 .bf16) (ix3 (bat t) (pos t r) k) := by
  blk_ext [iblk, V, idx t]
theorem b2 (c : Dev nD) (t : Fin cfg0.N) (k j : Fin 1024) : (iblk m c 2 t : Vec Ideal S1024x1024 .bf16) (ix2 k j) = (m ((c.tc : Thread nD τ).loc main_arg2) : FVec Ideal S1024x1024 .f32) (ix2 k j) := by
  refine Eq.trans (b := (V m c main_v0 : FVec Ideal S1024x1024 .bf16) (ix2 k j)) ?_ rfl
  blk_ext [iblk, idx t]
theorem b3 (c : Dev nD) (t : Fin cfg0.N) (r : Fin 512) (k : Fin 1024) : (iblk m c 3 t : Vec Ideal S1x512x1024 .f32) (ix3 0 r k) = (m ((c.tc : Thread nD τ).loc main_arg3) : FVec Ideal S16x2048x1024 .f32) (ix3 (bat t) (pos t r) k) := by
  blk_ext [iblk, V, idx t]
theorem b4 (c : Dev nD) (t : Fin cfg0.N) (k : Fin 1024) : (iblk m c 4 t : Vec Ideal S1x1x1024 .f32) (ix3 0 0 k) = (m ((c.tc : Thread nD τ).loc main_arg4) : FVec Ideal S16x1x1024 .f32) (ix3 (bat t) 0 k) := by
  blk_ext [iblk, V, idx t]
theorem b5 (c : Dev nD) (t : Fin cfg0.N) (e : Fin 1024) : (iblk m c 5 t : Vec Ideal S1x1024 .f32) (ix2 0 e) = (m ((c.tc : Thread nD τ).loc main_arg5) : FVec Ideal S1024 .f32) (ix1 e) := by
  refine Eq.trans (b := (V m c main_v1 : FVec Ideal S1x1024 .f32) (ix2 0 e)) ?_ (gain_eq m c e)
  blk_ext [iblk, idx t]
theorem b6 (c : Dev nD) (t : Fin cfg0.N) (e : Fin 1024) : (iblk m c 6 t : Vec Ideal S1x1024 .f32) (ix2 0 e) = (m ((c.tc : Thread nD τ).loc main_arg6) : FVec Ideal S1024 .f32) (ix1 e) := by
  refine Eq.trans (b := (V m c main_v2 : FVec Ideal S1x1024 .f32) (ix2 0 e)) ?_ (bias_eq m c e)
  blk_ext [iblk, idx t]
theorem b7 (t : Fin cfg0.N) (r : Fin 512) (e : Fin 1024) : ((cfg0.win 7).blk t).view.emb (ix3 0 r e : S1x512x1024.Idx) = (ix3 (bat t) (pos t r) e : S16x2048x1024.Idx) := by
  blk_ext [idx t]

theorem top_eq (w : Vec Ideal S1024x1024 .bf16) (k : Fin 512) (j : Fin 1024) : View.ld (Val := Elt Ideal) w r0_1 (ix2 k j) = w (ix2 ⟨k.val, by omega⟩ j) :=
  congrArg w (funext fun a => Fin.ext (by fin_cases a <;> simp [Rect.unit, Rect.emb]))
theorem low_eq (w : Vec Ideal S1024x1024 .bf16) (k : Fin 512) (j : Fin 1024) : View.ld (Val := Elt Ideal) w r0_2 (ix2 k j) = w (ix2 ⟨512 + k.val, by omega⟩ j) :=
  congrArg w (funext fun a => Fin.ext (by fin_cases a <;> simp [Rect.unit, Rect.emb]))

/-- A row before its norm, at the array's coordinates. -/
theorem row_eq (c : Dev nD) (t : Fin cfg0.N) (r : Fin 512) (j : Fin 1024) :
    row (iblk m c 0 t) (iblk m c 1 t) (View.ld (iblk m c 2 t) r0_1) (View.ld (iblk m c 2 t) r0_2) (iblk m c 3 t) (iblk m c 4 t) r j
      = Lay.residual ((m ((c.tc : Thread nD τ).loc main_arg3) : FVec Ideal S16x2048x1024 .f32) (ix3 (bat t) (pos t r) j)) ((m ((c.tc : Thread nD τ).loc main_arg4) : FVec Ideal S16x1x1024 .f32) (ix3 (bat t) 0 j))
        (Lay.inner (fun k : Fin 512 => (m ((c.tc : Thread nD τ).loc main_arg0) : FVec Ideal S16x2048x512 .bf16) (ix3 (bat t) (pos t r) k)) (fun k => (m ((c.tc : Thread nD τ).loc main_arg2) : FVec Ideal S1024x1024 .f32) (ix2 ⟨k.val, by omega⟩ j))
          + Lay.inner (fun k : Fin 512 => (m ((c.tc : Thread nD τ).loc main_arg1) : FVec Ideal S16x2048x512 .bf16) (ix3 (bat t) (pos t r) k)) fun k => (m ((c.tc : Thread nD τ).loc main_arg2) : FVec Ideal S1024x1024 .f32) (ix2 ⟨512 + k.val, by omega⟩ j)) := by
  unfold row
  refine congr (congr (congrArg Lay.residual (b3 m c t r j)) (b4 m c t j)) (congr (congrArg HAdd.hAdd ?_) ?_)
  · exact congr (congrArg Lay.inner (funext fun k => b0 m c t r k)) (funext fun k => (top_eq _ k j).trans (b2 m c t _ j))
  · exact congr (congrArg Lay.inner (funext fun k => b1 m c t r k)) (funext fun k => (low_eq _ k j).trans (b2 m c t _ j))

/-- The kernel's result array, given what every entry is. -/
theorem final (c : Dev nD) (G : S16x2048x1024.Idx → Elt Ideal .f32)
    (hG : ∀ (b : Fin 16) (r : Fin 2048) (e : Fin 1024), Reference4Ideal.Value.entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r e = G (ix3 b r e)) :
    (dats m 0 c).arrAt 7 cfg0.N = G := by
  refine (dats m 0 c).arrAt_eq_of_covers 7 G (by decide +kernel) fun t _ y => ?_
  blk_simp
  rw [after0_7]
  obtain ⟨r, e, rfl⟩ : ∃ (r : Fin 512) (e : Fin 1024), y = ix3 0 r e :=
    ⟨y 1, y 2, funext fun i => by fin_cases i; exact Subsingleton.elim (α := Fin 1) _ _; rfl; rfl⟩
  unfold out0_7
  rw [View.canon_unit_zero (by decide), View.ld_unit_zero (by decide), View.ld_unit_zero (by decide), View.ld_unit_zero (by decide), View.ld_unit_zero (by decide), View.ld_unit_zero (by decide), View.ld_unit_zero (by decide)]
  refine (stored_apply _ _ _ _ _ _ _ _ r e).trans ?_
  refine Eq.trans ?_ ((hG (bat t) (pos t r) e).trans (congrArg G (b7 t r e).symm))
  unfold Reference4Ideal.Value.entry
  exact congrFun (congr (congr (congrArg Lay.layerNorm (funext fun j => row_eq m c t r j)) (b5 m c t e)) (b6 m c t e)) e
end Cert.Kernel4Ideal.Value
end
-- ==== Proof.RgIn.lean ====
/- The input projection of the recurrent layer: the kernel's two result arrays are the reference's. -/
module
public import proofs.«01_k».proof.Proof.Gen.Kernel5Ideal.Value
public import proofs.«01_k».proof.Proof.Gen.Reference5Ideal.Run
public import proofs.«01_k».proof.Proof.Lay
public import Idealize.ShloMosaic.Lib.Pipeline.ValueKit
@[expose] public section
set_option maxRecDepth 16384
noncomputable section
namespace Cert.Reference5Ideal.Value
open Cert.Reference5Ideal Cert.Reference5Ideal.Gen
open Idealize.ShloMosaic Idealize.ShloMosaic.TcCoe Idealize.SL.Sem Idealize.ShloMosaic.Tactic

variable (m : (ℓ : Loc nD τ sig) → Buf (Elt Ideal) ℓ)
/-- A modulated entry of the joined sequence: the context's rows first, then the latents'. -/
def joined (xc : FVec Ideal S16x256x1024 .f32) (xl : FVec Ideal S16x2048x1024 .f32) (scc shc scl shl : FVec Ideal S16x1x1024 .f32) (b : Fin 16) (r : Fin 2304) (k : Fin 1024) : EReal :=
  if h : r.val < 256 then Lay.modulated (xc (ix3 b ⟨r.val, h⟩ k)) (scc (ix3 b 0 k)) (shc (ix3 b 0 k))
  else Lay.modulated (xl (ix3 b ⟨r.val - 256, by omega⟩ k)) (scl (ix3 b 0 k)) (shl (ix3 b 0 k))
/-- The second result as a function of the arguments. -/
def recurrent (xc : FVec Ideal S16x256x1024 .f32) (xl : FVec Ideal S16x2048x1024 .f32) (scc shc scl shl : FVec Ideal S16x1x1024 .f32) (w : FVec Ideal S1024x2048 .f32) : FVec Ideal S16x2304x1024 .f32 :=
  extractStridedSlice S16x2304x1024 ![0, 0, 1024] (Host.dotGeneral dot_S16x2304x1024_S1024x2048_S16x2304x2048_2_0_01_1_n_n none (concatenate S16x2304x1024 1 [⟨S16x256x1024, (addf (mulf xc (broadcastInDim S16x256x1024 ![0, 1, 2] bcast_S16x1x1024_S16x256x1024_0_1_2 (addf (broadcastInDim S16x1x1024 ![] bcast_S_S16x1x1024 (constant S_ .f32 0x3F800000#32)) scc))) (broadcastInDim S16x256x1024 ![0, 1, 2] bcast_S16x1x1024_S16x256x1024_0_1_2 shc))⟩, ⟨S16x2048x1024, (addf (mulf xl (broadcastInDim S16x2048x1024 ![0, 1, 2] bcast_S16x1x1024_S16x2048x1024_0_1_2 (addf (broadcastInDim S16x1x1024 ![] bcast_S_S16x1x1024 (constant S_ .f32 0x3F800000#32)) scl))) (broadcastInDim S16x2048x1024 ![0, 1, 2] bcast_S16x1x1024_S16x2048x1024_0_1_2 shl))⟩] concatenates_S16x256x1024_S16x2048x1024_S16x2304x1024_d1) w) slices_S16x2304x2048_S16x2304x1024_0_0_1024
theorem recurrent_apply (xc : FVec Ideal S16x256x1024 .f32) (xl : FVec Ideal S16x2048x1024 .f32) (scc shc scl shl : FVec Ideal S16x1x1024 .f32) (w : FVec Ideal S1024x2048 .f32) (b : Fin 16) (r : Fin 2304) (e : Fin 1024) :
    recurrent xc xl scc shc scl shl w (ix3 b r e) = ∑ k, joined xc xl scc shc scl shl b r k * w (ix2 k ⟨1024 + e.val, by omega⟩) := by
  pointwise [recurrent]
  rfl
theorem gate_apply (c : Dev nD) (b : Fin 16) (r : Fin 2304) (e : Fin 1024) : (res_main_v29 m c : FVec Ideal S16x2304x1024 .bf16) (ix3 b r e)
    = Lay.gelu (∑ k, joined (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) b r k * (m ((c.tc : Thread nD τ).loc main_arg6) : FVec Ideal S1024x2048 .f32) (ix2 k ⟨e.val, by omega⟩)) := by
  pointwise [res_main_v29]
  exact (Lay.gelu_eq _).symm
end Cert.Reference5Ideal.Value

namespace Cert.Kernel5Ideal.Value
open Cert.Kernel5Ideal Cert.Kernel5Ideal.Gen
open Idealize.ShloMosaic Idealize.ShloMosaic.TcCoe Idealize.SL.Sem Idealize.ShloMosaic.Tactic
open Idealize.ShloMosaic.Pipeline (Dat)

section
variable (i : grid0.Coords) (xc xl : Vec Ideal S1x256x1024 .f32) (scc scl shc shl : Vec Ideal S1x1x1024 .f32) (w : Vec Ideal S1024x1024 .bf16)
/-- A modulated entry: the context's at the first point of a batch entry, the latents' at the others. -/
def picked (r : Fin 256) (k : Fin 1024) : EReal :=
  if (i 1).val < 1 then Lay.modulated (xc (ix3 0 r k)) (scc (ix3 0 0 k)) (shc (ix3 0 0 k)) else Lay.modulated (xl (ix3 0 r k)) (scl (ix3 0 0 k)) (shl (ix3 0 0 k))
theorem k0_pay3_apply (r : Fin 256) (k : Fin 1024) : k0_pay3 i xc xl scc scl shc shl (ix2 r k) = picked i xc xl scc scl shc shl r k := by
  pointwise [k0_pay3]
  unfold picked
  have e : Scalar.cmpi CmpIPredicate.slt (BitVec.ofNat 32 (i 1).val) 1#32 = if (i 1).val < 1 then 1#1 else 0#1 :=
    (by decide +kernel : ∀ n : Fin 9, Scalar.cmpi CmpIPredicate.slt (BitVec.ofNat 32 n.val) 1#32 = if n.val < 1 then 1#1 else 0#1) (i 1)
  rw [e]
  split <;> rfl
theorem k0_pay2_apply (p : FVec Ideal S256x1024 .bf16) (r : Fin 256) (e : Fin 1024) : k0_pay2 p w (ix3 0 r e) = ∑ k, p (ix2 r k) * w (ix2 k e) := by
  pointwise [k0_pay2]
theorem k0_pay4_apply (r : Fin 256) (e : Fin 1024) : k0_pay4 i xc xl scc scl shc shl w (ix2 r e) = ∑ k, k0_pay3 i xc xl scc scl shc shl (ix2 r k) * w (ix2 k e) := by
  pointwise [k0_pay4]
theorem k0_pay1_apply (r : Fin 256) (e : Fin 1024) : k0_pay1 (k0_pay5 i xc xl scc scl shc shl w) (k0_pay6 i xc xl scc scl shc shl w) (ix3 0 r e) = Lay.gelu (k0_pay4 i xc xl scc scl shc shl w (ix2 r e)) := by
  pointwise [k0_pay1, k0_pay5, k0_pay6]
  rfl
end
variable (m : (ℓ : Loc nD τ sig) → Buf (Elt Ideal) ℓ)
theorem idx : ∀ t : Fin cfg0.N, win0_0.index t = ![t.val / 9, 0, 0] ∧ win0_1.index t = ![t.val / 9, t.val % 9 - 1, 0] ∧ win0_2.index t = ![t.val / 9, 0, 0]
    ∧ win0_3.index t = ![t.val / 9, 0, 0] ∧ win0_4.index t = ![t.val / 9, 0, 0] ∧ win0_5.index t = ![t.val / 9, 0, 0] ∧ win0_6.index t = ![0, 0]
    ∧ win0_7.index t = ![t.val / 9, t.val % 9, 0] ∧ win0_8.index t = ![t.val / 9, t.val % 9, 0] ∧ (grid0.coords t 1).val = t.val % 9 :=
  (by decide +kernel : ∀ t : Fin grid0.N, _)
theorem lt144 (t : Fin cfg0.N) : t.val < 144 := by have h : cfg0.N = 144 := N_0; omega
/-- The batch entry of a grid point. -/
abbrev bat (t : Fin cfg0.N) : Fin 16 := ⟨t.val / 9, by have := lt144 t; omega⟩
/-- The row of the joined sequence of a block row. -/
abbrev pos (t : Fin cfg0.N) (r : Fin 256) : Fin 2304 := ⟨t.val % 9 * 256 + r.val, by omega⟩

theorem b0 (c : Dev nD) (t : Fin cfg0.N) (r : Fin 256) (k : Fin 1024) : (iblk m c 0 t : Vec Ideal S1x256x1024 .f32) (ix3 0 r k) = (m ((c.tc : Thread nD τ).loc main_arg0) : FVec Ideal S16x256x1024 .f32) (ix3 (bat t) r k) := by
  blk_ext [iblk, V, idx t]
theorem b1 (c : Dev nD) (t : Fin cfg0.N) (r : Fin 256) (k : Fin 1024) : (iblk m c 1 t : Vec Ideal S1x256x1024 .f32) (ix3 0 r k) = (m ((c.tc : Thread nD τ).loc main_arg1) : FVec Ideal S16x2048x1024 .f32) (ix3 (bat t) ⟨(t.val % 9 - 1) * 256 + r.val, by omega⟩ k) := by
  blk_ext [iblk, V, idx t]
theorem b2 (c : Dev nD) (t : Fin cfg0.N) (k : Fin 1024) : (iblk m c 2 t : Vec Ideal S1x1x1024 .f32) (ix3 0 0 k) = (m ((c.tc : Thread nD τ).loc main_arg2) : FVec Ideal S16x1x1024 .f32) (ix3 (bat t) 0 k) := by
  blk_ext [iblk, V, idx t]
theorem b3 (c : Dev nD) (t : Fin cfg0.N) (k : Fin 1024) : (iblk m c 3 t : Vec Ideal S1x1x1024 .f32) (ix3 0 0 k) = (m ((c.tc : Thread nD τ).loc main_arg3) : FVec Ideal S16x1x1024 .f32) (ix3 (bat t) 0 k) := by
  blk_ext [iblk, V, idx t]
theorem b4 (c : Dev nD) (t : Fin cfg0.N) (k : Fin 1024) : (iblk m c 4 t : Vec Ideal S1x1x1024 .f32) (ix3 0 0 k) = (m ((c.tc : Thread nD τ).loc main_arg4) : FVec Ideal S16x1x1024 .f32) (ix3 (bat t) 0 k) := by
  blk_ext [iblk, V, idx t]
theorem b5 (c : Dev nD) (t : Fin cfg0.N) (k : Fin 1024) : (iblk m c 5 t : Vec Ideal S1x1x1024 .f32) (ix3 0 0 k) = (m ((c.tc : Thread nD τ).loc main_arg5) : FVec Ideal S16x1x1024 .f32) (ix3 (bat t) 0 k) := by
  blk_ext [iblk, V, idx t]
theorem b6 (c : Dev nD) (t : Fin cfg0.N) (k : Fin 1024) (j : Fin 2048) : (iblk m c 6 t : Vec Ideal S1024x2048 .bf16) (ix2 k j) = (m ((c.tc : Thread nD τ).loc main_arg6) : FVec Ideal S1024x2048 .f32) (ix2 k j) := by
  refine Eq.trans (b := (V m c main_v0 : FVec Ideal S1024x2048 .bf16) (ix2 k j)) ?_ rfl
  blk_ext [iblk, idx t]
theorem b7 (t : Fin cfg0.N) (r : Fin 256) (e : Fin 1024) : ((cfg0.win 7).blk t).view.emb (ix3 0 r e : S1x256x1024.Idx) = (ix3 (bat t) (pos t r) e : S16x2304x1024.Idx) := by
  blk_ext [idx t]
theorem b8 (t : Fin cfg0.N) (r : Fin 256) (e : Fin 1024) : ((cfg0.win 8).blk t).view.emb (ix3 0 r e : S1x256x1024.Idx) = (ix3 (bat t) (pos t r) e : S16x2304x1024.Idx) := by
  blk_ext [idx t]

theorem left_eq (w : Vec Ideal S1024x2048 .bf16) (k j : Fin 1024) : View.ld (Val := Elt Ideal) w r0_2 (ix2 k j) = w (ix2 k ⟨j.val, by omega⟩) :=
  congrArg w (funext fun a => Fin.ext (by fin_cases a <;> simp [Rect.unit, Rect.emb]))
theorem right_eq (w : Vec Ideal S1024x2048 .bf16) (k j : Fin 1024) : View.ld (Val := Elt Ideal) w r0_3 (ix2 k j) = w (ix2 k ⟨1024 + j.val, by omega⟩) :=
  congrArg w (funext fun a => Fin.ext (by fin_cases a <;> simp [Rect.unit, Rect.emb]))

/-- A modulated entry, at the joined sequence's coordinates. -/
theorem picked_eq (c : Dev nD) (t : Fin cfg0.N) (r : Fin 256) (k : Fin 1024) :
    picked (grid0.coords t) (iblk m c 0 t) (iblk m c 1 t) (iblk m c 2 t) (iblk m c 4 t) (iblk m c 3 t) (iblk m c 5 t) r k
      = Reference5Ideal.Value.joined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (bat t) (pos t r) k := by
  unfold picked Reference5Ideal.Value.joined
  rw [(idx t).2.2.2.2.2.2.2.2.2]
  by_cases h : t.val % 9 < 1
  · rw [if_pos h, dif_pos (show (pos t r).val < 256 by show t.val % 9 * 256 + r.val < 256; omega)]
    refine congr (congr (congrArg Lay.modulated ((b0 m c t r k).trans ?_)) (b2 m c t k)) (b3 m c t k)
    exact congrArg (fun q => (m ((c.tc : Thread nD τ).loc main_arg0) : FVec Ideal S16x256x1024 .f32) (ix3 (bat t) q k)) (Fin.ext (by show r.val = t.val % 9 * 256 + r.val; omega))
  · rw [if_neg h, dif_neg (show ¬ (pos t r).val < 256 by show ¬ t.val % 9 * 256 + r.val < 256; omega)]
    refine congr (congr (congrArg Lay.modulated ((b1 m c t r k).trans ?_)) (b4 m c t k)) (b5 m c t k)
    exact congrArg (fun q => (m ((c.tc : Thread nD τ).loc main_arg1) : FVec Ideal S16x2048x1024 .f32) (ix3 (bat t) q k)) (Fin.ext (by show (t.val % 9 - 1) * 256 + r.val = t.val % 9 * 256 + r.val - 256; omega))

/-- The kernel's gate array, given what every entry is. -/
theorem final_gate (c : Dev nD) (G : S16x2304x1024.Idx → Elt Ideal .bf16)
    (hG : ∀ (b : Fin 16) (r : Fin 2304) (e : Fin 1024), Lay.gelu (∑ k : Fin 1024, (Reference5Ideal.Value.joined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b r k * ((m ((c.tc : Thread nD τ).loc main_arg6) : FVec Ideal S1024x2048 .f32) (ix2 k ⟨e.val, by omega⟩) : EReal) : EReal)) = G (ix3 b r e)) :
    (dats m 0 c).arrAt 7 cfg0.N = G := by
  refine (dats m 0 c).arrAt_eq_of_covers 7 G (by decide +kernel) fun t _ y => ?_
  blk_simp
  rw [after0_7]
  obtain ⟨r, e, rfl⟩ : ∃ (r : Fin 256) (e : Fin 1024), y = ix3 0 r e :=
    ⟨y 1, y 2, funext fun i => by fin_cases i; exact Subsingleton.elim (α := Fin 1) _ _; rfl; rfl⟩
  unfold out0_7
  rw [View.canon_unit_zero (by decide), View.ld_unit_zero (by decide), View.ld_unit_zero (by decide), View.ld_unit_zero (by decide), View.ld_unit_zero (by decide), View.ld_unit_zero (by decide), View.ld_unit_zero (by decide)]
  refine (k0_pay1_apply _ _ _ _ _ _ _ _ r e).trans ?_
  refine Eq.trans ?_ ((hG (bat t) (pos t r) e).trans (congrArg G (b7 t r e).symm))
  refine congrArg Lay.gelu ((k0_pay4_apply _ _ _ _ _ _ _ _ r e).trans ?_)
  exact Finset.sum_congr rfl fun k _ => congr (congrArg HMul.hMul ((k0_pay3_apply _ _ _ _ _ _ _ r k).trans (picked_eq m c t r k))) ((left_eq _ k e).trans (b6 m c t k _))

/-- The kernel's second array, given what every entry is. -/
theorem final_rec (c : Dev nD) (G : S16x2304x1024.Idx → Elt Ideal .f32)
    (hG : ∀ (b : Fin 16) (r : Fin 2304) (e : Fin 1024), (∑ k : Fin 1024, (Reference5Ideal.Value.joined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b r k * ((m ((c.tc : Thread nD τ).loc main_arg6) : FVec Ideal S1024x2048 .f32) (ix2 k ⟨1024 + e.val, by omega⟩) : EReal) : EReal)) = G (ix3 b r e)) :
    (dats m 0 c).arrAt 8 cfg0.N = G := by
  refine (dats m 0 c).arrAt_eq_of_covers 8 G (by decide +kernel) fun t _ y => ?_
  blk_simp
  rw [after0_8]
  obtain ⟨r, e, rfl⟩ : ∃ (r : Fin 256) (e : Fin 1024), y = ix3 0 r e :=
    ⟨y 1, y 2, funext fun i => by fin_cases i; exact Subsingleton.elim (α := Fin 1) _ _; rfl; rfl⟩
  unfold out0_8
  rw [View.canon_unit_zero (by decide), View.ld_unit_zero (by decide), View.ld_unit_zero (by decide), View.ld_unit_zero (by decide), View.ld_unit_zero (by decide), View.ld_unit_zero (by decide), View.ld_unit_zero (by decide)]
  refine (k0_pay2_apply _ _ r e).trans ?_
  refine Eq.trans ?_ ((hG (bat t) (pos t r) e).trans (congrArg G (b8 t r e).symm))
  exact Finset.sum_congr rfl fun k _ => congr (congrArg HMul.hMul ((k0_pay3_apply _ _ _ _ _ _ _ r k).trans (picked_eq m c t r k))) ((right_eq _ k e).trans (b6 m c t k _))
end Cert.Kernel5Ideal.Value
end
-- ==== Proof.RgOut.lean ====
/- The output projection of the recurrent layer with its layer norm: the kernel's result array is the reference's. -/
module
public import proofs.«01_k».proof.Proof.Gen.Kernel6Ideal.Value
public import proofs.«01_k».proof.Proof.Gen.Reference6Ideal.Run
public import proofs.«01_k».proof.Proof.Lay
public import Idealize.ShloMosaic.Lib.Pipeline.ValueKit
@[expose] public section
set_option maxRecDepth 16384
noncomputable section
namespace Cert.Reference6Ideal.Value
open Cert.Reference6Ideal Cert.Reference6Ideal.Gen
open Idealize.ShloMosaic Idealize.ShloMosaic.TcCoe Idealize.SL.Sem Idealize.ShloMosaic.Tactic

variable (m : (ℓ : Loc nD τ sig) → Buf (Elt Ideal) ℓ)
/-- One entry of the result as a function of the arguments. -/
def entry (ga hf hb : FVec Ideal S16x2304x1024 .bf16) (w : FVec Ideal S1024x1024 .f32) (x : FVec Ideal S16x2048x1024 .f32) (g : FVec Ideal S16x1x1024 .f32) (lg lb : FVec Ideal S1024 .f32)
    (b : Fin 16) (r : Fin 2048) (e : Fin 1024) : EReal :=
  Lay.layerNorm (fun j => Lay.residual (x (ix3 b r j)) (g (ix3 b 0 j))
      (Lay.gated (fun k => ga (ix3 b ⟨256 + r.val, by omega⟩ k)) (fun k => hf (ix3 b ⟨256 + r.val, by omega⟩ k)) (fun k => hb (ix3 b ⟨256 + r.val, by omega⟩ k)) fun k => w (ix2 k j)))
    (lg (ix1 e)) (lb (ix1 e)) e
theorem result_apply (c : Dev nD) (b : Fin 16) (r : Fin 2048) (e : Fin 1024) : (res_main_v37 m c : FVec Ideal S16x2048x1024 .f32) (ix3 b r e)
    = entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b r e := by
  pointwise [res_main_v37]
  rfl
end Cert.Reference6Ideal.Value

namespace Cert.Kernel6Ideal.Value
open Cert.Kernel6Ideal Cert.Kernel6Ideal.Gen
open Idealize.ShloMosaic Idealize.ShloMosaic.TcCoe Idealize.SL.Sem Idealize.ShloMosaic.Tactic
open Idealize.ShloMosaic.Pipeline (Dat)

section
variable (ga hf hb : Vec Ideal S1x256x1024 .bf16) (w : Vec Ideal S1024x1024 .bf16) (x : Vec Ideal S1x256x1024 .f32) (g : Vec Ideal S1x1x1024 .f32) (lg lb : Vec Ideal S1x1024 .f32)
/-- A row before its norm. -/
def row (r : Fin 256) (j : Fin 1024) : EReal :=
  Lay.residual (x (ix3 0 r j)) (g (ix3 0 0 j)) (Lay.gated (fun k => ga (ix3 0 r k)) (fun k => hf (ix3 0 r k)) (fun k => hb (ix3 0 r k)) fun k => w (ix2 k j))
theorem k0_pay2_apply (r : Fin 256) (j : Fin 1024) : k0_pay2 hf hb ga w x g (ix2 r j) = row ga hf hb w x g r j := by
  pointwise [k0_pay2]
  rfl
theorem k0_pay5_apply (r : Fin 256) (j : Fin 1024) : k0_pay5 hf hb ga w x g (ix2 r j) = Lay.mean fun j => k0_pay2 hf hb ga w x g (ix2 r j) := by
  pointwise [k0_pay5]
  rfl
theorem k0_pay1_apply (p q : FVec Ideal S256x1024 .f32) (r : Fin 256) (e : Fin 1024) : k0_pay1 p (k0_pay3 lg) (k0_pay4 lb) q (ix3 0 r e)
    = (p (ix2 r e) - q (ix2 r e)) * Ideal.rsqrt (Lay.mean (fun j => (p (ix2 r j) - q (ix2 r j)) * (p (ix2 r j) - q (ix2 r j))) + Ideal.ofBits FTy.f32 0x3727C5AC#32) * lg (ix2 0 e) + lb (ix2 0 e) := by
  pointwise [k0_pay1, k0_pay3, k0_pay4]
  rfl
theorem stored_apply (r : Fin 256) (e : Fin 1024) : k0_pay1 (k0_pay2 hf hb ga w x g) (k0_pay3 lg) (k0_pay4 lb) (k0_pay5 hf hb ga w x g) (ix3 0 r e)
    = Lay.layerNorm (row ga hf hb w x g r) (lg (ix2 0 e)) (lb (ix2 0 e)) e := by
  rw [k0_pay1_apply]
  simp only [k0_pay5_apply, k0_pay2_apply]
  rfl
end
variable (m : (ℓ : Loc nD τ sig) → Buf (Elt Ideal) ℓ)
theorem idx : ∀ t : Fin cfg0.N, win0_0.index t = ![t.val / 8, t.val % 8 + 1, 0] ∧ win0_1.index t = ![t.val / 8, t.val % 8 + 1, 0] ∧ win0_2.index t = ![t.val / 8, t.val % 8 + 1, 0]
    ∧ win0_3.index t = ![0, 0] ∧ win0_4.index t = ![t.val / 8, t.val % 8, 0] ∧ win0_5.index t = ![t.val / 8, 0, 0] ∧ win0_6.index t = ![0, 0] ∧ win0_7.index t = ![0, 0] ∧ win0_8.index t = ![t.val / 8, t.val % 8, 0] :=
  (by decide +kernel : ∀ t : Fin grid0.N, _)
theorem lt128 (t : Fin cfg0.N) : t.val < 128 := by have h : cfg0.N = 128 := N_0; omega
/-- The batch entry of a grid point. -/
abbrev bat (t : Fin cfg0.N) : Fin 16 := ⟨t.val / 8, by have := lt128 t; omega⟩
/-- The array row of a block row. -/
abbrev pos (t : Fin cfg0.N) (r : Fin 256) : Fin 2048 := ⟨t.val % 8 * 256 + r.val, by omega⟩
/-- The same row of the joined sequence, after the context's rows. -/
abbrev past (t : Fin cfg0.N) (r : Fin 256) : Fin 2304 := ⟨256 + (t.val % 8 * 256 + r.val), by omega⟩
theorem gain_eq (c : Dev nD) (e : Fin 1024) : (V m c main_v1 : FVec Ideal S1x1024 .f32) (ix2 0 e) = (m ((c.tc : Thread nD τ).loc main_arg6) : FVec Ideal S1024 .f32) (ix1 e) := by
  unfold V
  simp only [hostOps0]
  after_results_simp
  pointwise
theorem bias_eq (c : Dev nD) (e : Fin 1024) : (V m c main_v2 : FVec Ideal S1x1024 .f32) (ix2 0 e) = (m ((c.tc : Thread nD τ).loc main_arg7) : FVec Ideal S1024 .f32) (ix1 e) := by
  unfold V
  simp only [hostOps0]
  after_results_simp
  pointwise
theorem b0 (c : Dev nD) (t : Fin cfg0.N) (r : Fin 256) (k : Fin 1024) : (iblk m c 0 t : Vec Ideal S1x256x1024 .bf16) (ix3 0 r k) = (m ((c.tc : Thread nD τ).loc main_arg0) : FVec Ideal S16x2304x1024 .bf16) (ix3 (bat t) (past t r) k) := by
  blk_ext [iblk, V, idx t]
theorem b1 (c : Dev nD) (t : Fin cfg0.N) (r : Fin 256) (k : Fin 1024) : (iblk m c 1 t : Vec Ideal S1x256x1024 .bf16) (ix3 0 r k) = (m ((c.tc : Thread nD τ).loc main_arg1) : FVec Ideal S16x2304x1024 .bf16) (ix3 (bat t) (past t r) k) := by
  blk_ext [iblk, V, idx t]
theorem b2 (c : Dev nD) (t : Fin cfg0.N) (r : Fin 256) (k : Fin 1024) : (iblk m c 2 t : Vec Ideal S1x256x1024 .bf16) (ix3 0 r k) = (m ((c.tc : Thread nD τ).loc main_arg2) : FVec Ideal S16x2304x1024 .bf16) (ix3 (bat t) (past t r) k) := by
  blk_ext [iblk, V, idx t]
theorem b3 (c : Dev nD) (t : Fin cfg0.N) (k j : Fin 1024) : (iblk m c 3 t : Vec Ideal S1024x1024 .bf16) (ix2 k j) = (m ((c.tc : Thread nD τ).loc main_arg3) : FVec Ideal S1024x1024 .f32) (ix2 k j) := by
  refine Eq.trans (b := (V m c main_v0 : FVec Ideal S1024x1024 .bf16) (ix2 k j)) ?_ rfl
  blk_ext [iblk, idx t]
theorem b4 (c : Dev nD) (t : Fin cfg0.N) (r : Fin 256) (k : Fin 1024) : (iblk m c 4 t : Vec Ideal S1x256x1024 .f32) (ix3 0 r k) = (m ((c.tc : Thread nD τ).loc main_arg4) : FVec Ideal S16x2048x1024 .f32) (ix3 (bat t) (pos t r) k) := by
  blk_ext [iblk, V, idx t]
theorem b5 (c : Dev nD) (t : Fin cfg0.N) (k : Fin 1024) : (iblk m c 5 t : Vec Ideal S1x1x1024 .f32) (ix3 0 0 k) = (m ((c.tc : Thread nD τ).loc main_arg5) : FVec Ideal S16x1x1024 .f32) (ix3 (bat t) 0 k) := by
  blk_ext [iblk, V, idx t]
theorem b6 (c : Dev nD) (t : Fin cfg0.N) (e : Fin 1024) : (iblk m c 6 t : Vec Ideal S1x1024 .f32) (ix2 0 e) = (m ((c.tc : Thread nD τ).loc main_arg6) : FVec Ideal S1024 .f32) (ix1 e) := by
  refine Eq.trans (b := (V m c main_v1 : FVec Ideal S1x1024 .f32) (ix2 0 e)) ?_ (gain_eq m c e)
  blk_ext [iblk, idx t]
theorem b7 (c : Dev nD) (t : Fin cfg0.N) (e : Fin 1024) : (iblk m c 7 t : Vec Ideal S1x1024 .f32) (ix2 0 e) = (m ((c.tc : Thread nD τ).loc main_arg7) : FVec Ideal S1024 .f32) (ix1 e) := by
  refine Eq.trans (b := (V m c main_v2 : FVec Ideal S1x1024 .f32) (ix2 0 e)) ?_ (bias_eq m c e)
  blk_ext [iblk, idx t]
theorem b8 (t : Fin cfg0.N) (r : Fin 256) (e : Fin 1024) : ((cfg0.win 8).blk t).view.emb (ix3 0 r e : S1x256x1024.Idx) = (ix3 (bat t) (pos t r) e : S16x2048x1024.Idx) := by
  blk_ext [idx t]

/-- A row before its norm, at the array's coordinates. -/
theorem row_eq (c : Dev nD) (t : Fin cfg0.N) (r : Fin 256) (j : Fin 1024) :
    row (iblk m c 0 t) (iblk m c 1 t) (iblk m c 2 t) (iblk m c 3 t) (iblk m c 4 t) (iblk m c 5 t) r j
      = Lay.residual ((m ((c.tc : Thread nD τ).loc main_arg4) : FVec Ideal S16x2048x1024 .f32) (ix3 (bat t) (pos t r) j)) ((m ((c.tc : Thread nD τ).loc main_arg5) : FVec Ideal S16x1x1024 .f32) (ix3 (bat t) 0 j))
        (Lay.gated (fun k => (m ((c.tc : Thread nD τ).loc main_arg0) : FVec Ideal S16x2304x1024 .bf16) (ix3 (bat t) (past t r) k)) (fun k => (m ((c.tc : Thread nD τ).loc main_arg1) : FVec Ideal S16x2304x1024 .bf16) (ix3 (bat t) (past t r) k)) (fun k => (m ((c.tc : Thread nD τ).loc main_arg2) : FVec Ideal S16x2304x1024 .bf16) (ix3 (bat t) (past t r) k)) fun k => (m ((c.tc : Thread nD τ).loc main_arg3) : FVec Ideal S1024x1024 .f32) (ix2 k j)) := by
  unfold row
  refine congr (congr (congrArg Lay.residual (b4 m c t r j)) (b5 m c t j)) ?_
  exact congr (congr (congr (congrArg Lay.gated (funext fun k => b0 m c t r k)) (funext fun k => b1 m c t r k)) (funext fun k => b2 m c t r k)) (funext fun k => b3 m c t k j)

/-- The kernel's result array, given what every entry is. -/
theorem final (c : Dev nD) (G : S16x2048x1024.Idx → Elt Ideal .f32)
    (hG : ∀ (b : Fin 16) (r : Fin 2048) (e : Fin 1024), Reference6Ideal.Value.entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b r e = G (ix3 b r e)) :
    (dats m 0 c).arrAt 8 cfg0.N = G := by
  refine (dats m 0 c).arrAt_eq_of_covers 8 G (by decide +kernel) fun t _ y => ?_
  blk_simp
  rw [after0_8]
  obtain ⟨r, e, rfl⟩ : ∃ (r : Fin 256) (e : Fin 1024), y = ix3 0 r e :=
    ⟨y 1, y 2, funext fun i => by fin_cases i; exact Subsingleton.elim (α := Fin 1) _ _; rfl; rfl⟩
  unfold out0_8
  rw [View.canon_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide)]
  refine (stored_apply _ _ _ _ _ _ _ _ r e).trans ?_
  refine Eq.trans ?_ ((hG (bat t) (pos t r) e).trans (congrArg G (b8 t r e).symm))
  rw [b6 m c t e, b7 m c t e, funext fun j => row_eq m c t r j]
  rfl
end Cert.Kernel6Ideal.Value
end
-- ==== Proof.Calls.lean ====
/- The projections' claims: each kernel and its reference end with the same arrays. -/
module
public import proofs.«01_k».proof.Defs
public import proofs.«01_k».proof.Proof.Gen.Reference3Ideal.Run
public import proofs.«01_k».proof.Proof.Gen.Kernel3Ideal.Value
public import proofs.«01_k».proof.Proof.Gen.Reference4Ideal.Run
public import proofs.«01_k».proof.Proof.Gen.Kernel4Ideal.Value
public import proofs.«01_k».proof.Proof.Gen.Reference5Ideal.Run
public import proofs.«01_k».proof.Proof.Gen.Kernel5Ideal.Value
public import proofs.«01_k».proof.Proof.Gen.Reference6Ideal.Run
public import proofs.«01_k».proof.Proof.Gen.Kernel6Ideal.Value
public import proofs.«01_k».proof.Proof.In
public import proofs.«01_k».proof.Proof.OutNorm
public import proofs.«01_k».proof.Proof.RgIn
public import proofs.«01_k».proof.Proof.RgOut
public import Idealize.ShloMosaic.Lib.Claim
public import Idealize.ShloMosaic.Adequacy
public import Idealize.ShloMosaic.Init
@[expose] public section
set_option maxRecDepth 16384
noncomputable section
namespace Cert.Proof
open Idealize.ShloMosaic Idealize.SL.Sem Idealize.ShloMosaic.Tactic

/-- The input projection's reference leaves its arguments unchanged, and it has no semaphore. -/
theorem frame_reference3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

/-- The input projection: the kernel and the reference end with the same arrays. -/
theorem algebraic3 : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · refine (θ_run _ _ _).mono (fun r h c => ⟨(h c).1.trans ?_, (h c).2⟩) (Cert.Reference3Ideal.Value.run m' g')
    obtain ⟨a0, a1, a2, a3⟩ := hagree c
    rw [a0, a1, a2, a3]
    exact (Cert.Kernel3Ideal.Value.equal m c).symm

/-- The output projection's reference leaves its arguments unchanged, and it has no semaphore. -/
theorem frame_reference4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

/-- The output projection: the kernel and the reference end with the same arrays. -/
theorem algebraic4 : Cert.algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · refine (θ_run _ _ _).mono (fun r h c => ⟨(h c).1.trans ?_, (h c).2⟩) (Cert.Reference4Ideal.Value.run m' g')
    obtain ⟨a0, a1, a2, a3, a4, a5, a6⟩ := hagree c
    refine (Cert.Kernel4Ideal.Value.final m c _ fun b r e => ?_).symm
    refine Eq.trans ?_ (Cert.Reference4Ideal.Value.result_apply m' c b r e).symm
    rw [a0, a1, a2, a3, a4, a5, a6]

/-- The recurrent input projection's reference leaves its arguments unchanged, and it has no semaphore. -/
theorem frame_reference5 : Cert.quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run m g)

/-- The recurrent input projection: the kernel and the reference end with the same arrays. -/
theorem algebraic5 : Cert.algebraic_Kernel5Ideal_Reference5Ideal (hKernel5Ideal := Cert.Kernel5Ideal.Gen.facts) (hReference5Ideal := Cert.Reference5Ideal.Gen.facts) := by
  pair_intro
  · run_from Cert.Kernel5Ideal.Value.run_blocks m g
  · refine (θ_run _ _ _).mono (fun r h c => ⟨(h c).1.trans ?_, (h c).2.1.trans ?_, (h c).2.2⟩) (Cert.Reference5Ideal.Value.run m' g')
    · obtain ⟨a0, a1, a2, a3, a4, a5, a6⟩ := hagree c
      refine (Cert.Kernel5Ideal.Value.final_gate m c _ fun b r e => ?_).symm
      refine Eq.trans ?_ (Cert.Reference5Ideal.Value.gate_apply m' c b r e).symm
      rw [a0, a1, a2, a3, a4, a5, a6]
    · obtain ⟨a0, a1, a2, a3, a4, a5, a6⟩ := hagree c
      rw [a0, a1, a2, a3, a4, a5, a6]
      refine (Cert.Kernel5Ideal.Value.final_rec m c _ fun b r e => ?_).symm
      exact (Cert.Reference5Ideal.Value.recurrent_apply _ _ _ _ _ _ _ b r e).symm

/-- The recurrent output projection's reference leaves its arguments unchanged, and it has no semaphore. -/
theorem frame_reference6 : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)

/-- The recurrent output projection: the kernel and the reference end with the same arrays. -/
theorem algebraic6 : Cert.algebraic_Kernel6Ideal_Reference6Ideal (hKernel6Ideal := Cert.Kernel6Ideal.Gen.facts) (hReference6Ideal := Cert.Reference6Ideal.Gen.facts) := by
  pair_intro
  · run_from Cert.Kernel6Ideal.Value.run_blocks m g
  · refine (θ_run _ _ _).mono (fun r h c => ⟨(h c).1.trans ?_, (h c).2⟩) (Cert.Reference6Ideal.Value.run m' g')
    obtain ⟨a0, a1, a2, a3, a4, a5, a6, a7⟩ := hagree c
    refine (Cert.Kernel6Ideal.Value.final m c _ fun b r e => ?_).symm
    refine Eq.trans ?_ (Cert.Reference6Ideal.Value.result_apply m' c b r e).symm
    rw [a0, a1, a2, a3, a4, a5, a6, a7]

end Cert.Proof
end
-- ==== Proof.Mod.lean ====
/- The modulation of the layers: the kernel's result array is the reference's, on the rows that hold a conditioning vector. -/
module
public import proofs.«01_k».proof.Proof.Gen.Kernel7Ideal.Value
public import proofs.«01_k».proof.Proof.Gen.Reference7Ideal.Run
public import proofs.«01_k».proof.Proof.Lay
public import Idealize.ShloMosaic.Lib.Pipeline.ValueKit
public import Idealize.ShloMosaic.Lib.Routing.OpsPair
@[expose] public section
set_option maxRecDepth 16384
noncomputable section
namespace Cert.Reference7Ideal.Value
open Cert.Reference7Ideal Cert.Reference7Ideal.Gen
open Idealize.ShloMosaic Idealize.ShloMosaic.TcCoe Idealize.SL.Sem Idealize.ShloMosaic.Tactic
/-- The sigmoid-weighted entry. -/
def silu (x : EReal) : EReal := x * Ideal.div 1 (1 + Ideal.exp (-x))
/-- One entry of the modulation: a row of sigmoid-weighted entries times a column, plus the bias. -/
def entry (c : FVec Ideal S16x1024 .f32) (cc : FVec Ideal S1024 .f32) (w : FVec Ideal S4x1024x6144 .f32) (b : FVec Ideal S4x6144 .f32) (l : Fin 4) (r : Fin 24) (n : Fin 6144) : EReal :=
  Lay.inner (fun k : Fin 1024 => silu (if h : r.val < 16 then c (ix2 ⟨r.val, h⟩ k) else cc (ix1 k))) (fun k => w (ix3 l k n)) + b (ix2 l n)
variable (m : (ℓ : Loc nD τ sig) → Buf (Elt Ideal) ℓ)
theorem result_apply (c : Dev nD) (l : Fin 4) (r : Fin 24) (n : Fin 6144) (hr : r.val < 17) : (res_main_v71 m c : FVec Ideal S4x24x6144 .f32) (ix3 l r n)
    = entry (m ((c.tc : Thread nD τ).loc main_arg0)) (m ((c.tc : Thread nD τ).loc main_arg1)) (m ((c.tc : Thread nD τ).loc main_arg2)) (m ((c.tc : Thread nD τ).loc main_arg3)) l r n := by
  pointwise [res_main_v71]
  rw [dif_pos hr]
  unfold entry Lay.inner silu
  by_cases h : r.val < 16
  · simp only [dif_pos h]
    fin_cases l <;> rfl
  · simp only [dif_neg h]
    fin_cases l <;> rfl
end Cert.Reference7Ideal.Value
namespace Cert.Kernel7Ideal.Value
open Cert.Kernel7Ideal Cert.Kernel7Ideal.Gen
open Idealize.ShloMosaic Idealize.ShloMosaic.TcCoe Idealize.SL.Sem Idealize.ShloMosaic.Tactic
open Idealize.ShloMosaic.Pipeline (Dat)
open Cert.Reference7Ideal.Value (silu)

theorem k0_pay1_apply (x : Vec Ideal S24x1024 .f32) (w : Vec Ideal S1x1024x1536 .f32) (b : Vec Ideal S1x1x1536 .f32) (r : Fin 24) (n : Fin 1536) :
    k0_pay1 x w b (ix3 0 r n) = Lay.inner (fun k => silu (x (ix2 r k))) (fun k => w (ix3 0 k n)) + b (ix3 0 0 n) := by
  pointwise [k0_pay1]
  rfl

section
variable {α ι : Type}
theorem fold_miss (v : ι → α) (P : ι → Prop) [DecidablePred P] (L : List ι) (h : ∀ n ∈ L, ¬ P n) (a : α) :
    L.foldl (fun a n => if P n then v n else a) a = a := by
  induction L generalizing a with
  | nil => rfl
  | cons n L ih => rw [List.foldl_cons, if_neg (h n List.mem_cons_self)]; exact ih (fun k hk => h k (List.mem_cons_of_mem _ hk)) a
theorem fold_hit (v : ι → α) (P : ι → Prop) [DecidablePred P] (L : List ι) (x : α) (h : ∀ n ∈ L, P n → v n = x) (a : α) (ha : a = x ∨ ∃ n ∈ L, P n) :
    L.foldl (fun a n => if P n then v n else a) a = x := by
  induction L generalizing a with
  | nil => rcases ha with rfl | ⟨n, hn, _⟩; rfl; cases hn
  | cons n L ih =>
    rw [List.foldl_cons]
    refine ih (fun k hk => h k (List.mem_cons_of_mem _ hk)) _ ?_
    by_cases hp : P n
    · rw [if_pos hp]; exact .inl (h n List.mem_cons_self hp)
    · rw [if_neg hp]
      rcases ha with e | ⟨k, hk, hP⟩
      · exact .inl e
      · rcases List.mem_cons.1 hk with rfl | hk
        · exact absurd hP hp
        · exact .inr ⟨k, hk, hP⟩
end

theorem land1 (i : Fin 16) (k : Fin 1024) (p : IVec S1 32) (r : Fin 24) (j : Fin 1024) :
    (scatter_S24x1024_S1_S16x1024_01_n_0_0).resultIdx? (ix2 i k) p = some (ix2 r j) ↔ (p (ix1 0)).toInt + (i.val : Int) = r.val ∧ k = j := by
  refine (Routing.resultIdx?_ix2 (R := 24) (C := 1024) scatter_S24x1024_S1_S16x1024_01_n_0_0 (ix2 i k) p r j).trans ?_
  have h0 : (scatter_S24x1024_S1_S16x1024_01_n_0_0).start (ix2 i k) p 0 = (p (ix1 0)).toInt :=
    congrArg (fun q => (p q).toInt) (funext fun a => by fin_cases a; exact Subsingleton.elim (α := Fin 1) _ _)
  have h1 : (scatter_S24x1024_S1_S16x1024_01_n_0_0).start (ix2 i k) p 1 = 0 := rfl
  have h2 : (scatter_S24x1024_S1_S16x1024_01_n_0_0).window (ix2 i k) 0 = i.val := rfl
  have h3 : (scatter_S24x1024_S1_S16x1024_01_n_0_0).window (ix2 i k) 1 = k.val := rfl
  rw [h0, h1, h2, h3]
  exact and_congr Iff.rfl ⟨fun h => Fin.ext (by omega), fun h => by subst h; omega⟩
theorem land2 (k : Fin 1024) (p : IVec S1 32) (r : Fin 24) (j : Fin 1024) :
    (scatter_S24x1024_S1_S1024_0_0_0_0).resultIdx? (ix1 k) p = some (ix2 r j) ↔ (p (ix1 0)).toInt = r.val ∧ k = j := by
  refine (Routing.resultIdx?_ix2 (R := 24) (C := 1024) scatter_S24x1024_S1_S1024_0_0_0_0 (ix1 k) p r j).trans ?_
  have h0 : (scatter_S24x1024_S1_S1024_0_0_0_0).start (ix1 k) p 0 = (p (ix1 0)).toInt :=
    congrArg (fun q => (p q).toInt) (funext fun a => by fin_cases a; exact Subsingleton.elim (α := Fin 1) _ _)
  have h1 : (scatter_S24x1024_S1_S1024_0_0_0_0).start (ix1 k) p 1 = 0 := rfl
  have h2 : (scatter_S24x1024_S1_S1024_0_0_0_0).window (ix1 k) 0 = 0 := rfl
  have h3 : (scatter_S24x1024_S1_S1024_0_0_0_0).window (ix1 k) 1 = k.val := rfl
  rw [h0, h1, h2, h3]
  exact and_congr (by omega) ⟨fun h => Fin.ext (by omega), fun h => by subst h; omega⟩

/-- The sixteen vectors written over rows of zeros, then the one vector written at row sixteen: what each of the first seventeen rows holds. -/
theorem written (x0 : FVec Ideal S24x1024 .f32) (x : FVec Ideal S16x1024 .f32) (y : FVec Ideal S1024 .f32) (p q : IVec S1 32) (hp : (p (ix1 0)).toInt = 0) (hq : (q (ix1 0)).toInt = 16)
    (r : Fin 24) (k : Fin 1024) (hr : r.val < 17) :
    Host.scatter scatter_S24x1024_S1_S1024_0_0_0_0 (fun _ b => b) (Host.scatter scatter_S24x1024_S1_S16x1024_01_n_0_0 (fun _ b => b) x0 p x) q y (ix2 r k)
      = if h : r.val < 16 then x (ix2 ⟨r.val, h⟩ k) else y (ix1 k) := by
  rw [Routing.scatter_at]
  by_cases h : r.val < 16
  · rw [dif_pos h, fold_miss (fun n => y (S1024.rowMajor.symm n)) (fun n => (scatter_S24x1024_S1_S1024_0_0_0_0).resultIdx? (S1024.rowMajor.symm n) q = some (ix2 r k)), Routing.scatter_at]
    · refine fold_hit (fun n => x (S16x1024.rowMajor.symm n)) (fun n => (scatter_S24x1024_S1_S16x1024_01_n_0_0).resultIdx? (S16x1024.rowMajor.symm n) p = some (ix2 r k)) _ _ (fun n _ hn => ?_) _
        (.inr ⟨S16x1024.rowMajor (ix2 ⟨r.val, h⟩ k), List.mem_finRange _, ?_⟩)
      · revert hn
        generalize S16x1024.rowMajor.symm n = z
        obtain ⟨i, e, rfl⟩ : ∃ (i : Fin 16) (e : Fin 1024), z = ix2 i e := ⟨z 0, z 1, funext fun a => by fin_cases a <;> rfl⟩
        intro hn
        obtain ⟨h1, h2⟩ := (land1 i e p r k).1 hn
        have h3 : i = ⟨r.val, h⟩ := Fin.ext (by show i.val = r.val; omega)
        show x (ix2 i e) = x (ix2 ⟨r.val, h⟩ k)
        rw [h2, h3]
      · show (scatter_S24x1024_S1_S16x1024_01_n_0_0).resultIdx? (S16x1024.rowMajor.symm (S16x1024.rowMajor (ix2 ⟨r.val, h⟩ k))) p = some (ix2 r k)
        rw [Equiv.symm_apply_apply]
        exact (land1 _ _ p r k).2 ⟨by show (p (ix1 0)).toInt + (r.val : Int) = r.val; omega, rfl⟩
    · intro n _
      generalize S1024.rowMajor.symm n = z
      obtain ⟨e, rfl⟩ : ∃ (e : Fin 1024), z = ix1 e := ⟨z 0, funext fun a => by fin_cases a; rfl⟩
      intro hn
      have := ((land2 e q r k).1 hn).1
      omega
  · rw [dif_neg h]
    refine fold_hit (fun n => y (S1024.rowMajor.symm n)) (fun n => (scatter_S24x1024_S1_S1024_0_0_0_0).resultIdx? (S1024.rowMajor.symm n) q = some (ix2 r k)) _ _ (fun n _ hn => ?_) _
        (.inr ⟨S1024.rowMajor (ix1 k), List.mem_finRange _, ?_⟩)
    · revert hn
      generalize S1024.rowMajor.symm n = z
      obtain ⟨e, rfl⟩ : ∃ (e : Fin 1024), z = ix1 e := ⟨z 0, funext fun a => by fin_cases a; rfl⟩
      intro hn
      show y (ix1 e) = y (ix1 k)
      rw [((land2 e q r k).1 hn).2]
    · show (scatter_S24x1024_S1_S1024_0_0_0_0).resultIdx? (S1024.rowMajor.symm (S1024.rowMajor (ix1 k))) q = some (ix2 r k)
      rw [Equiv.symm_apply_apply]
      exact (land2 _ q r k).2 ⟨by omega, rfl⟩

variable (m : (ℓ : Loc nD τ sig) → Buf (Elt Ideal) ℓ)
theorem rows_eq (c : Dev nD) (r : Fin 24) (k : Fin 1024) (hr : r.val < 17) : (V m c main_v4 : FVec Ideal S24x1024 .f32) (ix2 r k)
    = if h : r.val < 16 then (m ((c.tc : Thread nD τ).loc main_arg0) : FVec Ideal S16x1024 .f32) (ix2 ⟨r.val, h⟩ k) else (m ((c.tc : Thread nD τ).loc main_arg1) : FVec Ideal S1024 .f32) (ix1 k) := by
  unfold V
  simp only [hostOps0]
  after_results_simp
  exact written _ _ _ _ _ rfl rfl r k hr
theorem bias_eq (c : Dev nD) (l : Fin 4) (n : Fin 6144) : (V m c main_v5 : FVec Ideal S4x1x6144 .f32) (ix3 l 0 n) = (m ((c.tc : Thread nD τ).loc main_arg3) : FVec Ideal S4x6144 .f32) (ix2 l n) := by
  unfold V
  simp only [hostOps0]
  after_results_simp
  pointwise
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)
theorem lt16 (t : Fin cfg0.N) : t.val < 16 := by have h : cfg0.N = 16 := N_0; omega
/-- The layer of a grid point. -/
abbrev lay (t : Fin cfg0.N) : Fin 4 := ⟨t.val / 4, by have := lt16 t; omega⟩
/-- The column of a block's column. -/
abbrev col (t : Fin cfg0.N) (n : Fin 1536) : Fin 6144 := ⟨t.val % 4 * 1536 + n.val, by omega⟩
theorem b0 (c : Dev nD) (t : Fin cfg0.N) (r : Fin 24) (k : Fin 1024) : (iblk m c 0 t : Vec Ideal S24x1024 .f32) (ix2 r k) = (V m c main_v4 : FVec Ideal S24x1024 .f32) (ix2 r k) := by
  blk_ext [iblk, idx t]
theorem b1 (c : Dev nD) (t : Fin cfg0.N) (k : Fin 1024) (n : Fin 1536) : (iblk m c 1 t : Vec Ideal S1x1024x1536 .f32) (ix3 0 k n) = (m ((c.tc : Thread nD τ).loc main_arg2) : FVec Ideal S4x1024x6144 .f32) (ix3 (lay t) k (col t n)) := by
  blk_ext [iblk, V, idx t]
theorem b2 (c : Dev nD) (t : Fin cfg0.N) (n : Fin 1536) : (iblk m c 2 t : Vec Ideal S1x1x1536 .f32) (ix3 0 0 n) = (m ((c.tc : Thread nD τ).loc main_arg3) : FVec Ideal S4x6144 .f32) (ix2 (lay t) (col t n)) := by
  refine Eq.trans (b := (V m c main_v5 : FVec Ideal S4x1x6144 .f32) (ix3 (lay t) 0 (col t n))) ?_ (bias_eq m c _ _)
  blk_ext [iblk, idx t]
theorem b3 (t : Fin cfg0.N) (r : Fin 24) (n : Fin 1536) : ((cfg0.win 3).blk t).view.emb (ix3 0 r n : S1x24x1536.Idx) = (ix3 (lay t) r (col t n) : S4x24x6144.Idx) := by
  blk_ext [idx t]

/-- The kernel's result array, entry by entry. -/
def result (c : Dev nD) : S4x24x6144.Idx → Elt Ideal .f32 := fun y =>
  Lay.inner (fun k : Fin 1024 => silu ((V m c main_v4 : FVec Ideal S24x1024 .f32) (ix2 (y 1) k))) (fun k => (m ((c.tc : Thread nD τ).loc main_arg2) : FVec Ideal S4x1024x6144 .f32) (ix3 (y 0) k (y 2)))
    + (m ((c.tc : Thread nD τ).loc main_arg3) : FVec Ideal S4x6144 .f32) (ix2 (y 0) (y 2))
theorem final (c : Dev nD) : (dats m 0 c).arrAt 3 cfg0.N = result m c := by
  refine (dats m 0 c).arrAt_eq_of_covers 3 (result m c) (by decide +kernel) fun t _ y => ?_
  blk_simp
  rw [after0_3]
  obtain ⟨r, n, rfl⟩ : ∃ (r : Fin 24) (n : Fin 1536), y = ix3 0 r n :=
    ⟨y 1, y 2, funext fun i => by fin_cases i; exact Subsingleton.elim (α := Fin 1) _ _; rfl; rfl⟩
  unfold out0_3
  rw [View.canon_unit_zero (by decide), View.ld_unit_zero (by decide), View.ld_unit_zero (by decide), View.ld_unit_zero (by decide)]
  refine (k0_pay1_apply _ _ _ r n).trans (Eq.trans ?_ (congrArg (result m c) (b3 t r n).symm))
  exact congr (congrArg HAdd.hAdd (congr (congrArg Lay.inner (funext fun k => congrArg silu (b0 m c t r k))) (funext fun k => b1 m c t k n))) (b2 m c t n)
/-- The kernel's result array on the rows that hold a conditioning vector. -/
theorem result_eq (c : Dev nD) (l : Fin 4) (r : Fin 24) (n : Fin 6144) (hr : r.val < 17) : result m c (ix3 l r n)
    = Reference7Ideal.Value.entry (m ((c.tc : Thread nD τ).loc main_arg0)) (m ((c.tc : Thread nD τ).loc main_arg1)) (m ((c.tc : Thread nD τ).loc main_arg2)) (m ((c.tc : Thread nD τ).loc main_arg3)) l r n := by
  unfold result Reference7Ideal.Value.entry
  exact congrFun (congrArg HAdd.hAdd (congrFun (congrArg Lay.inner (funext fun k => congrArg silu (rows_eq m c r k hr))) _)) _
end Cert.Kernel7Ideal.Value
end
-- ==== Proof.Calls2.lean ====
/- The modulation's claims: the kernel and its reference end with the same rows, wherever a row holds a conditioning vector. -/
module
public import proofs.«01_k».proof.Defs
public import proofs.«01_k».proof.Proof.Gen.Reference7Ideal.Run
public import proofs.«01_k».proof.Proof.Gen.Kernel7Ideal.Value
public import proofs.«01_k».proof.Proof.Gen.On_rows_given
public import proofs.«01_k».proof.Proof.Mod
public import Idealize.ShloMosaic.Lib.Claim
public import Idealize.ShloMosaic.Adequacy
public import Idealize.ShloMosaic.Init
@[expose] public section
set_option maxRecDepth 16384
noncomputable section
namespace Cert.Proof
open Idealize.ShloMosaic Idealize.SL.Sem Idealize.ShloMosaic.Tactic

/-- The modulation's reference leaves its arguments unchanged, and it has no semaphore. -/
theorem frame_reference7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

/-- An entry named is in one of the first seventeen rows. -/
theorem row_given (x0 : FVec Ideal Cert.On_rows_given.S16x1024 .f32) (x1 : FVec Ideal Cert.On_rows_given.S1024 .f32) (x2 : FVec Ideal Cert.On_rows_given.S4x1024x6144 .f32) (x3 : FVec Ideal Cert.On_rows_given.S4x6144 .f32)
    (l : Fin 4) (r : Fin 24) (n : Fin 6144) (h : (haveI := Cert.On_rows_given.Gen.facts; Cert.On_rows_given.fn (F := Ideal) x0 x1 x2 x3 (ix3 l r n)) = 1#1) : r.val < 17 :=
  (by decide +kernel : ∀ r : Fin 24, Scalar.cmpi CmpIPredicate.slt (BitVec.ofNat 32 r.val) 17#32 = 1#1 → r.val < 17) r h

/-- The modulation: the kernel and the reference end with the same rows, at every row that holds a conditioning vector. -/
theorem algebraic7 : Cert.algebraic_Kernel7Ideal_Reference7Ideal_on_rows_given (hKernel7Ideal := Cert.Kernel7Ideal.Gen.facts) (hReference7Ideal := Cert.Reference7Ideal.Gen.facts)
    (hOn_rows_given := Cert.On_rows_given.Gen.facts) := fun m g m' g' hpre hagree => by
  refine ⟨fun c => Cert.Kernel7Ideal.Value.result m c, ?_, ?_⟩
  · refine (θ_run _ _ _).mono (fun r h c => ⟨fun i hi => ?_, (h c).2⟩) (Cert.Kernel7Ideal.Value.run_blocks m g)
    exact congrFun ((h c).1.trans (Cert.Kernel7Ideal.Value.final m c)) i
  · refine (θ_run _ _ _).mono (fun r h c => ⟨fun i hi => ?_, (h c).2⟩) (Cert.Reference7Ideal.Value.run m' g')
    obtain ⟨l, k, n, rfl⟩ : ∃ (l : Fin 4) (k : Fin 24) (n : Fin 6144), i = ix3 l k n := ⟨i 0, i 1, i 2, funext fun i => by fin_cases i <;> rfl⟩
    have hk := row_given _ _ _ _ l k n hi
    obtain ⟨a0, a1, a2, a3⟩ := hagree c
    refine (congrFun (h c).1 (ix3 l k n)).trans ((Cert.Reference7Ideal.Value.result_apply m' c l k n hk).trans ?_)
    rw [a0, a1, a2, a3]
    exact (Cert.Kernel7Ideal.Value.result_eq m c l k n hk).symm
end Cert.Proof
end
-- ==== Proof.Filt.lean ====
/- The long filters: the kernel's two result arrays are the reference's. -/
module
public import proofs.«01_k».proof.Proof.Gen.Kernel8Ideal.Value
public import proofs.«01_k».proof.Proof.Gen.Reference8Ideal.Run
public import proofs.«01_k».proof.Proof.Lay
public import Idealize.ShloMosaic.Lib.Pipeline.ValueKit
@[expose] public section
set_option maxRecDepth 16384
noncomputable section
namespace Cert.Filt
open Idealize.ShloMosaic
/-- The absolute value. -/
def absv (x : EReal) : EReal := max x (-x)
/-- One entry of a hidden layer: the sine of the scaled affine image of a row. -/
def hidden {n : ℕ} (x : Fin n → EReal) (w : Fin n → Fin 64 → EReal) (b fr : Fin 64 → EReal) (j : Fin 64) : EReal :=
  Ideal.sin (fr j * (Lay.inner x (fun k => w k j) + b j))
/-- One entry of a decaying filter. -/
def decayed (h w : Fin 64 → EReal) (t d : EReal) : EReal := Lay.inner h w * Ideal.exp (-t * absv d)
/-- One entry of the filters, from a row of features. -/
def entry {n : ℕ} (x : Fin n → EReal) (w1 : Fin n → Fin 64 → EReal) (w2 w3 : Fin 64 → Fin 64 → EReal) (b1 b2 b3 fr w4 : Fin 64 → EReal) (t d : EReal) : EReal :=
  decayed (hidden (hidden (hidden x w1 b1 fr) w2 b2 fr) w3 b3 fr) w4 t d
end Cert.Filt
namespace Cert.Reference8Ideal.Value
open Cert.Reference8Ideal Cert.Reference8Ideal.Gen
open Idealize.ShloMosaic Idealize.ShloMosaic.TcCoe Idealize.SL.Sem Idealize.ShloMosaic.Tactic
/-- The times, from zero to one. -/
def times : FVec Ideal S2048x1 .f32 := (broadcastInDim S2048x1 ![0] bcast_S2048_S2048x1_0 (concatenate S2048 0 [⟨S2047, (addf (mulf (broadcastInDim S2047 ![0] bcast_S1_S2047_0 (shapeCast _ (id (constant S_ .f32 0x00000000#32)) shapeCasts_S_S1)) (subf (broadcastInDim S2047 ![] bcast_S_S2047 (constant S_ .f32 0x3F800000#32)) (Host.divf (sitofp .f32 (iotaInDim S2047 32 0)) (broadcastInDim S2047 ![] bcast_S_S2047 (constant S_ .f32 0x44FFE000#32))))) (mulf (broadcastInDim S2047 ![0] bcast_S1_S2047_0 (shapeCast _ (id (constant S_ .f32 0x3F800000#32)) shapeCasts_S_S1)) (Host.divf (sitofp .f32 (iotaInDim S2047 32 0)) (broadcastInDim S2047 ![] bcast_S_S2047 (constant S_ .f32 0x44FFE000#32)))))⟩, ⟨S1, (broadcastInDim S1 ![] bcast_S_S1 (id (constant S_ .f32 0x3F800000#32)))⟩] concatenates_S2047_S1_S2048_d0))
/-- The angles, a row of sixteen for each time. -/
def angles : FVec Ideal S2048x16 .f32 := (mulf (broadcastInDim S2048x16 ![0, 1] bcast_S2048x1_S2048x16_0_1 (mulf (broadcastInDim S2048x1 ![] bcast_S_S2048x1 (constant S_ .f32 0x3B490FDB#32)) (broadcastInDim S2048x1 ![0] bcast_S2048_S2048x1_0 (sitofp .f32 (iotaInDim S2048 32 0))))) (broadcastInDim S2048x16 ![0, 1] bcast_S1x16_S2048x16_0_1 (broadcastInDim S1x16 ![1] bcast_S16_S1x16_1 (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0))))
/-- The features: the time, the cosines, and the sines with their signs turned. -/
def feats : FVec Ideal S2048x33 .f32 := concatenate S2048x33 1 [⟨S2048x1, times⟩, ⟨S2048x16, ((Host.cos angles) : (⟨S2048x16, .f32⟩ : BufTy).Contents (Elt Ideal))⟩, ⟨S2048x16, ((Host.negf (Host.sin angles)) : (⟨S2048x16, .f32⟩ : BufTy).Contents (Elt Ideal))⟩] concatenates_S2048x1_S2048x16_S2048x16_S2048x33_d1
/-- The first hidden layer. -/
def hid1 (z : FVec Ideal S2048x33 .f32) (w : FVec Ideal S33x64 .f32) (b fr : FVec Ideal S64 .f32) : FVec Ideal S2048x64 .f32 :=
  Host.sin (mulf (broadcastInDim S2048x64 ![0, 1] bcast_S1x64_S2048x64_0_1 (broadcastInDim S1x64 ![1] bcast_S64_S1x64_1 fr)) (addf (Host.dotGeneral dot_S2048x33_S33x64_S2048x64_1_0_0_1_n_n none z w) (broadcastInDim S2048x64 ![0, 1] bcast_S1x64_S2048x64_0_1 (broadcastInDim S1x64 ![1] bcast_S64_S1x64_1 b))))
/-- A later hidden layer. -/
def hid2 (z : FVec Ideal S2048x64 .f32) (w : FVec Ideal S64x64 .f32) (b fr : FVec Ideal S64 .f32) : FVec Ideal S2048x64 .f32 :=
  Host.sin (mulf (broadcastInDim S2048x64 ![0, 1] bcast_S1x64_S2048x64_0_1 (broadcastInDim S1x64 ![1] bcast_S64_S1x64_1 fr)) (addf (Host.dotGeneral dot_S2048x64_S64x64_S2048x64_1_0_0_1_n_n none z w) (broadcastInDim S2048x64 ![0, 1] bcast_S1x64_S2048x64_0_1 (broadcastInDim S1x64 ![1] bcast_S64_S1x64_1 b))))
/-- The four decaying filters side by side. -/
def filters (z : FVec Ideal S2048x64 .f32) (w : FVec Ideal S64x2048 .f32) (t : FVec Ideal S2048x1 .f32) (d : FVec Ideal S2048 .f32) : FVec Ideal S2048x2048 .f32 :=
  mulf (Host.dotGeneral dot_S2048x64_S64x2048_S2048x2048_1_0_0_1_n_n none z w) (Host.exp (mulf (broadcastInDim S2048x2048 ![0, 1] bcast_S2048x1_S2048x2048_0_1 (Host.negf t)) (broadcastInDim S2048x2048 ![0, 1] bcast_S1x2048_S2048x2048_0_1 (broadcastInDim S1x2048 ![1] bcast_S2048_S1x2048_1 (Host.absf d)))))
/-- The forward filters. -/
def fwd (f : FVec Ideal S2048x2048 .f32) : FVec Ideal S2x2048x512 .f32 :=
  shapeCast _ (extractStridedSlice S2x1x2048x512 ![0, 0, 0, 0] (transpose S2x2x2048x512 [1, 2, 0, 3] (shapeCast _ f shapeCasts_S2048x2048_S2048x2x2x512) transposes_S2048x2x2x512_S2x2x2048x512_1_2_0_3) slices_S2x2x2048x512_S2x1x2048x512_0_0_0_0) shapeCasts_S2x1x2048x512_S2x2048x512
/-- The backward filters. -/
def bwd (f : FVec Ideal S2048x2048 .f32) : FVec Ideal S2x2048x512 .f32 :=
  shapeCast _ (extractStridedSlice S2x1x2048x512 ![0, 1, 0, 0] (transpose S2x2x2048x512 [1, 2, 0, 3] (shapeCast _ f shapeCasts_S2048x2048_S2048x2x2x512) transposes_S2048x2x2x512_S2x2x2048x512_1_2_0_3) slices_S2x2x2048x512_S2x1x2048x512_0_1_0_0) shapeCasts_S2x1x2048x512_S2x2048x512
/-- The filters as a function of the weights. -/
def all (w1 : FVec Ideal S33x64 .f32) (b1 : FVec Ideal S64 .f32) (w2 : FVec Ideal S64x64 .f32) (b2 : FVec Ideal S64 .f32) (w3 : FVec Ideal S64x64 .f32) (b3 : FVec Ideal S64 .f32) (w4 : FVec Ideal S64x2048 .f32) (fr : FVec Ideal S64 .f32) (d : FVec Ideal S2048 .f32) : FVec Ideal S2048x2048 .f32 :=
  filters (hid2 (hid2 (hid1 feats w1 b1 fr) w2 b2 fr) w3 b3 fr) w4 times d
theorem hid1_apply (z : FVec Ideal S2048x33 .f32) (w : FVec Ideal S33x64 .f32) (b fr : FVec Ideal S64 .f32) (r : Fin 2048) (j : Fin 64) :
    hid1 z w b fr (ix2 r j) = Filt.hidden (fun k => z (ix2 r k)) (fun k j => w (ix2 k j)) (fun j => b (ix1 j)) (fun j => fr (ix1 j)) j := by
  pointwise [hid1]
  rfl
theorem hid2_apply (z : FVec Ideal S2048x64 .f32) (w : FVec Ideal S64x64 .f32) (b fr : FVec Ideal S64 .f32) (r : Fin 2048) (j : Fin 64) :
    hid2 z w b fr (ix2 r j) = Filt.hidden (fun k => z (ix2 r k)) (fun k j => w (ix2 k j)) (fun j => b (ix1 j)) (fun j => fr (ix1 j)) j := by
  pointwise [hid2]
  rfl
theorem filters_apply (z : FVec Ideal S2048x64 .f32) (w : FVec Ideal S64x2048 .f32) (t : FVec Ideal S2048x1 .f32) (d : FVec Ideal S2048 .f32) (r n : Fin 2048) :
    filters z w t d (ix2 r n) = Filt.decayed (fun k => z (ix2 r k)) (fun k => w (ix2 k n)) (t (ix2 r 0)) (d (ix1 n)) := by
  pointwise [filters]
  rfl
theorem feats_zero (r : Fin 2048) : feats (ix2 r 0) = times (ix2 r 0) := by
  unfold feats
  generalize times = t
  generalize angles = a
  pointwise
theorem fwd_apply (f : FVec Ideal S2048x2048 .f32) (o : Fin 2) (r : Fin 2048) (e : Fin 512) : fwd f (ix3 o r e) = f (ix2 r ⟨o.val * 1024 + e.val, by omega⟩) := by
  pointwise [fwd]
theorem bwd_apply (f : FVec Ideal S2048x2048 .f32) (o : Fin 2) (r : Fin 2048) (e : Fin 512) : bwd f (ix3 o r e) = f (ix2 r ⟨o.val * 1024 + 512 + e.val, by omega⟩) := by
  pointwise [bwd]
theorem all_apply (w1 : FVec Ideal S33x64 .f32) (b1 : FVec Ideal S64 .f32) (w2 : FVec Ideal S64x64 .f32) (b2 : FVec Ideal S64 .f32) (w3 : FVec Ideal S64x64 .f32) (b3 : FVec Ideal S64 .f32) (w4 : FVec Ideal S64x2048 .f32) (fr : FVec Ideal S64 .f32) (d : FVec Ideal S2048 .f32) (r n : Fin 2048) :
    all w1 b1 w2 b2 w3 b3 w4 fr d (ix2 r n) = Filt.entry (fun k => feats (ix2 r k)) (fun k j => w1 (ix2 k j)) (fun k j => w2 (ix2 k j)) (fun k j => w3 (ix2 k j))
      (fun j => b1 (ix1 j)) (fun j => b2 (ix1 j)) (fun j => b3 (ix1 j)) (fun j => fr (ix1 j)) (fun k => w4 (ix2 k n)) (feats (ix2 r 0)) (d (ix1 n)) := by
  unfold all Filt.entry
  rw [filters_apply, feats_zero]
  simp only [hid2_apply, hid1_apply]
variable (m : (ℓ : Loc nD τ sig) → Buf (Elt Ideal) ℓ)
/-- The filters of the launch's arguments. -/
def Fs (c : Dev nD) : FVec Ideal S2048x2048 .f32 := all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
theorem sums_eq (c : Dev nD) : (res_main_v55 m c : FVec Ideal S2x2048x512 .bf16) = truncf .bf16 (addf (fwd (Fs m c)) (bwd (Fs m c))) bitsLt_bf16_f32 := rfl
theorem diffs_eq (c : Dev nD) : (res_main_v57 m c : FVec Ideal S2x2048x512 .bf16) = truncf .bf16 (subf (bwd (Fs m c)) (fwd (Fs m c))) bitsLt_bf16_f32 := rfl
end Cert.Reference8Ideal.Value
namespace Cert.Kernel8Ideal.Value
open Cert.Kernel8Ideal Cert.Kernel8Ideal.Gen
open Idealize.ShloMosaic Idealize.ShloMosaic.TcCoe Idealize.SL.Sem Idealize.ShloMosaic.Tactic
open Idealize.ShloMosaic.Pipeline (Dat)

theorem k0_pay12_apply (x : Vec Ideal S512x128 .f32) (fr : Vec Ideal S1x64 .f32) (w1 : Vec Ideal S128x64 .f32) (b1 : Vec Ideal S1x64 .f32) (w2 : Vec Ideal S64x64 .f32) (b2 : Vec Ideal S1x64 .f32) (w3 : Vec Ideal S64x64 .f32) (b3 : Vec Ideal S1x64 .f32) (w4 : Vec Ideal S64x2048 .f32)
    (r : Fin 512) (n : Fin 2048) : k0_pay12 x fr w1 b1 w2 b2 w3 b3 w4 (ix2 r n)
      = Lay.inner (Filt.hidden (Filt.hidden (Filt.hidden (fun k => x (ix2 r k)) (fun k j => w1 (ix2 k j)) (fun j => b1 (ix2 0 j)) (fun j => fr (ix2 0 j))) (fun k j => w2 (ix2 k j)) (fun j => b2 (ix2 0 j)) (fun j => fr (ix2 0 j))) (fun k j => w3 (ix2 k j)) (fun j => b3 (ix2 0 j)) (fun j => fr (ix2 0 j))) (fun k => w4 (ix2 k n)) := by
  pointwise [k0_pay12, k0_pay10]
  rfl
theorem k0_pay11_apply (x : Vec Ideal S512x128 .f32) (r : Fin 512) : k0_pay11 x (ix2 r 0) = x (ix2 r 0) := by
  pointwise [k0_pay11, k0_pay10]
theorem k0_pay1_apply (t : FVec Ideal S512x1 .f32) (p : FVec Ideal S512x2048 .f32) (d : Vec Ideal S1x2048 .f32) (r : Fin 512) (n : Fin 2048) :
    k0_pay1 t p k0_pay13 d (ix2 r n) = p (ix2 r n) * Ideal.exp (-(t (ix2 r 0)) * Filt.absv (d (ix2 0 n))) := by
  pointwise [k0_pay1, k0_pay13]
  rw [zero_sub]
  rfl
section
variable (t : FVec Ideal S512x1 .f32) (p : FVec Ideal S512x2048 .f32) (z : FVec Ideal S512x1 .f32) (d : Vec Ideal S1x2048 .f32) (r e : Fin 512)
theorem k0_pay4_apply : k0_pay4 t p z d (ix3 0 r e) = k0_pay1 t p z d (ix2 r ⟨e.val, by omega⟩) + k0_pay1 t p z d (ix2 r ⟨512 + e.val, by omega⟩) := by
  pointwise [k0_pay4, k0_pay2, k0_pay3]
theorem k0_pay5_apply : k0_pay5 t p z d (ix3 0 r e) = k0_pay1 t p z d (ix2 r ⟨512 + e.val, by omega⟩) - k0_pay1 t p z d (ix2 r ⟨e.val, by omega⟩) := by
  pointwise [k0_pay5, k0_pay2, k0_pay3]
theorem k0_pay8_apply : k0_pay8 t p z d (ix3 0 r e) = k0_pay1 t p z d (ix2 r ⟨1024 + e.val, by omega⟩) + k0_pay1 t p z d (ix2 r ⟨1536 + e.val, by omega⟩) := by
  pointwise [k0_pay8, k0_pay6, k0_pay7]
theorem k0_pay9_apply : k0_pay9 t p z d (ix3 0 r e) = k0_pay1 t p z d (ix2 r ⟨1536 + e.val, by omega⟩) - k0_pay1 t p z d (ix2 r ⟨1024 + e.val, by omega⟩) := by
  pointwise [k0_pay9, k0_pay6, k0_pay7]
end
/-- The times' last entry, joined to the others. -/
def joinT {F : FTy → Type} (a : FVec F S2047 .f32) (b : FVec F S1 .f32) : FVec F S2048 .f32 := concatenate S2048 0 [⟨S2047, a⟩, ⟨S1, b⟩] concatenates_S2047_S1_S2048_d0
/-- The bands' last entry, joined to the others. -/
def joinB {F : FTy → Type} (a : FVec F S15 .f32) (b : FVec F S1 .f32) : FVec F S16 .f32 := concatenate S16 0 [⟨S15, a⟩, ⟨S1, b⟩] concatenates_S15_S1_S16_d0
/-- The features, joined. -/
def joinF {F : FTy → Type} (a : FVec F S2048x1 .f32) (b c : FVec F S2048x16 .f32) : FVec F S2048x33 .f32 := concatenate S2048x33 1 [⟨S2048x1, a⟩, ⟨S2048x16, b⟩, ⟨S2048x16, c⟩] concatenates_S2048x1_S2048x16_S2048x16_S2048x33_d1
theorem ops1 {F : FTy → Type} [FloatOps F] : (hostOps0_1 : List (HloOp τ sig (Elt F))) =
  [ StableHlo.TRef.unary (.of main_cst : StableHlo.TRef sig ⟨S_, .f32⟩) (.of main_call0_v0 : StableHlo.TRef sig ⟨S_, .f32⟩) id,
    StableHlo.TRef.unary (.of main_cst_0 : StableHlo.TRef sig ⟨S_, .f32⟩) (.of main_call0_v1 : StableHlo.TRef sig ⟨S_, .f32⟩) id,
    StableHlo.TRef.binary (.of main_call0_v1 : StableHlo.TRef sig ⟨S_, .f32⟩) (.of main_call0_v0 : StableHlo.TRef sig ⟨S_, .f32⟩) (.of main_call0_v2 : StableHlo.TRef sig ⟨S_, .f32⟩) subf,
    StableHlo.TRef.nullary (.of main_call0_cst : StableHlo.TRef sig ⟨S_, .f32⟩) (constant S_ .f32 0x44FFE000#32),
    StableHlo.TRef.binary (.of main_call0_v2 : StableHlo.TRef sig ⟨S_, .f32⟩) (.of main_call0_cst : StableHlo.TRef sig ⟨S_, .f32⟩) (.of main_call0_v3 : StableHlo.TRef sig ⟨S_, .f32⟩) Host.divf,
    StableHlo.TRef.nullary (.of main_call0_v4 : StableHlo.TRef sig ⟨S2047, .f32⟩) (sitofp .f32 (iotaInDim S2047 32 0)),
    StableHlo.TRef.nullary (.of main_call0_cst_0 : StableHlo.TRef sig ⟨S_, .f32⟩) (constant S_ .f32 0x44FFE000#32),
    StableHlo.TRef.unary (.of main_call0_cst_0 : StableHlo.TRef sig ⟨S_, .f32⟩) (.of main_call0_v5 : StableHlo.TRef sig ⟨S2047, .f32⟩) (broadcastInDim S2047 ![] bcast_S_S2047),
    StableHlo.TRef.binary (.of main_call0_v4 : StableHlo.TRef sig ⟨S2047, .f32⟩) (.of main_call0_v5 : StableHlo.TRef sig ⟨S2047, .f32⟩) (.of main_call0_v6 : StableHlo.TRef sig ⟨S2047, .f32⟩) Host.divf,
    StableHlo.TRef.reshape (.of main_call0_v0 : StableHlo.TRef sig ⟨S_, .f32⟩) (.of main_call0_v7 : StableHlo.TRef sig ⟨S1, .f32⟩) (rfl : (.f32 : EltTy) = .f32) shapeCasts_S_S1,
    StableHlo.TRef.nullary (.of main_call0_cst_1 : StableHlo.TRef sig ⟨S_, .f32⟩) (constant S_ .f32 0x3F800000#32),
    StableHlo.TRef.unary (.of main_call0_cst_1 : StableHlo.TRef sig ⟨S_, .f32⟩) (.of main_call0_v8 : StableHlo.TRef sig ⟨S2047, .f32⟩) (broadcastInDim S2047 ![] bcast_S_S2047),
    StableHlo.TRef.binary (.of main_call0_v8 : StableHlo.TRef sig ⟨S2047, .f32⟩) (.of main_call0_v6 : StableHlo.TRef sig ⟨S2047, .f32⟩) (.of main_call0_v9 : StableHlo.TRef sig ⟨S2047, .f32⟩) subf,
    StableHlo.TRef.unary (.of main_call0_v7 : StableHlo.TRef sig ⟨S1, .f32⟩) (.of main_call0_v10 : StableHlo.TRef sig ⟨S2047, .f32⟩) (broadcastInDim S2047 ![0] bcast_S1_S2047_0),
    StableHlo.TRef.binary (.of main_call0_v10 : StableHlo.TRef sig ⟨S2047, .f32⟩) (.of main_call0_v9 : StableHlo.TRef sig ⟨S2047, .f32⟩) (.of main_call0_v11 : StableHlo.TRef sig ⟨S2047, .f32⟩) mulf,
    StableHlo.TRef.reshape (.of main_call0_v1 : StableHlo.TRef sig ⟨S_, .f32⟩) (.of main_call0_v12 : StableHlo.TRef sig ⟨S1, .f32⟩) (rfl : (.f32 : EltTy) = .f32) shapeCasts_S_S1,
    StableHlo.TRef.unary (.of main_call0_v12 : StableHlo.TRef sig ⟨S1, .f32⟩) (.of main_call0_v13 : StableHlo.TRef sig ⟨S2047, .f32⟩) (broadcastInDim S2047 ![0] bcast_S1_S2047_0),
    StableHlo.TRef.binary (.of main_call0_v13 : StableHlo.TRef sig ⟨S2047, .f32⟩) (.of main_call0_v6 : StableHlo.TRef sig ⟨S2047, .f32⟩) (.of main_call0_v14 : StableHlo.TRef sig ⟨S2047, .f32⟩) mulf,
    StableHlo.TRef.binary (.of main_call0_v11 : StableHlo.TRef sig ⟨S2047, .f32⟩) (.of main_call0_v14 : StableHlo.TRef sig ⟨S2047, .f32⟩) (.of main_call0_v15 : StableHlo.TRef sig ⟨S2047, .f32⟩) addf,
    StableHlo.TRef.unary (.of main_call0_v1 : StableHlo.TRef sig ⟨S_, .f32⟩) (.of main_call0_v16 : StableHlo.TRef sig ⟨S1, .f32⟩) (broadcastInDim S1 ![] bcast_S_S1),
    StableHlo.TRef.binary (.of main_call0_v15 : StableHlo.TRef sig ⟨S2047, .f32⟩) (.of main_call0_v16 : StableHlo.TRef sig ⟨S1, .f32⟩) (.of main_v0 : StableHlo.TRef sig ⟨S2048, .f32⟩) joinT ] := rfl
theorem ops3 {F : FTy → Type} [FloatOps F] : (hostOps0_3 : List (HloOp τ sig (Elt F))) =
  [ StableHlo.TRef.unary (.of main_cst_1 : StableHlo.TRef sig ⟨S_, .f32⟩) (.of main_call1_v0 : StableHlo.TRef sig ⟨S_, .f32⟩) id,
    StableHlo.TRef.unary (.of main_c : StableHlo.TRef sig ⟨S_, .i32⟩) (.of main_call1_v1 : StableHlo.TRef sig ⟨S_, .f32⟩) (sitofp .f32),
    StableHlo.TRef.binary (.of main_call1_v1 : StableHlo.TRef sig ⟨S_, .f32⟩) (.of main_call1_v0 : StableHlo.TRef sig ⟨S_, .f32⟩) (.of main_call1_v2 : StableHlo.TRef sig ⟨S_, .f32⟩) subf,
    StableHlo.TRef.nullary (.of main_call1_cst : StableHlo.TRef sig ⟨S_, .f32⟩) (constant S_ .f32 0x41700000#32),
    StableHlo.TRef.binary (.of main_call1_v2 : StableHlo.TRef sig ⟨S_, .f32⟩) (.of main_call1_cst : StableHlo.TRef sig ⟨S_, .f32⟩) (.of main_call1_v3 : StableHlo.TRef sig ⟨S_, .f32⟩) Host.divf,
    StableHlo.TRef.nullary (.of main_call1_v4 : StableHlo.TRef sig ⟨S15, .f32⟩) (sitofp .f32 (iotaInDim S15 32 0)),
    StableHlo.TRef.nullary (.of main_call1_cst_0 : StableHlo.TRef sig ⟨S_, .f32⟩) (constant S_ .f32 0x41700000#32),
    StableHlo.TRef.unary (.of main_call1_cst_0 : StableHlo.TRef sig ⟨S_, .f32⟩) (.of main_call1_v5 : StableHlo.TRef sig ⟨S15, .f32⟩) (broadcastInDim S15 ![] bcast_S_S15),
    StableHlo.TRef.binary (.of main_call1_v4 : StableHlo.TRef sig ⟨S15, .f32⟩) (.of main_call1_v5 : StableHlo.TRef sig ⟨S15, .f32⟩) (.of main_call1_v6 : StableHlo.TRef sig ⟨S15, .f32⟩) Host.divf,
    StableHlo.TRef.reshape (.of main_call1_v0 : StableHlo.TRef sig ⟨S_, .f32⟩) (.of main_call1_v7 : StableHlo.TRef sig ⟨S1, .f32⟩) (rfl : (.f32 : EltTy) = .f32) shapeCasts_S_S1,
    StableHlo.TRef.nullary (.of main_call1_cst_1 : StableHlo.TRef sig ⟨S_, .f32⟩) (constant S_ .f32 0x3F800000#32),
    StableHlo.TRef.unary (.of main_call1_cst_1 : StableHlo.TRef sig ⟨S_, .f32⟩) (.of main_call1_v8 : StableHlo.TRef sig ⟨S15, .f32⟩) (broadcastInDim S15 ![] bcast_S_S15),
    StableHlo.TRef.binary (.of main_call1_v8 : StableHlo.TRef sig ⟨S15, .f32⟩) (.of main_call1_v6 : StableHlo.TRef sig ⟨S15, .f32⟩) (.of main_call1_v9 : StableHlo.TRef sig ⟨S15, .f32⟩) subf,
    StableHlo.TRef.unary (.of main_call1_v7 : StableHlo.TRef sig ⟨S1, .f32⟩) (.of main_call1_v10 : StableHlo.TRef sig ⟨S15, .f32⟩) (broadcastInDim S15 ![0] bcast_S1_S15_0),
    StableHlo.TRef.binary (.of main_call1_v10 : StableHlo.TRef sig ⟨S15, .f32⟩) (.of main_call1_v9 : StableHlo.TRef sig ⟨S15, .f32⟩) (.of main_call1_v11 : StableHlo.TRef sig ⟨S15, .f32⟩) mulf,
    StableHlo.TRef.reshape (.of main_call1_v1 : StableHlo.TRef sig ⟨S_, .f32⟩) (.of main_call1_v12 : StableHlo.TRef sig ⟨S1, .f32⟩) (rfl : (.f32 : EltTy) = .f32) shapeCasts_S_S1,
    StableHlo.TRef.unary (.of main_call1_v12 : StableHlo.TRef sig ⟨S1, .f32⟩) (.of main_call1_v13 : StableHlo.TRef sig ⟨S15, .f32⟩) (broadcastInDim S15 ![0] bcast_S1_S15_0),
    StableHlo.TRef.binary (.of main_call1_v13 : StableHlo.TRef sig ⟨S15, .f32⟩) (.of main_call1_v6 : StableHlo.TRef sig ⟨S15, .f32⟩) (.of main_call1_v14 : StableHlo.TRef sig ⟨S15, .f32⟩) mulf,
    StableHlo.TRef.binary (.of main_call1_v11 : StableHlo.TRef sig ⟨S15, .f32⟩) (.of main_call1_v14 : StableHlo.TRef sig ⟨S15, .f32⟩) (.of main_call1_v15 : StableHlo.TRef sig ⟨S15, .f32⟩) addf,
    StableHlo.TRef.unary (.of main_call1_v1 : StableHlo.TRef sig ⟨S_, .f32⟩) (.of main_call1_v16 : StableHlo.TRef sig ⟨S1, .f32⟩) (broadcastInDim S1 ![] bcast_S_S1),
    StableHlo.TRef.binary (.of main_call1_v15 : StableHlo.TRef sig ⟨S15, .f32⟩) (.of main_call1_v16 : StableHlo.TRef sig ⟨S1, .f32⟩) (.of main_v2 : StableHlo.TRef sig ⟨S16, .f32⟩) joinB ] := rfl
theorem ops4 {F : FTy → Type} [FloatOps F] : (hostOps0_4 : List (HloOp τ sig (Elt F))) =
  [ StableHlo.nullary main_v3 (sitofp .f32 (iotaInDim S2048 32 0)),
    StableHlo.unary main_v3 main_v4 (broadcastInDim S2048x1 ![0] bcast_S2048_S2048x1_0 : (⟨S2048, .f32⟩ : BufTy).Contents (Elt F) → (⟨S2048x1, .f32⟩ : BufTy).Contents (Elt F)),
    StableHlo.nullary main_cst_2 (constant S_ .f32 0x3B490FDB#32),
    StableHlo.unary main_cst_2 main_v5 (broadcastInDim S2048x1 ![] bcast_S_S2048x1 : (⟨S_, .f32⟩ : BufTy).Contents (Elt F) → (⟨S2048x1, .f32⟩ : BufTy).Contents (Elt F)),
    StableHlo.binary main_v5 main_v4 main_v6 (mulf : (⟨S2048x1, .f32⟩ : BufTy).Contents (Elt F) → (⟨S2048x1, .f32⟩ : BufTy).Contents (Elt F) → (⟨S2048x1, .f32⟩ : BufTy).Contents (Elt F)),
    StableHlo.unary main_v2 main_v7 (broadcastInDim S1x16 ![1] bcast_S16_S1x16_1 : (⟨S16, .f32⟩ : BufTy).Contents (Elt F) → (⟨S1x16, .f32⟩ : BufTy).Contents (Elt F)),
    StableHlo.unary main_v6 main_v8 (broadcastInDim S2048x16 ![0, 1] bcast_S2048x1_S2048x16_0_1 : (⟨S2048x1, .f32⟩ : BufTy).Contents (Elt F) → (⟨S2048x16, .f32⟩ : BufTy).Contents (Elt F)),
    StableHlo.unary main_v7 main_v9 (broadcastInDim S2048x16 ![0, 1] bcast_S1x16_S2048x16_0_1 : (⟨S1x16, .f32⟩ : BufTy).Contents (Elt F) → (⟨S2048x16, .f32⟩ : BufTy).Contents (Elt F)),
    StableHlo.binary main_v8 main_v9 main_v10 (mulf : (⟨S2048x16, .f32⟩ : BufTy).Contents (Elt F) → (⟨S2048x16, .f32⟩ : BufTy).Contents (Elt F) → (⟨S2048x16, .f32⟩ : BufTy).Contents (Elt F)),
    StableHlo.unary main_v10 main_v11 (Host.cos : (⟨S2048x16, .f32⟩ : BufTy).Contents (Elt F) → (⟨S2048x16, .f32⟩ : BufTy).Contents (Elt F)),
    StableHlo.unary main_v10 main_v12 (Host.sin : (⟨S2048x16, .f32⟩ : BufTy).Contents (Elt F) → (⟨S2048x16, .f32⟩ : BufTy).Contents (Elt F)),
    StableHlo.unary main_v12 main_v13 (Host.negf : (⟨S2048x16, .f32⟩ : BufTy).Contents (Elt F) → (⟨S2048x16, .f32⟩ : BufTy).Contents (Elt F)),
    StableHlo.nary ![main_v1, main_v11, main_v13] main_v14 (fun u => joinF (u 0) (u 1) (u 2)),
    StableHlo.nullary main_c_3 (constantI S_ 32 0#32) ] := rfl
variable (m : (ℓ : Loc nD τ sig) → Buf (Elt Ideal) ℓ)
/-- The features' array with zero columns. -/
def wide (z : FVec Ideal S2048x33 .f32) : FVec Ideal S2048x128 .f32 := pad S2048x128 ![0, 0] ![0, 95] ![0, 0] z (sitofp .f32 (constantI S_ 32 0#32)) pads_S2048x33_S2048x128_000_0950 h_S_
/-- The first weight with zero rows. -/
def tall (w : FVec Ideal S33x64 .f32) : FVec Ideal S128x64 .f32 := pad S128x64 ![0, 0] ![95, 0] ![0, 0] w (sitofp .f32 (constantI S_ 32 0#32)) pads_S33x64_S128x64_0950_000 h_S_
theorem zero_word : (FloatOps.sitofp FTy.f32 0#32 : Ideal .f32) = (0 : EReal) := by
  change (((0#32 : BitVec 32).toInt : ℝ) : EReal) = 0
  simp
theorem wide_apply (z : FVec Ideal S2048x33 .f32) (r : Fin 2048) (k : Fin 128) : wide z (ix2 r k) = if h : k.val < 33 then z (ix2 r ⟨k.val, h⟩) else (0 : EReal) := by
  pointwise [wide]
  rw [zero_word]
theorem tall_apply (w : FVec Ideal S33x64 .f32) (k : Fin 128) (j : Fin 64) : tall w (ix2 k j) = if h : k.val < 33 then w (ix2 ⟨k.val, h⟩ j) else (0 : EReal) := by
  pointwise [tall]
  rw [zero_word]
theorem feats_eq (c : Dev nD) : (V m c main_v15 : FVec Ideal S2048x128 .f32) = wide Reference8Ideal.Value.feats := by
  unfold V
  simp only [List.flatten_cons, List.flatten_nil, List.append_nil, List.cons_append, List.nil_append, hostOps0, ops1, hostOps0_2, ops3, ops4, hostOps0_5, hostOps0_6, hostOps0_7, hostOps0_8, StableHlo.TRef.binary, StableHlo.TRef.nullary, StableHlo.TRef.reshape, StableHlo.TRef.unary, StableHlo.TRef.toBuf, StableHlo.TRef.ofBuf, cast_eq]
  after_results_simp <;> (try dsimp only [Matrix.cons_val]) <;> (try after_results_simp) <;> rfl
theorem w1_eq (c : Dev nD) : (V m c main_v16 : FVec Ideal S128x64 .f32) = tall (m ((c.tc : Thread nD τ).loc main_arg0)) := by
  unfold V
  simp only [List.flatten_cons, List.flatten_nil, List.append_nil, List.cons_append, List.nil_append, hostOps0, ops1, hostOps0_2, ops3, ops4, hostOps0_5, hostOps0_6, hostOps0_7, hostOps0_8, StableHlo.TRef.binary, StableHlo.TRef.nullary, StableHlo.TRef.reshape, StableHlo.TRef.unary, StableHlo.TRef.toBuf, StableHlo.TRef.ofBuf, cast_eq]
  after_results_simp <;> (try dsimp only [Matrix.cons_val]) <;> (try after_results_simp) <;> rfl
theorem row_eq (c : Dev nD) (j : Fin 64) : (V m c main_v17 : FVec Ideal S1x64 .f32) (ix2 0 j) = (m ((c.tc : Thread nD τ).loc main_arg1) : FVec Ideal S64 .f32) (ix1 j)
    ∧ (V m c main_v18 : FVec Ideal S1x64 .f32) (ix2 0 j) = (m ((c.tc : Thread nD τ).loc main_arg3) : FVec Ideal S64 .f32) (ix1 j)
    ∧ (V m c main_v19 : FVec Ideal S1x64 .f32) (ix2 0 j) = (m ((c.tc : Thread nD τ).loc main_arg5) : FVec Ideal S64 .f32) (ix1 j)
    ∧ (V m c main_v20 : FVec Ideal S1x64 .f32) (ix2 0 j) = (m ((c.tc : Thread nD τ).loc main_arg7) : FVec Ideal S64 .f32) (ix1 j) := by
  have e : ∀ v : FVec Ideal S64 .f32, (broadcastInDim S1x64 ![1] bcast_S64_S1x64_1 v) (ix2 0 j) = v (ix1 j) := fun v => by pointwise
  unfold V
  refine ⟨?_, ?_, ?_, ?_⟩ <;> refine Eq.trans ?_ (e _) <;> refine congrFun ?_ _ <;>
  simp only [List.flatten_cons, List.flatten_nil, List.append_nil, List.cons_append, List.nil_append, hostOps0, ops1, hostOps0_2, ops3, ops4, hostOps0_5, hostOps0_6, hostOps0_7, hostOps0_8, StableHlo.TRef.binary, StableHlo.TRef.nullary, StableHlo.TRef.reshape, StableHlo.TRef.unary, StableHlo.TRef.toBuf, StableHlo.TRef.ofBuf, cast_eq] <;>
  after_results_simp <;> (try dsimp only [Matrix.cons_val]) <;> (try after_results_simp) <;> rfl
theorem decay_eq (c : Dev nD) (n : Fin 2048) : (V m c main_v21 : FVec Ideal S1x2048 .f32) (ix2 0 n) = (m ((c.tc : Thread nD τ).loc main_arg8) : FVec Ideal S2048 .f32) (ix1 n) := by
  have e : ∀ v : FVec Ideal S2048 .f32, (broadcastInDim S1x2048 ![1] bcast_S2048_S1x2048_1 v) (ix2 0 n) = v (ix1 n) := fun v => by pointwise
  unfold V
  refine Eq.trans ?_ (e _)
  refine congrFun ?_ _
  simp only [List.flatten_cons, List.flatten_nil, List.append_nil, List.cons_append, List.nil_append, hostOps0, ops1, hostOps0_2, ops3, ops4, hostOps0_5, hostOps0_6, hostOps0_7, hostOps0_8, StableHlo.TRef.binary, StableHlo.TRef.nullary, StableHlo.TRef.reshape, StableHlo.TRef.unary, StableHlo.TRef.toBuf, StableHlo.TRef.ofBuf, cast_eq]
  after_results_simp <;> (try dsimp only [Matrix.cons_val]) <;> (try after_results_simp) <;> rfl
end Cert.Kernel8Ideal.Value
end
-- ==== Proof.Filt2.lean ====
/- The long filters: what the kernel's blocks hold, and its two result arrays. -/
module
public import proofs.«01_k».proof.Proof.Filt
@[expose] public section
set_option maxRecDepth 16384
noncomputable section
namespace Cert.Filt
/-- A sum over the padded width, where the padding holds nothing, is the sum over the width. -/
theorem inner_wide (x w : Fin 33 → EReal) : Lay.inner (fun k : Fin 128 => if h : k.val < 33 then x ⟨k.val, h⟩ else (0 : EReal)) (fun k : Fin 128 => if h : k.val < 33 then w ⟨k.val, h⟩ else (0 : EReal)) = Lay.inner x w := by
  unfold Lay.inner
  refine (Fin.sum_univ_add (a := 33) (b := 95) _).trans ?_
  simp
end Cert.Filt
namespace Cert.Kernel8Ideal.Value
open Cert.Kernel8Ideal Cert.Kernel8Ideal.Gen
open Idealize.ShloMosaic Idealize.ShloMosaic.TcCoe Idealize.SL.Sem Idealize.ShloMosaic.Tactic
open Idealize.ShloMosaic.Pipeline (Dat)

theorem lt_a (o : Fin 2) (e : Fin 512) : o.val * 1024 + e.val < 2048 := by omega
theorem lt_b (o : Fin 2) (e : Fin 512) : o.val * 1024 + (512 + e.val) < 2048 := by omega
theorem lt_b' (o : Fin 2) (e : Fin 512) : o.val * 1024 + 512 + e.val < 2048 := by omega
/-- The filters of a block of times. -/
def Fk (x0 : Vec Ideal S512x128 .f32) (x1 : Vec Ideal S128x64 .f32) (x2 : Vec Ideal S1x64 .f32) (x3 : Vec Ideal S64x64 .f32) (x4 : Vec Ideal S1x64 .f32) (x5 : Vec Ideal S64x64 .f32) (x6 : Vec Ideal S1x64 .f32) (x7 : Vec Ideal S64x2048 .f32) (x8 : Vec Ideal S1x64 .f32) (x9 : Vec Ideal S1x2048 .f32) (r : Fin 512) (n : Fin 2048) : EReal :=
  Filt.entry (fun k => x0 (ix2 r k)) (fun k j => x1 (ix2 k j)) (fun k j => x3 (ix2 k j)) (fun k j => x5 (ix2 k j)) (fun j => x2 (ix2 0 j)) (fun j => x4 (ix2 0 j)) (fun j => x6 (ix2 0 j)) (fun j => x8 (ix2 0 j)) (fun k => x7 (ix2 k n)) (x0 (ix2 r 0)) (x9 (ix2 0 n))
theorem Fk_eq (x0 : Vec Ideal S512x128 .f32) (x1 : Vec Ideal S128x64 .f32) (x2 : Vec Ideal S1x64 .f32) (x3 : Vec Ideal S64x64 .f32) (x4 : Vec Ideal S1x64 .f32) (x5 : Vec Ideal S64x64 .f32) (x6 : Vec Ideal S1x64 .f32) (x7 : Vec Ideal S64x2048 .f32) (x8 : Vec Ideal S1x64 .f32) (x9 : Vec Ideal S1x2048 .f32) (r : Fin 512) (n : Fin 2048) : k0_pay1 (k0_pay14 x0 x1 x2 x3 x4 x5 x6 x7 x8 x9) (k0_pay15 x0 x1 x2 x3 x4 x5 x6 x7 x8 x9) (k0_pay16 x0 x1 x2 x3 x4 x5 x6 x7 x8 x9) (View.ld x9 r0_5) (ix2 r n) = Fk x0 x1 x2 x3 x4 x5 x6 x7 x8 x9 r n := by
  unfold k0_pay16 k0_pay15 k0_pay14
  rw [k0_pay1_apply, k0_pay12_apply, k0_pay11_apply]
  repeat rw [View.ld_unit_zero (by decide)]
  rfl
theorem Fk_congr (x0 : Vec Ideal S512x128 .f32) (x1 : Vec Ideal S128x64 .f32) (x2 : Vec Ideal S1x64 .f32) (x3 : Vec Ideal S64x64 .f32) (x4 : Vec Ideal S1x64 .f32) (x5 : Vec Ideal S64x64 .f32) (x6 : Vec Ideal S1x64 .f32) (x7 : Vec Ideal S64x2048 .f32) (x8 : Vec Ideal S1x64 .f32) (x9 : Vec Ideal S1x2048 .f32) (r : Fin 512) {a b : Fin 2048} (h : a.val = b.val) : Fk x0 x1 x2 x3 x4 x5 x6 x7 x8 x9 r a = Fk x0 x1 x2 x3 x4 x5 x6 x7 x8 x9 r b := congrArg _ (Fin.ext h)
theorem emb7 (r e : Fin 512) : r0_7.emb (ix3 0 r e) = (ix3 1 r e : S2x512x512.Idx) :=
  funext fun a => Fin.ext (by fin_cases a <;> simp [Rect.unit, Rect.emb])
theorem emb6 (r e : Fin 512) : r0_6.emb (ix3 0 r e) = (ix3 0 r e : S2x512x512.Idx) :=
  funext fun a => Fin.ext (by fin_cases a <;> simp [Rect.unit, Rect.emb])

/-- What window 10's block holds. -/
def sums (x0 : Vec Ideal S512x128 .f32) (x1 : Vec Ideal S128x64 .f32) (x2 : Vec Ideal S1x64 .f32) (x3 : Vec Ideal S64x64 .f32) (x4 : Vec Ideal S1x64 .f32) (x5 : Vec Ideal S64x64 .f32) (x6 : Vec Ideal S1x64 .f32) (x7 : Vec Ideal S64x2048 .f32) (x8 : Vec Ideal S1x64 .f32) (x9 : Vec Ideal S1x2048 .f32) : Vec Ideal S2x512x512 .bf16 := fun y => Fk x0 x1 x2 x3 x4 x5 x6 x7 x8 x9 (y 1) ⟨(y 0).val * 1024 + (y 2).val, lt_a (y 0) (y 2)⟩ + Fk x0 x1 x2 x3 x4 x5 x6 x7 x8 x9 (y 1) ⟨(y 0).val * 1024 + (512 + (y 2).val), lt_b (y 0) (y 2)⟩
theorem sums_eq (x0 : Vec Ideal S512x128 .f32) (x1 : Vec Ideal S128x64 .f32) (x2 : Vec Ideal S1x64 .f32) (x3 : Vec Ideal S64x64 .f32) (x4 : Vec Ideal S1x64 .f32) (x5 : Vec Ideal S64x64 .f32) (x6 : Vec Ideal S1x64 .f32) (x7 : Vec Ideal S64x2048 .f32) (x8 : Vec Ideal S1x64 .f32) (x9 : Vec Ideal S1x2048 .f32) (y : S2x512x512.Idx) : out0_10 x0 x1 x2 x3 x4 x5 x6 x7 x8 x9 y = sums x0 x1 x2 x3 x4 x5 x6 x7 x8 x9 y := by
  unfold out0_10
  refine View.canon_apply_of_pieces (sums x0 x1 x2 x3 x4 x5 x6 x7 x8 x9) _ ?_ y (cover0_10 _ _ y)
  intro pc hpc
  simp only [List.mem_cons, List.not_mem_nil, or_false] at hpc
  rcases hpc with rfl | rfl <;> intro z <;>
    obtain ⟨r, e, rfl⟩ : ∃ (r : Fin 512) (e : Fin 512), z = ix3 0 r e :=
      ⟨z 1, z 2, funext fun i => by fin_cases i; exact Subsingleton.elim (α := Fin 1) _ _; rfl; rfl⟩
  · refine (k0_pay8_apply _ _ _ _ r e).trans ?_
    rw [emb7, Fk_eq, Fk_eq]
    unfold sums
    exact congr (congrArg _ (Fk_congr _ _ _ _ _ _ _ _ _ _ _ (show 1024 + e.val = 1 * 1024 + e.val by omega))) (Fk_congr _ _ _ _ _ _ _ _ _ _ _ (show 1536 + e.val = 1 * 1024 + (512 + e.val) by omega))
  · refine (k0_pay4_apply _ _ _ _ r e).trans ?_
    rw [emb6, Fk_eq, Fk_eq]
    unfold sums
    exact congr (congrArg _ (Fk_congr _ _ _ _ _ _ _ _ _ _ _ (show e.val = 0 * 1024 + e.val by omega))) (Fk_congr _ _ _ _ _ _ _ _ _ _ _ (show 512 + e.val = 0 * 1024 + (512 + e.val) by omega))

/-- What window 11's block holds. -/
def diffs (x0 : Vec Ideal S512x128 .f32) (x1 : Vec Ideal S128x64 .f32) (x2 : Vec Ideal S1x64 .f32) (x3 : Vec Ideal S64x64 .f32) (x4 : Vec Ideal S1x64 .f32) (x5 : Vec Ideal S64x64 .f32) (x6 : Vec Ideal S1x64 .f32) (x7 : Vec Ideal S64x2048 .f32) (x8 : Vec Ideal S1x64 .f32) (x9 : Vec Ideal S1x2048 .f32) : Vec Ideal S2x512x512 .bf16 := fun y => Fk x0 x1 x2 x3 x4 x5 x6 x7 x8 x9 (y 1) ⟨(y 0).val * 1024 + (512 + (y 2).val), lt_b (y 0) (y 2)⟩ - Fk x0 x1 x2 x3 x4 x5 x6 x7 x8 x9 (y 1) ⟨(y 0).val * 1024 + (y 2).val, lt_a (y 0) (y 2)⟩
theorem diffs_eq (x0 : Vec Ideal S512x128 .f32) (x1 : Vec Ideal S128x64 .f32) (x2 : Vec Ideal S1x64 .f32) (x3 : Vec Ideal S64x64 .f32) (x4 : Vec Ideal S1x64 .f32) (x5 : Vec Ideal S64x64 .f32) (x6 : Vec Ideal S1x64 .f32) (x7 : Vec Ideal S64x2048 .f32) (x8 : Vec Ideal S1x64 .f32) (x9 : Vec Ideal S1x2048 .f32) (y : S2x512x512.Idx) : out0_11 x0 x1 x2 x3 x4 x5 x6 x7 x8 x9 y = diffs x0 x1 x2 x3 x4 x5 x6 x7 x8 x9 y := by
  unfold out0_11
  refine View.canon_apply_of_pieces (diffs x0 x1 x2 x3 x4 x5 x6 x7 x8 x9) _ ?_ y (cover0_11 _ _ y)
  intro pc hpc
  simp only [List.mem_cons, List.not_mem_nil, or_false] at hpc
  rcases hpc with rfl | rfl <;> intro z <;>
    obtain ⟨r, e, rfl⟩ : ∃ (r : Fin 512) (e : Fin 512), z = ix3 0 r e :=
      ⟨z 1, z 2, funext fun i => by fin_cases i; exact Subsingleton.elim (α := Fin 1) _ _; rfl; rfl⟩
  · refine (k0_pay9_apply _ _ _ _ r e).trans ?_
    rw [emb7, Fk_eq, Fk_eq]
    unfold diffs
    exact congr (congrArg _ (Fk_congr _ _ _ _ _ _ _ _ _ _ _ (show 1536 + e.val = 1 * 1024 + (512 + e.val) by omega))) (Fk_congr _ _ _ _ _ _ _ _ _ _ _ (show 1024 + e.val = 1 * 1024 + e.val by omega))
  · refine (k0_pay5_apply _ _ _ _ r e).trans ?_
    rw [emb6, Fk_eq, Fk_eq]
    unfold diffs
    exact congr (congrArg _ (Fk_congr _ _ _ _ _ _ _ _ _ _ _ (show 512 + e.val = 0 * 1024 + (512 + e.val) by omega))) (Fk_congr _ _ _ _ _ _ _ _ _ _ _ (show e.val = 0 * 1024 + e.val by omega))

theorem sums_apply (f : FVec Ideal Reference8Ideal.S2048x2048 .f32) (o : Fin 2) (r : Fin 2048) (e : Fin 512) :
    (truncf .bf16 (addf (Reference8Ideal.Value.fwd f) (Reference8Ideal.Value.bwd f)) bitsLt_bf16_f32 : FVec Ideal S2x2048x512 .bf16) (ix3 o r e)
      = (f (ix2 r ⟨o.val * 1024 + e.val, lt_a o e⟩) : EReal) + (f (ix2 r ⟨o.val * 1024 + (512 + e.val), lt_b o e⟩) : EReal) := by
  refine (congr (congrArg HAdd.hAdd (Reference8Ideal.Value.fwd_apply f o r e)) (Reference8Ideal.Value.bwd_apply f o r e) : _ = (f _ : EReal) + (f _ : EReal)).trans ?_
  exact congrArg (fun n : Fin 2048 => (_ : EReal) + (f (ix2 r n) : EReal)) (Fin.ext (Nat.add_assoc _ _ _))
theorem diffs_apply (f : FVec Ideal Reference8Ideal.S2048x2048 .f32) (o : Fin 2) (r : Fin 2048) (e : Fin 512) :
    (truncf .bf16 (subf (Reference8Ideal.Value.bwd f) (Reference8Ideal.Value.fwd f)) bitsLt_bf16_f32 : FVec Ideal S2x2048x512 .bf16) (ix3 o r e)
      = (f (ix2 r ⟨o.val * 1024 + (512 + e.val), lt_b o e⟩) : EReal) - (f (ix2 r ⟨o.val * 1024 + e.val, lt_a o e⟩) : EReal) := by
  refine (congr (congrArg HSub.hSub (Reference8Ideal.Value.bwd_apply f o r e)) (Reference8Ideal.Value.fwd_apply f o r e) : _ = (f _ : EReal) - (f _ : EReal)).trans ?_
  exact congrArg (fun n : Fin 2048 => (f (ix2 r n) : EReal) - (_ : EReal)) (Fin.ext (Nat.add_assoc _ _ _))
variable (m : (ℓ : Loc nD τ sig) → Buf (Elt Ideal) ℓ)
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![0, t.val, 0] ∧ win0_11.index t = ![0, t.val, 0] :=
  (by decide +kernel : ∀ t : Fin grid0.N, _)
theorem lt4 (t : Fin cfg0.N) : t.val < 4 := by have h : cfg0.N = 4 := N_0; omega
/-- The row of a block's row. -/
def row (t : Fin cfg0.N) (r : Fin 512) : Fin 2048 := ⟨t.val * 512 + r.val, by have := lt4 t; omega⟩
theorem b0 (c : Dev nD) (t : Fin cfg0.N) (r : Fin 512) (k : Fin 128) : iblk m c 0 t (ix2 r k) = if h : k.val < 33 then Reference8Ideal.Value.feats (ix2 (row t r) ⟨k.val, h⟩) else (0 : EReal) := by
  refine Eq.trans (b := (V m c main_v15 : FVec Ideal S2048x128 .f32) (ix2 (row t r) k)) ?_ ((congrFun (feats_eq m c) _).trans (wide_apply _ _ _))
  blk_ext [iblk, idx t, row]
theorem b1 (c : Dev nD) (t : Fin cfg0.N) (k : Fin 128) (j : Fin 64) : iblk m c 1 t (ix2 k j) = if h : k.val < 33 then ((m ((c.tc : Thread nD τ).loc main_arg0)) : FVec Ideal S33x64 .f32) (ix2 ⟨k.val, h⟩ j) else (0 : EReal) := by
  refine Eq.trans (b := (V m c main_v16 : FVec Ideal S128x64 .f32) (ix2 k j)) ?_ ((congrFun (w1_eq m c) _).trans (tall_apply _ _ _))
  blk_ext [iblk, idx t]
theorem b2 (c : Dev nD) (t : Fin cfg0.N) (j : Fin 64) : iblk m c 2 t (ix2 0 j) = ((m ((c.tc : Thread nD τ).loc main_arg1)) : FVec Ideal S64 .f32) (ix1 j) := by
  refine Eq.trans (b := (V m c main_v17 : FVec Ideal S1x64 .f32) (ix2 0 j)) ?_ (row_eq m c j).1
  blk_ext [iblk, idx t]
theorem b4 (c : Dev nD) (t : Fin cfg0.N) (j : Fin 64) : iblk m c 4 t (ix2 0 j) = ((m ((c.tc : Thread nD τ).loc main_arg3)) : FVec Ideal S64 .f32) (ix1 j) := by
  refine Eq.trans (b := (V m c main_v18 : FVec Ideal S1x64 .f32) (ix2 0 j)) ?_ (row_eq m c j).2.1
  blk_ext [iblk, idx t]
theorem b6 (c : Dev nD) (t : Fin cfg0.N) (j : Fin 64) : iblk m c 6 t (ix2 0 j) = ((m ((c.tc : Thread nD τ).loc main_arg5)) : FVec Ideal S64 .f32) (ix1 j) := by
  refine Eq.trans (b := (V m c main_v19 : FVec Ideal S1x64 .f32) (ix2 0 j)) ?_ (row_eq m c j).2.2.1
  blk_ext [iblk, idx t]
theorem b8 (c : Dev nD) (t : Fin cfg0.N) (j : Fin 64) : iblk m c 8 t (ix2 0 j) = ((m ((c.tc : Thread nD τ).loc main_arg7)) : FVec Ideal S64 .f32) (ix1 j) := by
  refine Eq.trans (b := (V m c main_v20 : FVec Ideal S1x64 .f32) (ix2 0 j)) ?_ (row_eq m c j).2.2.2
  blk_ext [iblk, idx t]
theorem b9 (c : Dev nD) (t : Fin cfg0.N) (n : Fin 2048) : iblk m c 9 t (ix2 0 n) = ((m ((c.tc : Thread nD τ).loc main_arg8)) : FVec Ideal S2048 .f32) (ix1 n) := by
  refine Eq.trans (b := (V m c main_v21 : FVec Ideal S1x2048 .f32) (ix2 0 n)) ?_ (decay_eq m c n)
  blk_ext [iblk, idx t]
theorem b3 (c : Dev nD) (t : Fin cfg0.N) (k : Fin 64) (j : Fin 64) : iblk m c 3 t (ix2 k j) = ((m ((c.tc : Thread nD τ).loc main_arg2)) : FVec Ideal S64x64 .f32) (ix2 k j) := by
  refine Eq.trans (b := (V m c main_arg2 : FVec Ideal S64x64 .f32) (ix2 k j)) ?_ (congrFun (V_main_arg2 m c) _)
  blk_ext [iblk, idx t]
theorem b5 (c : Dev nD) (t : Fin cfg0.N) (k : Fin 64) (j : Fin 64) : iblk m c 5 t (ix2 k j) = ((m ((c.tc : Thread nD τ).loc main_arg4)) : FVec Ideal S64x64 .f32) (ix2 k j) := by
  refine Eq.trans (b := (V m c main_arg4 : FVec Ideal S64x64 .f32) (ix2 k j)) ?_ (congrFun (V_main_arg4 m c) _)
  blk_ext [iblk, idx t]
theorem b7 (c : Dev nD) (t : Fin cfg0.N) (k : Fin 64) (j : Fin 2048) : iblk m c 7 t (ix2 k j) = ((m ((c.tc : Thread nD τ).loc main_arg6)) : FVec Ideal S64x2048 .f32) (ix2 k j) := by
  refine Eq.trans (b := (V m c main_arg6 : FVec Ideal S64x2048 .f32) (ix2 k j)) ?_ (congrFun (V_main_arg6 m c) _)
  blk_ext [iblk, idx t]
theorem e10 (t : Fin cfg0.N) (o : Fin 2) (r e : Fin 512) : ((cfg0.win 10).blk t).view.emb (ix3 o r e : S2x512x512.Idx) = (ix3 o (row t r) e : S2x2048x512.Idx) := by
  blk_ext [idx t, row]
theorem e11 (t : Fin cfg0.N) (o : Fin 2) (r e : Fin 512) : ((cfg0.win 11).blk t).view.emb (ix3 o r e : S2x512x512.Idx) = (ix3 o (row t r) e : S2x2048x512.Idx) := by
  blk_ext [idx t, row]
theorem Fk_all (c : Dev nD) (t : Fin cfg0.N) (r : Fin 512) (n : Fin 2048) : Fk (iblk m c 0 t) (iblk m c 1 t) (iblk m c 2 t) (iblk m c 3 t) (iblk m c 4 t) (iblk m c 5 t) (iblk m c 6 t) (iblk m c 7 t) (iblk m c 8 t) (iblk m c 9 t) r n = (Reference8Ideal.Value.all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) : FVec Ideal Reference8Ideal.S2048x2048 .f32) (ix2 (row t r) n) := by
  refine Eq.trans ?_ (Reference8Ideal.Value.all_apply _ _ _ _ _ _ _ _ _ (row t r) n).symm
  have h1 : Filt.hidden (fun k => iblk m c 0 t (ix2 r k)) (fun k j => iblk m c 1 t (ix2 k j)) (fun j => iblk m c 2 t (ix2 0 j)) (fun j => iblk m c 8 t (ix2 0 j))
      = Filt.hidden (fun k => Reference8Ideal.Value.feats (ix2 (row t r) k)) (fun k j => ((m ((c.tc : Thread nD τ).loc main_arg0)) : FVec Ideal S33x64 .f32) (ix2 k j)) (fun j => ((m ((c.tc : Thread nD τ).loc main_arg1)) : FVec Ideal S64 .f32) (ix1 j)) (fun j => ((m ((c.tc : Thread nD τ).loc main_arg7)) : FVec Ideal S64 .f32) (ix1 j)) := by
    funext j
    unfold Filt.hidden
    beta_reduce
    rw [b2, b8]
    refine congrArg (fun z : EReal => Ideal.sin (_ * (z + _))) ?_
    refine Eq.trans (congr (congrArg Lay.inner (funext fun k => b0 m c t r k)) (funext fun k => b1 m c t k j)) ?_
    exact Filt.inner_wide (fun k => Reference8Ideal.Value.feats (ix2 (row t r) k)) (fun k => ((m ((c.tc : Thread nD τ).loc main_arg0)) : FVec Ideal S33x64 .f32) (ix2 k j))
  unfold Fk Filt.entry
  rw [h1, b0, b9]
  simp only [b2, b3, b4, b5, b6, b7, b8]
  rfl

theorem sums_final (c : Dev nD) : (dats m 0 c).arrAt 10 cfg0.N = (truncf .bf16 (addf (Reference8Ideal.Value.fwd (Reference8Ideal.Value.all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (Reference8Ideal.Value.bwd (Reference8Ideal.Value.all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))))) bitsLt_bf16_f32 : FVec Ideal S2x2048x512 .bf16) := by
  refine (dats m 0 c).arrAt_eq_of_covers 10 _ (by decide +kernel) fun t _ y => ?_
  blk_simp
  rw [after0_10]
  obtain ⟨o, r, e, rfl⟩ : ∃ (o : Fin 2) (r : Fin 512) (e : Fin 512), y = ix3 o r e :=
    ⟨y 0, y 1, y 2, funext fun i => by fin_cases i <;> rfl⟩
  refine (sums_eq _ _ _ _ _ _ _ _ _ _ (ix3 o r e)).trans ?_
  refine Eq.trans ?_ (congrArg _ (e10 t o r e).symm)
  refine Eq.trans ?_ (sums_apply _ o _ e).symm
  unfold sums
  exact congr (congrArg _ (Fk_all m c t r _)) (Fk_all m c t r _)

theorem diffs_final (c : Dev nD) : (dats m 0 c).arrAt 11 cfg0.N = (truncf .bf16 (subf (Reference8Ideal.Value.bwd (Reference8Ideal.Value.all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (Reference8Ideal.Value.fwd (Reference8Ideal.Value.all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))))) bitsLt_bf16_f32 : FVec Ideal S2x2048x512 .bf16) := by
  refine (dats m 0 c).arrAt_eq_of_covers 11 _ (by decide +kernel) fun t _ y => ?_
  blk_simp
  rw [after0_11]
  obtain ⟨o, r, e, rfl⟩ : ∃ (o : Fin 2) (r : Fin 512) (e : Fin 512), y = ix3 o r e :=
    ⟨y 0, y 1, y 2, funext fun i => by fin_cases i <;> rfl⟩
  refine (diffs_eq _ _ _ _ _ _ _ _ _ _ (ix3 o r e)).trans ?_
  refine Eq.trans ?_ (congrArg _ (e11 t o r e).symm)
  refine Eq.trans ?_ (diffs_apply _ o _ e).symm
  unfold diffs
  exact congr (congrArg _ (Fk_all m c t r _)) (Fk_all m c t r _)

end Cert.Kernel8Ideal.Value
end
-- ==== Proof.Calls3.lean ====
/- The long filters' claims: the kernel and its reference end with the same two arrays. -/
module
public import proofs.«01_k».proof.Defs
public import proofs.«01_k».proof.Proof.Gen.Reference8Ideal.Run
public import proofs.«01_k».proof.Proof.Gen.Kernel8Ideal.Value
public import proofs.«01_k».proof.Proof.Filt2
public import Idealize.ShloMosaic.Lib.Claim
public import Idealize.ShloMosaic.Adequacy
public import Idealize.ShloMosaic.Init
@[expose] public section
set_option maxRecDepth 16384
noncomputable section
namespace Cert.Proof
open Idealize.ShloMosaic Idealize.SL.Sem Idealize.ShloMosaic.Tactic

/-- The filters' reference leaves its arguments unchanged, and it has no semaphore. -/
theorem frame_reference8 : Cert.quiescent_Reference8Ideal (hReference8Ideal := Cert.Reference8Ideal.Gen.facts) := fun m g _ =>
  (θ_run _ _ _).mono (fun r h => ⟨fun c => (h c).2.2, sem_eq_zero_of_no_sems (by decide) r.2⟩) (Cert.Reference8Ideal.Value.run m g)

/-- The filters: the kernel and the reference end with the same two arrays. -/
theorem algebraic8 : Cert.algebraic_Kernel8Ideal_Reference8Ideal (hKernel8Ideal := Cert.Kernel8Ideal.Gen.facts) (hReference8Ideal := Cert.Reference8Ideal.Gen.facts) := by
  pair_intro
  · run_from Cert.Kernel8Ideal.Value.run_blocks m g
  · refine (θ_run _ _ _).mono (fun r h c => ⟨(h c).1.trans ?_, (h c).2.1.trans ?_, (h c).2.2⟩) (Cert.Reference8Ideal.Value.run m' g')
    · obtain ⟨a0, a1, a2, a3, a4, a5, a6, a7, a8⟩ := hagree c
      refine (Cert.Reference8Ideal.Value.sums_eq m' c).trans (Eq.trans ?_ (Cert.Kernel8Ideal.Value.sums_final m c).symm)
      unfold Cert.Reference8Ideal.Value.Fs
      rw [a0, a1, a2, a3, a4, a5, a6, a7, a8]
    · obtain ⟨a0, a1, a2, a3, a4, a5, a6, a7, a8⟩ := hagree c
      refine (Cert.Reference8Ideal.Value.diffs_eq m' c).trans (Eq.trans ?_ (Cert.Kernel8Ideal.Value.diffs_final m c).symm)
      unfold Cert.Reference8Ideal.Value.Fs
      rw [a0, a1, a2, a3, a4, a5, a6, a7, a8]
end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tiles_named
public import proofs.«01_k».proof.Proof.Gen.On_rows_used
public import proofs.«01_k».proof.Proof.Gen.ReferenceIdeal.Run
public import proofs.«01_k».proof.Proof.Gen.Kernel3
public import proofs.«01_k».proof.Proof.Gen.Kernel3.Frame
public import proofs.«01_k».proof.Proof.Gen.Reference3Ideal.Run
public import proofs.«01_k».proof.Proof.Gen.Kernel4
public import proofs.«01_k».proof.Proof.Gen.Kernel4.Frame
public import proofs.«01_k».proof.Proof.Gen.Reference4Ideal.Run
public import proofs.«01_k».proof.Proof.Gen.Kernel5
public import proofs.«01_k».proof.Proof.Gen.Kernel5.Frame
public import proofs.«01_k».proof.Proof.Gen.Reference5Ideal.Run
public import proofs.«01_k».proof.Proof.Gen.Kernel6
public import proofs.«01_k».proof.Proof.Gen.Kernel6.Frame
public import proofs.«01_k».proof.Proof.Gen.Reference6Ideal.Run
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7
public import proofs.«01_k».proof.Proof.Gen.Kernel7.Frame
public import proofs.«01_k».proof.Proof.Gen.Reference7Ideal.Run
public import proofs.«01_k».proof.Proof.Gen.Kernel7Ideal.Value
public import proofs.«01_k».proof.Proof.Gen.Kernel8
public import proofs.«01_k».proof.Proof.Gen.Kernel8.Frame
public import proofs.«01_k».proof.Proof.Gen.Reference8Ideal.Run
public import proofs.«01_k».proof.Proof.Gen.Kernel8Ideal.Value
public import proofs.«01_k».proof.Proof.Gen.On_rows_given
public import proofs.«01_k».proof.Proof.Equal
public import proofs.«01_k».proof.Proof.Pre
public import proofs.«01_k».proof.Proof.MoeEqual
public import proofs.«01_k».proof.Proof.Calls
public import proofs.«01_k».proof.Proof.Calls2
public import proofs.«01_k».proof.Proof.Calls3
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.Tactic

/-- The reference leaves its arguments unchanged, and it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The kernel and the reference end with the same array, where the queries and the keys are finite. -/
theorem algebraic (hp : Cert.Pre_finite_queries_and_keys.Facts) :
    Cert.algebraic_KernelIdeal_ReferenceIdeal_pre_finite_queries_and_keys (hKernelIdeal := Cert.KernelIdeal.Gen.facts)
      (hReferenceIdeal := Cert.ReferenceIdeal.Gen.facts) (hPre_finite_queries_and_keys := hp) := by
  pair_intro
  · run_from Cert.KernelIdeal.Value.run_blocks m g
  · refine (θ_run _ _ _).mono (fun r h c => ⟨(h c).1.trans ?_, (h c).2⟩) (Cert.ReferenceIdeal.Value.run m' g')
    obtain ⟨a0, a1, a2, a3, a4, a5, a6⟩ := hagree c
    exact (Cert.KernelIdeal.Value.equal m c (StableHlo.launchContents m' c) a0 a1 a2 a3 a4 a5 a6
      (Cert.Pre_finite_queries_and_keys.lat_fin (hF := hp) _ _ _ _ _ _ _ (hpre c).1)
      (Cert.Pre_finite_queries_and_keys.ctx_fin (hF := hp) _ _ _ _ _ _ _ (hpre c).2)).symm

/-- The expert reference leaves its arguments unchanged, and it has no semaphore. -/
theorem frame_reference2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Pre_finite_queries_and_keys.facts, Cert.Pre_tiles_named.Gen.facts, Cert.On_rows_used.Gen.facts, Cert.On_rows_given.Gen.facts,
    fun m ρ _ => Cert.Kernel.Gen.frame m ρ, fun m ρ _ => Cert.KernelIdeal.Gen.frame m ρ, fun m ρ _ => Cert.KernelIdeal.Gen.frame m ρ,
    frame_reference, fun m g _ => frame_reference m g trivial, frame_experts, frame_experts_ideal, frame_reference2,
    fun m g _ => frame_reference2 m g trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    trivial, algebraic Cert.Pre_finite_queries_and_keys.facts, trivial, algebraic_experts, trivial, algebraic3, trivial, algebraic4,
    trivial, algebraic5, trivial, algebraic6, trivial, algebraic7, trivial, algebraic8⟩

end Cert.Proof

end
